-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_Global (m : (ℓ : Loc Cert.Global.nD Cert.Global.τ Cert.Global.sig) → Buf (Elt Bits) ℓ) : Prop :=
  True

def Pre_GlobalIdeal (m : (ℓ : Loc Cert.GlobalIdeal.nD Cert.GlobalIdeal.τ Cert.GlobalIdeal.sig) → Buf (Elt Ideal) ℓ) : Prop :=
  True

def Pre_GlobalReferenceIdeal (m : (ℓ : Loc Cert.GlobalReferenceIdeal.nD Cert.GlobalReferenceIdeal.τ Cert.GlobalReferenceIdeal.sig) → Buf (Elt Ideal) ℓ) : Prop :=
  True

def Pre_Local (m : (ℓ : Loc Cert.Local.nD Cert.Local.τ Cert.Local.sig) → Buf (Elt Bits) ℓ) : Prop :=
  True

def Pre_LocalIdeal (m : (ℓ : Loc Cert.LocalIdeal.nD Cert.LocalIdeal.τ Cert.LocalIdeal.sig) → Buf (Elt Ideal) ℓ) : Prop :=
  True

def Pre_LocalReferenceIdeal (m : (ℓ : Loc Cert.LocalReferenceIdeal.nD Cert.LocalReferenceIdeal.τ Cert.LocalReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_Global [hGlobal : Cert.Global.Facts] : Prop :=
  ∀ (m : (ℓ : Loc Cert.Global.nD Cert.Global.τ Cert.Global.sig) → Buf (Elt Bits) ℓ) (g : Dev Cert.Global.nD → PrngReg), Pre_Global m →
    θ_run (Cert.Global.defs (F := Bits)) (onTc (τ := Cert.Global.τ) (Cert.Global.main (F := Bits))) ⟨m, fun _ => 0, g⟩ (fun r => (∀ c : Dev Cert.Global.nD,
      r.2.mem ((c.tc : Thread Cert.Global.nD Cert.Global.τ).loc Cert.Global.main_arg0) = m ((c.tc : Thread Cert.Global.nD Cert.Global.τ).loc Cert.Global.main_arg0)
      ∧ r.2.mem ((c.tc : Thread Cert.Global.nD Cert.Global.τ).loc Cert.Global.main_arg1) = m ((c.tc : Thread Cert.Global.nD Cert.Global.τ).loc Cert.Global.main_arg1)
      ∧ r.2.mem ((c.tc : Thread Cert.Global.nD Cert.Global.τ).loc Cert.Global.main_arg2) = m ((c.tc : Thread Cert.Global.nD Cert.Global.τ).loc Cert.Global.main_arg2))
      ∧ r.2.sem = fun _ => 0)

def quiescent_GlobalIdeal [hGlobalIdeal : Cert.GlobalIdeal.Facts] : Prop :=
  ∀ (m : (ℓ : Loc Cert.GlobalIdeal.nD Cert.GlobalIdeal.τ Cert.GlobalIdeal.sig) → Buf (Elt Ideal) ℓ) (g : Dev Cert.GlobalIdeal.nD → PrngReg), Pre_GlobalIdeal m →
    θ_run (Cert.GlobalIdeal.defs (F := Ideal)) (onTc (τ := Cert.GlobalIdeal.τ) (Cert.GlobalIdeal.main (F := Ideal))) ⟨m, fun _ => 0, g⟩ (fun r => (∀ c : Dev Cert.GlobalIdeal.nD,
      r.2.mem ((c.tc : Thread Cert.GlobalIdeal.nD Cert.GlobalIdeal.τ).loc Cert.GlobalIdeal.main_arg0) = m ((c.tc : Thread Cert.GlobalIdeal.nD Cert.GlobalIdeal.τ).loc Cert.GlobalIdeal.main_arg0)
      ∧ r.2.mem ((c.tc : Thread Cert.GlobalIdeal.nD Cert.GlobalIdeal.τ).loc Cert.GlobalIdeal.main_arg1) = m ((c.tc : Thread Cert.GlobalIdeal.nD Cert.GlobalIdeal.τ).loc Cert.GlobalIdeal.main_arg1)
      ∧ r.2.mem ((c.tc : Thread Cert.GlobalIdeal.nD Cert.GlobalIdeal.τ).loc Cert.GlobalIdeal.main_arg2) = m ((c.tc : Thread Cert.GlobalIdeal.nD Cert.GlobalIdeal.τ).loc Cert.GlobalIdeal.main_arg2))
      ∧ r.2.sem = fun _ => 0)

def quiescent_GlobalReferenceIdeal [hGlobalReferenceIdeal : Cert.GlobalReferenceIdeal.Facts] : Prop :=
  ∀ (m : (ℓ : Loc Cert.GlobalReferenceIdeal.nD Cert.GlobalReferenceIdeal.τ Cert.GlobalReferenceIdeal.sig) → Buf (Elt Ideal) ℓ) (g : Dev Cert.GlobalReferenceIdeal.nD → PrngReg), Pre_GlobalReferenceIdeal m →
    θ_run (Cert.GlobalReferenceIdeal.defs (F := Ideal)) (onTc (τ := Cert.GlobalReferenceIdeal.τ) (Cert.GlobalReferenceIdeal.main (F := Ideal))) ⟨m, fun _ => 0, g⟩ (fun r => (∀ c : Dev Cert.GlobalReferenceIdeal.nD,
      r.2.mem ((c.tc : Thread Cert.GlobalReferenceIdeal.nD Cert.GlobalReferenceIdeal.τ).loc Cert.GlobalReferenceIdeal.main_arg0) = m ((c.tc : Thread Cert.GlobalReferenceIdeal.nD Cert.GlobalReferenceIdeal.τ).loc Cert.GlobalReferenceIdeal.main_arg0)
      ∧ r.2.mem ((c.tc : Thread Cert.GlobalReferenceIdeal.nD Cert.GlobalReferenceIdeal.τ).loc Cert.GlobalReferenceIdeal.main_arg1) = m ((c.tc : Thread Cert.GlobalReferenceIdeal.nD Cert.GlobalReferenceIdeal.τ).loc Cert.GlobalReferenceIdeal.main_arg1)
      ∧ r.2.mem ((c.tc : Thread Cert.GlobalReferenceIdeal.nD Cert.GlobalReferenceIdeal.τ).loc Cert.GlobalReferenceIdeal.main_arg2) = m ((c.tc : Thread Cert.GlobalReferenceIdeal.nD Cert.GlobalReferenceIdeal.τ).loc Cert.GlobalReferenceIdeal.main_arg2))
      ∧ r.2.sem = fun _ => 0)

def quiescent_Local [hLocal : Cert.Local.Facts] : Prop :=
  ∀ (m : (ℓ : Loc Cert.Local.nD Cert.Local.τ Cert.Local.sig) → Buf (Elt Bits) ℓ) (g : Dev Cert.Local.nD → PrngReg), Pre_Local m →
    θ_run (Cert.Local.defs (F := Bits)) (onTc (τ := Cert.Local.τ) (Cert.Local.main (F := Bits))) ⟨m, fun _ => 0, g⟩ (fun r => (∀ c : Dev Cert.Local.nD,
      r.2.mem ((c.tc : Thread Cert.Local.nD Cert.Local.τ).loc Cert.Local.main_arg0) = m ((c.tc : Thread Cert.Local.nD Cert.Local.τ).loc Cert.Local.main_arg0)
      ∧ r.2.mem ((c.tc : Thread Cert.Local.nD Cert.Local.τ).loc Cert.Local.main_arg1) = m ((c.tc : Thread Cert.Local.nD Cert.Local.τ).loc Cert.Local.main_arg1)
      ∧ r.2.mem ((c.tc : Thread Cert.Local.nD Cert.Local.τ).loc Cert.Local.main_arg2) = m ((c.tc : Thread Cert.Local.nD Cert.Local.τ).loc Cert.Local.main_arg2))
      ∧ r.2.sem = fun _ => 0)

def quiescent_LocalIdeal [hLocalIdeal : Cert.LocalIdeal.Facts] : Prop :=
  ∀ (m : (ℓ : Loc Cert.LocalIdeal.nD Cert.LocalIdeal.τ Cert.LocalIdeal.sig) → Buf (Elt Ideal) ℓ) (g : Dev Cert.LocalIdeal.nD → PrngReg), Pre_LocalIdeal m →
    θ_run (Cert.LocalIdeal.defs (F := Ideal)) (onTc (τ := Cert.LocalIdeal.τ) (Cert.LocalIdeal.main (F := Ideal))) ⟨m, fun _ => 0, g⟩ (fun r => (∀ c : Dev Cert.LocalIdeal.nD,
      r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
      ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
      ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2))
      ∧ r.2.sem = fun _ => 0)

def quiescent_LocalReferenceIdeal [hLocalReferenceIdeal : Cert.LocalReferenceIdeal.Facts] : Prop :=
  ∀ (m : (ℓ : Loc Cert.LocalReferenceIdeal.nD Cert.LocalReferenceIdeal.τ Cert.LocalReferenceIdeal.sig) → Buf (Elt Ideal) ℓ) (g : Dev Cert.LocalReferenceIdeal.nD → PrngReg), Pre_LocalReferenceIdeal m →
    θ_run (Cert.LocalReferenceIdeal.defs (F := Ideal)) (onTc (τ := Cert.LocalReferenceIdeal.τ) (Cert.LocalReferenceIdeal.main (F := Ideal))) ⟨m, fun _ => 0, g⟩ (fun r => (∀ c : Dev Cert.LocalReferenceIdeal.nD,
      r.2.mem ((c.tc : Thread Cert.LocalReferenceIdeal.nD Cert.LocalReferenceIdeal.τ).loc Cert.LocalReferenceIdeal.main_arg0) = m ((c.tc : Thread Cert.LocalReferenceIdeal.nD Cert.LocalReferenceIdeal.τ).loc Cert.LocalReferenceIdeal.main_arg0)
      ∧ r.2.mem ((c.tc : Thread Cert.LocalReferenceIdeal.nD Cert.LocalReferenceIdeal.τ).loc Cert.LocalReferenceIdeal.main_arg1) = m ((c.tc : Thread Cert.LocalReferenceIdeal.nD Cert.LocalReferenceIdeal.τ).loc Cert.LocalReferenceIdeal.main_arg1)
      ∧ r.2.mem ((c.tc : Thread Cert.LocalReferenceIdeal.nD Cert.LocalReferenceIdeal.τ).loc Cert.LocalReferenceIdeal.main_arg2) = m ((c.tc : Thread Cert.LocalReferenceIdeal.nD Cert.LocalReferenceIdeal.τ).loc Cert.LocalReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![128, 1024]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 8]⟩ ⟨2, ![8192, 8]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![32, 8]⟩ ⟨2, ![128, 8]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v3) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_Global_GlobalIdeal : Prop :=
  True

def algebraic_GlobalIdeal_GlobalReferenceIdeal [hGlobalIdeal : Cert.GlobalIdeal.Facts] [hGlobalReferenceIdeal : Cert.GlobalReferenceIdeal.Facts] : Prop :=
  ∀ (m : (ℓ : Loc Cert.GlobalIdeal.nD Cert.GlobalIdeal.τ Cert.GlobalIdeal.sig) → Buf (Elt Ideal) ℓ) (g : Dev Cert.GlobalIdeal.nD → PrngReg)
    (m' : (ℓ : Loc Cert.GlobalReferenceIdeal.nD Cert.GlobalReferenceIdeal.τ Cert.GlobalReferenceIdeal.sig) → Buf (Elt Ideal) ℓ) (g' : Dev Cert.GlobalReferenceIdeal.nD → PrngReg), Pre_GlobalIdeal m →
    (∀ c : Dev Cert.GlobalIdeal.nD,
      m' ((c.tc : Thread Cert.GlobalReferenceIdeal.nD Cert.GlobalReferenceIdeal.τ).loc Cert.GlobalReferenceIdeal.main_arg0) = m ((c.tc : Thread Cert.GlobalIdeal.nD Cert.GlobalIdeal.τ).loc Cert.GlobalIdeal.main_arg0)
      ∧ m' ((c.tc : Thread Cert.GlobalReferenceIdeal.nD Cert.GlobalReferenceIdeal.τ).loc Cert.GlobalReferenceIdeal.main_arg1) = m ((c.tc : Thread Cert.GlobalIdeal.nD Cert.GlobalIdeal.τ).loc Cert.GlobalIdeal.main_arg1)
      ∧ m' ((c.tc : Thread Cert.GlobalReferenceIdeal.nD Cert.GlobalReferenceIdeal.τ).loc Cert.GlobalReferenceIdeal.main_arg2) = m ((c.tc : Thread Cert.GlobalIdeal.nD Cert.GlobalIdeal.τ).loc Cert.GlobalIdeal.main_arg2)) →
    ∃ (v0 : (c : Dev Cert.GlobalIdeal.nD) → Buf (Elt Ideal) ((c.tc : Thread Cert.GlobalIdeal.nD Cert.GlobalIdeal.τ).loc Cert.GlobalIdeal.main_v0_0)) (v1 : (c : Dev Cert.GlobalIdeal.nD) → Buf (Elt Ideal) ((c.tc : Thread Cert.GlobalIdeal.nD Cert.GlobalIdeal.τ).loc Cert.GlobalIdeal.main_v0_1)),
      θ_run (Cert.GlobalIdeal.defs (F := Ideal)) (onTc (τ := Cert.GlobalIdeal.τ) (Cert.GlobalIdeal.main (F := Ideal))) ⟨m, fun _ => 0, g⟩ (fun r => ∀ c : Dev Cert.GlobalIdeal.nD,
          r.2.mem ((c.tc : Thread Cert.GlobalIdeal.nD Cert.GlobalIdeal.τ).loc Cert.GlobalIdeal.main_v0_0) = v0 c
          ∧ r.2.mem ((c.tc : Thread Cert.GlobalIdeal.nD Cert.GlobalIdeal.τ).loc Cert.GlobalIdeal.main_v0_1) = v1 c
          ∧ r.2.mem ((c.tc : Thread Cert.GlobalIdeal.nD Cert.GlobalIdeal.τ).loc Cert.GlobalIdeal.main_arg0) = m ((c.tc : Thread Cert.GlobalIdeal.nD Cert.GlobalIdeal.τ).loc Cert.GlobalIdeal.main_arg0)
          ∧ r.2.mem ((c.tc : Thread Cert.GlobalIdeal.nD Cert.GlobalIdeal.τ).loc Cert.GlobalIdeal.main_arg1) = m ((c.tc : Thread Cert.GlobalIdeal.nD Cert.GlobalIdeal.τ).loc Cert.GlobalIdeal.main_arg1)
          ∧ r.2.mem ((c.tc : Thread Cert.GlobalIdeal.nD Cert.GlobalIdeal.τ).loc Cert.GlobalIdeal.main_arg2) = m ((c.tc : Thread Cert.GlobalIdeal.nD Cert.GlobalIdeal.τ).loc Cert.GlobalIdeal.main_arg2))
      ∧ θ_run (Cert.GlobalReferenceIdeal.defs (F := Ideal)) (onTc (τ := Cert.GlobalReferenceIdeal.τ) (Cert.GlobalReferenceIdeal.main (F := Ideal))) ⟨m', fun _ => 0, g'⟩ (fun r => ∀ c : Dev Cert.GlobalReferenceIdeal.nD,
          r.2.mem ((c.tc : Thread Cert.GlobalReferenceIdeal.nD Cert.GlobalReferenceIdeal.τ).loc Cert.GlobalReferenceIdeal.main_v13) = v0 c
          ∧ r.2.mem ((c.tc : Thread Cert.GlobalReferenceIdeal.nD Cert.GlobalReferenceIdeal.τ).loc Cert.GlobalReferenceIdeal.main_v15) = v1 c
          ∧ r.2.mem ((c.tc : Thread Cert.GlobalReferenceIdeal.nD Cert.GlobalReferenceIdeal.τ).loc Cert.GlobalReferenceIdeal.main_arg0) = m' ((c.tc : Thread Cert.GlobalReferenceIdeal.nD Cert.GlobalReferenceIdeal.τ).loc Cert.GlobalReferenceIdeal.main_arg0)
          ∧ r.2.mem ((c.tc : Thread Cert.GlobalReferenceIdeal.nD Cert.GlobalReferenceIdeal.τ).loc Cert.GlobalReferenceIdeal.main_arg1) = m' ((c.tc : Thread Cert.GlobalReferenceIdeal.nD Cert.GlobalReferenceIdeal.τ).loc Cert.GlobalReferenceIdeal.main_arg1)
          ∧ r.2.mem ((c.tc : Thread Cert.GlobalReferenceIdeal.nD Cert.GlobalReferenceIdeal.τ).loc Cert.GlobalReferenceIdeal.main_arg2) = m' ((c.tc : Thread Cert.GlobalReferenceIdeal.nD Cert.GlobalReferenceIdeal.τ).loc Cert.GlobalReferenceIdeal.main_arg2))

def preserves_Local_LocalIdeal : Prop :=
  True

def algebraic_LocalIdeal_LocalReferenceIdeal [hLocalIdeal : Cert.LocalIdeal.Facts] [hLocalReferenceIdeal : Cert.LocalReferenceIdeal.Facts] : Prop :=
  ∀ (m : (ℓ : Loc Cert.LocalIdeal.nD Cert.LocalIdeal.τ Cert.LocalIdeal.sig) → Buf (Elt Ideal) ℓ) (g : Dev Cert.LocalIdeal.nD → PrngReg)
    (m' : (ℓ : Loc Cert.LocalReferenceIdeal.nD Cert.LocalReferenceIdeal.τ Cert.LocalReferenceIdeal.sig) → Buf (Elt Ideal) ℓ) (g' : Dev Cert.LocalReferenceIdeal.nD → PrngReg), Pre_LocalIdeal m →
    (∀ c : Dev Cert.LocalIdeal.nD,
      m ((c.tc : Thread Cert.LocalIdeal.nD Cert.LocalIdeal.τ).loc Cert.LocalIdeal.main_arg0) = m' (((0 : Dev Cert.LocalReferenceIdeal.nD).tc : Thread Cert.LocalReferenceIdeal.nD Cert.LocalReferenceIdeal.τ).loc Cert.LocalReferenceIdeal.main_arg0)
      ∧ m ((c.tc : Thread Cert.LocalIdeal.nD Cert.LocalIdeal.τ).loc Cert.LocalIdeal.main_arg1) = Layout.block ⟨2, ![2048, 1024]⟩ ⟨2, ![8192, 1024]⟩ 0 4 c (m' (((0 : Dev Cert.LocalReferenceIdeal.nD).tc : Thread Cert.LocalReferenceIdeal.nD Cert.LocalReferenceIdeal.τ).loc Cert.LocalReferenceIdeal.main_arg1))
      ∧ m ((c.tc : Thread Cert.LocalIdeal.nD Cert.LocalIdeal.τ).loc Cert.LocalIdeal.main_arg2) = Layout.block ⟨2, ![2048, 1024]⟩ ⟨2, ![8192, 1024]⟩ 0 4 c (m' (((0 : Dev Cert.LocalReferenceIdeal.nD).tc : Thread Cert.LocalReferenceIdeal.nD Cert.LocalReferenceIdeal.τ).loc Cert.LocalReferenceIdeal.main_arg2))) →
    ∃ (v0 : Buf (Elt Ideal) (((0 : Dev Cert.LocalReferenceIdeal.nD).tc : Thread Cert.LocalReferenceIdeal.nD Cert.LocalReferenceIdeal.τ).loc Cert.LocalReferenceIdeal.main_v30)) (v1 : Buf (Elt Ideal) (((0 : Dev Cert.LocalReferenceIdeal.nD).tc : Thread Cert.LocalReferenceIdeal.nD Cert.LocalReferenceIdeal.τ).loc Cert.LocalReferenceIdeal.main_v33)),
      θ_run (Cert.LocalIdeal.defs (F := Ideal)) (onTc (τ := Cert.LocalIdeal.τ) (Cert.LocalIdeal.main (F := Ideal))) ⟨m, fun _ => 0, g⟩ (fun r => ∀ c : Dev Cert.LocalIdeal.nD,
          r.2.mem ((c.tc : Thread Cert.LocalIdeal.nD Cert.LocalIdeal.τ).loc Cert.LocalIdeal.main_v1_0) = Layout.block ⟨2, ![2048, 1024]⟩ ⟨2, ![8192, 1024]⟩ 0 4 c v0
          ∧ r.2.mem ((c.tc : Thread Cert.LocalIdeal.nD Cert.LocalIdeal.τ).loc Cert.LocalIdeal.main_v1_1) = Layout.block ⟨2, ![2048, 8]⟩ ⟨2, ![8192, 8]⟩ 0 4 c v1
          ∧ r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
          ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
          ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2))
      ∧ θ_run (Cert.LocalReferenceIdeal.defs (F := Ideal)) (onTc (τ := Cert.LocalReferenceIdeal.τ) (Cert.LocalReferenceIdeal.main (F := Ideal))) ⟨m', fun _ => 0, g'⟩ (fun r =>
          r.2.mem (((0 : Dev Cert.LocalReferenceIdeal.nD).tc : Thread Cert.LocalReferenceIdeal.nD Cert.LocalReferenceIdeal.τ).loc Cert.LocalReferenceIdeal.main_v30) = v0
          ∧ r.2.mem (((0 : Dev Cert.LocalReferenceIdeal.nD).tc : Thread Cert.LocalReferenceIdeal.nD Cert.LocalReferenceIdeal.τ).loc Cert.LocalReferenceIdeal.main_v33) = v1
          ∧ r.2.mem (((0 : Dev Cert.LocalReferenceIdeal.nD).tc : Thread Cert.LocalReferenceIdeal.nD Cert.LocalReferenceIdeal.τ).loc Cert.LocalReferenceIdeal.main_arg0) = m' (((0 : Dev Cert.LocalReferenceIdeal.nD).tc : Thread Cert.LocalReferenceIdeal.nD Cert.LocalReferenceIdeal.τ).loc Cert.LocalReferenceIdeal.main_arg0)
          ∧ r.2.mem (((0 : Dev Cert.LocalReferenceIdeal.nD).tc : Thread Cert.LocalReferenceIdeal.nD Cert.LocalReferenceIdeal.τ).loc Cert.LocalReferenceIdeal.main_arg1) = m' (((0 : Dev Cert.LocalReferenceIdeal.nD).tc : Thread Cert.LocalReferenceIdeal.nD Cert.LocalReferenceIdeal.τ).loc Cert.LocalReferenceIdeal.main_arg1)
          ∧ r.2.mem (((0 : Dev Cert.LocalReferenceIdeal.nD).tc : Thread Cert.LocalReferenceIdeal.nD Cert.LocalReferenceIdeal.τ).loc Cert.LocalReferenceIdeal.main_arg2) = m' (((0 : Dev Cert.LocalReferenceIdeal.nD).tc : Thread Cert.LocalReferenceIdeal.nD Cert.LocalReferenceIdeal.τ).loc Cert.LocalReferenceIdeal.main_arg2))

def Claim : Prop :=
  ∃ (hKernel : Cert.Kernel.Facts) (hKernelIdeal : Cert.KernelIdeal.Facts) (hReferenceIdeal : Cert.ReferenceIdeal.Facts) (hQuery : Cert.Query.Facts) (hQueryIdeal : Cert.QueryIdeal.Facts) (hQueryReferenceIdeal : Cert.QueryReferenceIdeal.Facts) (hGlobal : Cert.Global.Facts) (hGlobalIdeal : Cert.GlobalIdeal.Facts) (hGlobalReferenceIdeal : Cert.GlobalReferenceIdeal.Facts) (hLocal : Cert.Local.Facts) (hLocalIdeal : Cert.LocalIdeal.Facts) (hLocalReferenceIdeal : Cert.LocalReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_Global (hGlobal := hGlobal)
    ∧ quiescent_GlobalIdeal (hGlobalIdeal := hGlobalIdeal)
    ∧ quiescent_GlobalReferenceIdeal (hGlobalReferenceIdeal := hGlobalReferenceIdeal)
    ∧ quiescent_Local (hLocal := hLocal)
    ∧ quiescent_LocalIdeal (hLocalIdeal := hLocalIdeal)
    ∧ quiescent_LocalReferenceIdeal (hLocalReferenceIdeal := hLocalReferenceIdeal)
    ∧ preserves_Kernel_KernelIdeal
    ∧ algebraic_KernelIdeal_ReferenceIdeal (hKernelIdeal := hKernelIdeal) (hReferenceIdeal := hReferenceIdeal)
    ∧ preserves_Query_QueryIdeal
    ∧ algebraic_QueryIdeal_QueryReferenceIdeal (hQueryIdeal := hQueryIdeal) (hQueryReferenceIdeal := hQueryReferenceIdeal)
    ∧ preserves_Global_GlobalIdeal
    ∧ algebraic_GlobalIdeal_GlobalReferenceIdeal (hGlobalIdeal := hGlobalIdeal) (hGlobalReferenceIdeal := hGlobalReferenceIdeal)
    ∧ preserves_Local_LocalIdeal
    ∧ algebraic_LocalIdeal_LocalReferenceIdeal (hLocalIdeal := hLocalIdeal) (hLocalReferenceIdeal := hLocalReferenceIdeal)
-- ==== Kernel.lean ====
abbrev S2048x1024 : Shape := ⟨2, ![2048, 1024]⟩
abbrev S32x1024 : Shape := ⟨2, ![32, 1024]⟩
abbrev S2048x8 : Shape := ⟨2, ![2048, 8]⟩
abbrev S32x8 : Shape := ⟨2, ![32, 8]⟩
abbrev S1024x1024 : Shape := ⟨2, ![1024, 1024]⟩
abbrev S3x2048x8 : Shape := ⟨3, ![3, 2048, 8]⟩
abbrev S3x32x1024 : Shape := ⟨3, ![3, 32, 1024]⟩
abbrev S128x1024 : Shape := ⟨2, ![128, 1024]⟩
abbrev S3 : Shape := ⟨1, ![3]⟩
abbrev S_ : Shape := ⟨0, ![]⟩
abbrev S12 : Shape := ⟨1, ![12]⟩
abbrev S6 : Shape := ⟨1, ![6]⟩
abbrev S2016x8 : Shape := ⟨2, ![2016, 8]⟩
abbrev S1 : Shape := ⟨1, ![1]⟩
abbrev S1x2048x8 : Shape := ⟨3, ![1, 2048, 8]⟩
abbrev S1x32x1024 : Shape := ⟨3, ![1, 32, 1024]⟩
abbrev S176x1024 : Shape := ⟨2, ![176, 1024]⟩
abbrev S176x8 : Shape := ⟨2, ![176, 8]⟩
abbrev S176x128 : Shape := ⟨2, ![176, 128]⟩
abbrev S176x1 : Shape := ⟨2, ![176, 1]⟩
abbrev S128x8 : Shape := ⟨2, ![128, 8]⟩
abbrev S128x128 : Shape := ⟨2, ![128, 128]⟩
abbrev S128x1 : Shape := ⟨2, ![128, 1]⟩
abbrev S32x128 : Shape := ⟨2, ![32, 128]⟩
abbrev S32x1 : Shape := ⟨2, ![32, 1]⟩

abbrev nBuf : Space → Nat
  | .hbm => 6
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S32x1024, .bf16⟩
  | .hbm, ⟨2, _⟩ => ⟨S2048x8, .f32⟩
  | .hbm, ⟨3, _⟩ => ⟨S32x8, .f32⟩
  | .hbm, ⟨4, _⟩ => ⟨S1024x1024, .bf16⟩
  | .hbm, ⟨5, _⟩ => ⟨S2048x1024, .f32⟩
  | .local _ .vmem, ⟨0, _⟩ => ⟨S2048x1024, .bf16⟩
  | .local _ .vmem, ⟨1, _⟩ => ⟨S32x1024, .bf16⟩
  | .local _ .vmem, ⟨2, _⟩ => ⟨S2048x8, .f32⟩
  | .local _ .vmem, ⟨3, _⟩ => ⟨S32x8, .f32⟩
  | .local _ .vmem, ⟨4, _⟩ => ⟨S1024x1024, .bf16⟩
  | .local _ .vmem, ⟨5, _⟩ => ⟨S2048x1024, .f32⟩
  | .local _ .vmem, ⟨6, _⟩ => ⟨S2048x8, .f32⟩
  | .local _ .vmem, ⟨7, _⟩ => ⟨S3x2048x8, .f32⟩
  | .local _ .vmem, ⟨8, _⟩ => ⟨S3x32x1024, .bf16⟩
  | .local _ .vmem, ⟨9, _⟩ => ⟨S2048x8, .f32⟩
  | .local _ .vmem, ⟨10, _⟩ => ⟨S128x1024, .bf16⟩
  | .local _ .vmem, ⟨11, _⟩ => ⟨S128x1024, .f32⟩
  | .local _ .vmem, ⟨12, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 2 → Bool
  | ⟨0, _⟩ => false
  | ⟨1, _⟩ => true
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 2 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 1 := Scalar.cmpi .eq v2 c1_i32_28
  let v44 : BitVec 32 := Scalar.extui v43
  let c0_i32_29 : BitVec 32 := 0#32
  let v45 : BitVec 1 := Scalar.cmpi .ne v44 c0_i32_29
  v45

def k0_dev4 : Nat :=
  let c0_i32_208 : BitVec 32 := 0#32
  let c0_i32_206 : BitVec 32 := 0#32
  let c1_i32_207 : BitVec 32 := 1#32
  let v214 : BitVec 32 := Scalar.muli c0_i32_206 c1_i32_207
  let v215 : BitVec 32 := Scalar.addi c0_i32_208 v214
  v215.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_36 : BitVec 32 := 1#32
  let v56 : BitVec 32 := Scalar.addi v2 c1_i32_36
  let c4_i32_37 : BitVec 32 := 4#32
  let c0_i32_38 : BitVec 32 := 0#32
  let v57 : BitVec 1 := Scalar.cmpi .eq c4_i32_37 c0_i32_38
  let c1_i32_39 : BitVec 32 := 1#32
  let v58 : BitVec 32 := Scalar.select v57 c1_i32_39 c4_i32_37
  let v59 : BitVec 32 := Scalar.remsi v56 v58
  let c0_i32_41 : BitVec 32 := 0#32
  let v61 : BitVec 1 := Scalar.cmpi .slt v59 c0_i32_41
  let c0_i32_42 : BitVec 32 := 0#32
  let v62 : BitVec 1 := Scalar.cmpi .slt v58 c0_i32_42
  let v63 : BitVec 1 := Scalar.xori v61 v62
  let c0_i32_40 : BitVec 32 := 0#32
  let v60 : BitVec 1 := Scalar.cmpi .ne v59 c0_i32_40
  let v64 : BitVec 1 := Scalar.andi v63 v60
  let v65 : BitVec 32 := Scalar.addi v59 v58
  let v66 : BitVec 32 := Scalar.select v64 v65 v59
  let c1_i32_53 : BitVec 32 := 1#32
  let v78 : BitVec 32 := Scalar.muli v66 c1_i32_53
  let v79 : BitVec 32 := Scalar.addi c0_i32_54 v78
  v79.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v67 : BitVec 32 := Scalar.addi v2 c1_i32_43
  let c4_i32_44 : BitVec 32 := 4#32
  let c0_i32_45 : BitVec 32 := 0#32
  let v68 : BitVec 1 := Scalar.cmpi .eq c4_i32_44 c0_i32_45
  let c1_i32_46 : BitVec 32 := 1#32
  let v69 : BitVec 32 := Scalar.select v68 c1_i32_46 c4_i32_44
  let v70 : BitVec 32 := Scalar.remsi v67 v69
  let c0_i32_48 : BitVec 32 := 0#32
  let v72 : BitVec 1 := Scalar.cmpi .slt v70 c0_i32_48
  let c0_i32_49 : BitVec 32 := 0#32
  let v73 : BitVec 1 := Scalar.cmpi .slt v69 c0_i32_49
  let v74 : BitVec 1 := Scalar.xori v72 v73
  let c0_i32_47 : BitVec 32 := 0#32
  let v71 : BitVec 1 := Scalar.cmpi .ne v70 c0_i32_47
  let v75 : BitVec 1 := Scalar.andi v74 v71
  let v76 : BitVec 32 := Scalar.addi v70 v69
  let v77 : BitVec 32 := Scalar.select v75 v76 v70
  let c1_i32_60 : BitVec 32 := 1#32
  let v86 : BitVec 32 := Scalar.muli v77 c1_i32_60
  let v87 : BitVec 32 := Scalar.addi c0_i32_61 v86
  v87.toNat
def k0_dev7 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_64 : BitVec 32 := 2#32
  let v94 : BitVec 32 := Scalar.addi v2 c2_i32_64
  let c4_i32_65 : BitVec 32 := 4#32
  let c0_i32_66 : BitVec 32 := 0#32
  let v95 : BitVec 1 := Scalar.cmpi .eq c4_i32_65 c0_i32_66
  let c1_i32_67 : BitVec 32 := 1#32
  let v96 : BitVec 32 := Scalar.select v95 c1_i32_67 c4_i32_65
  let v97 : BitVec 32 := Scalar.remsi v94 v96
  let c0_i32_69 : BitVec 32 := 0#32
  let v99 : BitVec 1 := Scalar.cmpi .slt v97 c0_i32_69
  let c0_i32_70 : BitVec 32 := 0#32
  let v100 : BitVec 1 := Scalar.cmpi .slt v96 c0_i32_70
  let v101 : BitVec 1 := Scalar.xori v99 v100
  let c0_i32_68 : BitVec 32 := 0#32
  let v98 : BitVec 1 := Scalar.cmpi .ne v97 c0_i32_68
  let v102 : BitVec 1 := Scalar.andi v101 v98
  let v103 : BitVec 32 := Scalar.addi v97 v96
  let v104 : BitVec 32 := Scalar.select v102 v103 v97
  let c1_i32_81 : BitVec 32 := 1#32
  let v116 : BitVec 32 := Scalar.muli v104 c1_i32_81
  let v117 : BitVec 32 := Scalar.addi c0_i32_82 v116
  v117.toNat
def k0_dev8 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_71 : BitVec 32 := 2#32
  let v105 : BitVec 32 := Scalar.addi v2 c2_i32_71
  let c4_i32_72 : BitVec 32 := 4#32
  let c0_i32_73 : BitVec 32 := 0#32
  let v106 : BitVec 1 := Scalar.cmpi .eq c4_i32_72 c0_i32_73
  let c1_i32_74 : BitVec 32 := 1#32
  let v107 : BitVec 32 := Scalar.select v106 c1_i32_74 c4_i32_72
  let v108 : BitVec 32 := Scalar.remsi v105 v107
  let c0_i32_76 : BitVec 32 := 0#32
  let v110 : BitVec 1 := Scalar.cmpi .slt v108 c0_i32_76
  let c0_i32_77 : BitVec 32 := 0#32
  let v111 : BitVec 1 := Scalar.cmpi .slt v107 c0_i32_77
  let v112 : BitVec 1 := Scalar.xori v110 v111
  let c0_i32_75 : BitVec 32 := 0#32
  let v109 : BitVec 1 := Scalar.cmpi .ne v108 c0_i32_75
  let v113 : BitVec 1 := Scalar.andi v112 v109
  let v114 : BitVec 32 := Scalar.addi v108 v107
  let v115 : BitVec 32 := Scalar.select v113 v114 v108
  let c1_i32_88 : BitVec 32 := 1#32
  let v124 : BitVec 32 := Scalar.muli v115 c1_i32_88
  let v125 : BitVec 32 := Scalar.addi c0_i32_89 v124
  v125.toNat
def k0_dev9 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_92 : BitVec 32 := 3#32
  let v132 : BitVec 32 := Scalar.addi v2 c3_i32_92
  let c4_i32_93 : BitVec 32 := 4#32
  let c0_i32_94 : BitVec 32 := 0#32
  let v133 : BitVec 1 := Scalar.cmpi .eq c4_i32_93 c0_i32_94
  let c1_i32_95 : BitVec 32 := 1#32
  let v134 : BitVec 32 := Scalar.select v133 c1_i32_95 c4_i32_93
  let v135 : BitVec 32 := Scalar.remsi v132 v134
  let c0_i32_97 : BitVec 32 := 0#32
  let v137 : BitVec 1 := Scalar.cmpi .slt v135 c0_i32_97
  let c0_i32_98 : BitVec 32 := 0#32
  let v138 : BitVec 1 := Scalar.cmpi .slt v134 c0_i32_98
  let v139 : BitVec 1 := Scalar.xori v137 v138
  let c0_i32_96 : BitVec 32 := 0#32
  let v136 : BitVec 1 := Scalar.cmpi .ne v135 c0_i32_96
  let v140 : BitVec 1 := Scalar.andi v139 v136
  let v141 : BitVec 32 := Scalar.addi v135 v134
  let v142 : BitVec 32 := Scalar.select v140 v141 v135
  let c1_i32_109 : BitVec 32 := 1#32
  let v154 : BitVec 32 := Scalar.muli v142 c1_i32_109
  let v155 : BitVec 32 := Scalar.addi c0_i32_110 v154
  v155.toNat
def k0_dev10 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_99 : BitVec 32 := 3#32
  let v143 : BitVec 32 := Scalar.addi v2 c3_i32_99
  let c4_i32_100 : BitVec 32 := 4#32
  let c0_i32_101 : BitVec 32 := 0#32
  let v144 : BitVec 1 := Scalar.cmpi .eq c4_i32_100 c0_i32_101
  let c1_i32_102 : BitVec 32 := 1#32
  let v145 : BitVec 32 := Scalar.select v144 c1_i32_102 c4_i32_100
  let v146 : BitVec 32 := Scalar.remsi v143 v145
  let c0_i32_104 : BitVec 32 := 0#32
  let v148 : BitVec 1 := Scalar.cmpi .slt v146 c0_i32_104
  let c0_i32_105 : BitVec 32 := 0#32
  let v149 : BitVec 1 := Scalar.cmpi .slt v145 c0_i32_105
  let v150 : BitVec 1 := Scalar.xori v148 v149
  let c0_i32_103 : BitVec 32 := 0#32
  let v147 : BitVec 1 := Scalar.cmpi .ne v146 c0_i32_103
  let v151 : BitVec 1 := Scalar.andi v150 v147
  let v152 : BitVec 32 := Scalar.addi v146 v145
  let v153 : BitVec 32 := Scalar.select v151 v152 v146
  let c1_i32_116 : BitVec 32 := 1#32
  let v162 : BitVec 32 := Scalar.muli v153 c1_i32_116
  let v163 : BitVec 32 := Scalar.addi c0_i32_117 v162
  v163.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_122 : BitVec 32 := 0#32
  let v172 : BitVec 1 := Scalar.cmpi .eq v2 c0_i32_122
  let v173 : BitVec 32 := Scalar.extui v172
  let c0_i32_141 : BitVec 32 := 0#32
  let v174 : BitVec 1 := Scalar.cmpi .ne v173 c0_i32_141
  v174

def k0_dev11 : Nat :=
  let c0_i32_225 : BitVec 32 := 0#32
  let c1_i32_223 : BitVec 32 := 1#32
  let c1_i32_224 : BitVec 32 := 1#32
  let v294 : BitVec 32 := Scalar.muli c1_i32_223 c1_i32_224
  let v295 : BitVec 32 := Scalar.addi c0_i32_225 v294
  v295.toNat
def k0_dev12 : Nat :=
  let c0_i32_248 : BitVec 32 := 0#32
  let c3_i32_246 : BitVec 32 := 3#32
  let c1_i32_247 : BitVec 32 := 1#32
  let v382 : BitVec 32 := Scalar.muli c3_i32_246 c1_i32_247
  let v383 : BitVec 32 := Scalar.addi c0_i32_248 v382
  v383.toNat
def k0_dev13 : Nat :=
  let c0_i32_271 : BitVec 32 := 0#32
  let c1_i32_269 : BitVec 32 := 1#32
  let c1_i32_270 : BitVec 32 := 1#32
  let v470 : BitVec 32 := Scalar.muli c1_i32_269 c1_i32_270
  let v471 : BitVec 32 := Scalar.addi c0_i32_271 v470
  v471.toNat
def k0_dev14 : Nat :=
  let c0_i32_294 : BitVec 32 := 0#32
  let c3_i32_292 : BitVec 32 := 3#32
  let c1_i32_293 : BitVec 32 := 1#32
  let v558 : BitVec 32 := Scalar.muli c3_i32_292 c1_i32_293
  let v559 : BitVec 32 := Scalar.addi c0_i32_294 v558
  v559.toNat
def k0_dev15 : Nat :=
  let c0_i32_317 : BitVec 32 := 0#32
  let c1_i32_315 : BitVec 32 := 1#32
  let c1_i32_316 : BitVec 32 := 1#32
  let v646 : BitVec 32 := Scalar.muli c1_i32_315 c1_i32_316
  let v647 : BitVec 32 := Scalar.addi c0_i32_317 v646
  v647.toNat
def k0_dev16 : Nat :=
  let c0_i32_339 : BitVec 32 := 0#32
  let c3_i32_337 : BitVec 32 := 3#32
  let c1_i32_338 : BitVec 32 := 1#32
  let v734 : BitVec 32 := Scalar.muli c3_i32_337 c1_i32_338
  let v735 : BitVec 32 := Scalar.addi c0_i32_339 v734
  v735.toNat
def k0_dev17 : Nat :=
  let c0_i32_361 : BitVec 32 := 0#32
  let c1_i32_359 : BitVec 32 := 1#32
  let c1_i32_360 : BitVec 32 := 1#32
  let v822 : BitVec 32 := Scalar.muli c1_i32_359 c1_i32_360
  let v823 : BitVec 32 := Scalar.addi c0_i32_361 v822
  v823.toNat
def k0_dev18 : Nat :=
  let c0_i32_383 : BitVec 32 := 0#32
  let c3_i32_381 : BitVec 32 := 3#32
  let c1_i32_382 : BitVec 32 := 1#32
  let v910 : BitVec 32 := Scalar.muli c3_i32_381 c1_i32_382
  let v911 : BitVec 32 := Scalar.addi c0_i32_383 v910
  v911.toNat
def k0_dev19 : Nat :=
  let c0_i32_405 : BitVec 32 := 0#32
  let c1_i32_403 : BitVec 32 := 1#32
  let c1_i32_404 : BitVec 32 := 1#32
  let v998 : BitVec 32 := Scalar.muli c1_i32_403 c1_i32_404
  let v999 : BitVec 32 := Scalar.addi c0_i32_405 v998
  v999.toNat
def k0_dev20 : Nat :=
  let c0_i32_427 : BitVec 32 := 0#32
  let c3_i32_425 : BitVec 32 := 3#32
  let c1_i32_426 : BitVec 32 := 1#32
  let v1086 : BitVec 32 := Scalar.muli c3_i32_425 c1_i32_426
  let v1087 : BitVec 32 := Scalar.addi c0_i32_427 v1086
  v1087.toNat
def k0_dev21 : Nat :=
  let c0_i32_449 : BitVec 32 := 0#32
  let c1_i32_447 : BitVec 32 := 1#32
  let c1_i32_448 : BitVec 32 := 1#32
  let v1174 : BitVec 32 := Scalar.muli c1_i32_447 c1_i32_448
  let v1175 : BitVec 32 := Scalar.addi c0_i32_449 v1174
  v1175.toNat
def k0_dev22 : Nat :=
  let c0_i32_516 : BitVec 32 := 0#32
  let c3_i32_514 : BitVec 32 := 3#32
  let c1_i32_515 : BitVec 32 := 1#32
  let v1313 : BitVec 32 := Scalar.muli c3_i32_514 c1_i32_515
  let v1314 : BitVec 32 := Scalar.addi c0_i32_516 v1313
  v1314.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_162 : BitVec 32 := 1#32
  let v178 : BitVec 1 := Scalar.cmpi .eq v2 c1_i32_162
  let v179 : BitVec 32 := Scalar.extui v178
  let c0_i32_163 : BitVec 32 := 0#32
  let v180 : BitVec 1 := Scalar.cmpi .ne v179 c0_i32_163
  v180

def k0_dev23 : Nat :=
  let c0_i32_218 : BitVec 32 := 0#32
  let c2_i32_216 : BitVec 32 := 2#32
  let c1_i32_217 : BitVec 32 := 1#32
  let v220 : BitVec 32 := Scalar.muli c2_i32_216 c1_i32_217
  let v221 : BitVec 32 := Scalar.addi c0_i32_218 v220
  v221.toNat
def k0_dev24 : Nat :=
  let c0_i32_239 : BitVec 32 := 0#32
  let c2_i32_237 : BitVec 32 := 2#32
  let c1_i32_238 : BitVec 32 := 1#32
  let v237 : BitVec 32 := Scalar.muli c2_i32_237 c1_i32_238
  let v238 : BitVec 32 := Scalar.addi c0_i32_239 v237
  v238.toNat
def k0_dev25 : Nat :=
  let c0_i32_259 : BitVec 32 := 0#32
  let c2_i32_257 : BitVec 32 := 2#32
  let c1_i32_258 : BitVec 32 := 1#32
  let v254 : BitVec 32 := Scalar.muli c2_i32_257 c1_i32_258
  let v255 : BitVec 32 := Scalar.addi c0_i32_259 v254
  v255.toNat
def k0_dev26 : Nat :=
  let c0_i32_278 : BitVec 32 := 0#32
  let c2_i32_276 : BitVec 32 := 2#32
  let c1_i32_277 : BitVec 32 := 1#32
  let v271 : BitVec 32 := Scalar.muli c2_i32_276 c1_i32_277
  let v272 : BitVec 32 := Scalar.addi c0_i32_278 v271
  v272.toNat
def k0_dev27 : Nat :=
  let c0_i32_297 : BitVec 32 := 0#32
  let c2_i32_295 : BitVec 32 := 2#32
  let c1_i32_296 : BitVec 32 := 1#32
  let v288 : BitVec 32 := Scalar.muli c2_i32_295 c1_i32_296
  let v289 : BitVec 32 := Scalar.addi c0_i32_297 v288
  v289.toNat
def k0_dev28 : Nat :=
  let c0_i32_315 : BitVec 32 := 0#32
  let c2_i32_313 : BitVec 32 := 2#32
  let c1_i32_314 : BitVec 32 := 1#32
  let v305 : BitVec 32 := Scalar.muli c2_i32_313 c1_i32_314
  let v306 : BitVec 32 := Scalar.addi c0_i32_315 v305
  v306.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_164 : BitVec 32 := 3#32
  let v181 : BitVec 1 := Scalar.cmpi .eq v2 c3_i32_164
  let v182 : BitVec 32 := Scalar.extui v181
  let c0_i32_165 : BitVec 32 := 0#32
  let v183 : BitVec 1 := Scalar.cmpi .ne v182 c0_i32_165
  v183

def k0_dev29 : Nat :=
  let c0_i32_218 : BitVec 32 := 0#32
  let c2_i32_216 : BitVec 32 := 2#32
  let c1_i32_217 : BitVec 32 := 1#32
  let v220 : BitVec 32 := Scalar.muli c2_i32_216 c1_i32_217
  let v221 : BitVec 32 := Scalar.addi c0_i32_218 v220
  v221.toNat
def k0_dev30 : Nat :=
  let c0_i32_238 : BitVec 32 := 0#32
  let c2_i32_236 : BitVec 32 := 2#32
  let c1_i32_237 : BitVec 32 := 1#32
  let v237 : BitVec 32 := Scalar.muli c2_i32_236 c1_i32_237
  let v238 : BitVec 32 := Scalar.addi c0_i32_238 v237
  v238.toNat
def k0_dev31 : Nat :=
  let c0_i32_257 : BitVec 32 := 0#32
  let c2_i32_255 : BitVec 32 := 2#32
  let c1_i32_256 : BitVec 32 := 1#32
  let v254 : BitVec 32 := Scalar.muli c2_i32_255 c1_i32_256
  let v255 : BitVec 32 := Scalar.addi c0_i32_257 v254
  v255.toNat
def k0_dev32 : Nat :=
  let c0_i32_276 : BitVec 32 := 0#32
  let c2_i32_274 : BitVec 32 := 2#32
  let c1_i32_275 : BitVec 32 := 1#32
  let v271 : BitVec 32 := Scalar.muli c2_i32_274 c1_i32_275
  let v272 : BitVec 32 := Scalar.addi c0_i32_276 v271
  v272.toNat
def k0_dev33 : Nat :=
  let c0_i32_295 : BitVec 32 := 0#32
  let c2_i32_293 : BitVec 32 := 2#32
  let c1_i32_294 : BitVec 32 := 1#32
  let v288 : BitVec 32 := Scalar.muli c2_i32_293 c1_i32_294
  let v289 : BitVec 32 := Scalar.addi c0_i32_295 v288
  v289.toNat
def k0_dev34 : Nat :=
  let c0_i32_314 : BitVec 32 := 0#32
  let c2_i32_312 : BitVec 32 := 2#32
  let c1_i32_313 : BitVec 32 := 1#32
  let v305 : BitVec 32 := Scalar.muli c2_i32_312 c1_i32_313
  let v306 : BitVec 32 := Scalar.addi c0_i32_314 v305
  v306.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_166 : BitVec 32 := 2#32
  let v184 : BitVec 1 := Scalar.cmpi .eq v2 c2_i32_166
  let v185 : BitVec 32 := Scalar.extui v184
  let c0_i32_167 : BitVec 32 := 0#32
  let v186 : BitVec 1 := Scalar.cmpi .ne v185 c0_i32_167
  v186

def k0_dev35 : Nat :=
  let c0_i32_218 : BitVec 32 := 0#32
  let c3_i32_216 : BitVec 32 := 3#32
  let c1_i32_217 : BitVec 32 := 1#32
  let v220 : BitVec 32 := Scalar.muli c3_i32_216 c1_i32_217
  let v221 : BitVec 32 := Scalar.addi c0_i32_218 v220
  v221.toNat
def k0_dev36 : Nat :=
  let c0_i32_239 : BitVec 32 := 0#32
  let c1_i32_237 : BitVec 32 := 1#32
  let c1_i32_238 : BitVec 32 := 1#32
  let v237 : BitVec 32 := Scalar.muli c1_i32_237 c1_i32_238
  let v238 : BitVec 32 := Scalar.addi c0_i32_239 v237
  v238.toNat
def k0_dev37 : Nat :=
  let c0_i32_259 : BitVec 32 := 0#32
  let c3_i32_257 : BitVec 32 := 3#32
  let c1_i32_258 : BitVec 32 := 1#32
  let v254 : BitVec 32 := Scalar.muli c3_i32_257 c1_i32_258
  let v255 : BitVec 32 := Scalar.addi c0_i32_259 v254
  v255.toNat
def k0_dev38 : Nat :=
  let c0_i32_279 : BitVec 32 := 0#32
  let c1_i32_277 : BitVec 32 := 1#32
  let c1_i32_278 : BitVec 32 := 1#32
  let v271 : BitVec 32 := Scalar.muli c1_i32_277 c1_i32_278
  let v272 : BitVec 32 := Scalar.addi c0_i32_279 v271
  v272.toNat
def k0_dev39 : Nat :=
  let c0_i32_299 : BitVec 32 := 0#32
  let c3_i32_297 : BitVec 32 := 3#32
  let c1_i32_298 : BitVec 32 := 1#32
  let v288 : BitVec 32 := Scalar.muli c3_i32_297 c1_i32_298
  let v289 : BitVec 32 := Scalar.addi c0_i32_299 v288
  v289.toNat
def k0_dev40 : Nat :=
  let c0_i32_318 : BitVec 32 := 0#32
  let c1_i32_316 : BitVec 32 := 1#32
  let c1_i32_317 : BitVec 32 := 1#32
  let v305 : BitVec 32 := Scalar.muli c1_i32_316 c1_i32_317
  let v306 : BitVec 32 := Scalar.addi c0_i32_318 v305
  v306.toNat
def k0_dev41 : Nat :=
  let c0_i32_337 : BitVec 32 := 0#32
  let c3_i32_335 : BitVec 32 := 3#32
  let c1_i32_336 : BitVec 32 := 1#32
  let v322 : BitVec 32 := Scalar.muli c3_i32_335 c1_i32_336
  let v323 : BitVec 32 := Scalar.addi c0_i32_337 v322
  v323.toNat
def k0_dev42 : Nat :=
  let c0_i32_356 : BitVec 32 := 0#32
  let c1_i32_354 : BitVec 32 := 1#32
  let c1_i32_355 : BitVec 32 := 1#32
  let v339 : BitVec 32 := Scalar.muli c1_i32_354 c1_i32_355
  let v340 : BitVec 32 := Scalar.addi c0_i32_356 v339
  v340.toNat
def k0_dev43 : Nat :=
  let c0_i32_375 : BitVec 32 := 0#32
  let c3_i32_373 : BitVec 32 := 3#32
  let c1_i32_374 : BitVec 32 := 1#32
  let v356 : BitVec 32 := Scalar.muli c3_i32_373 c1_i32_374
  let v357 : BitVec 32 := Scalar.addi c0_i32_375 v356
  v357.toNat
def k0_dev44 : Nat :=
  let c0_i32_394 : BitVec 32 := 0#32
  let c1_i32_392 : BitVec 32 := 1#32
  let c1_i32_393 : BitVec 32 := 1#32
  let v373 : BitVec 32 := Scalar.muli c1_i32_392 c1_i32_393
  let v374 : BitVec 32 := Scalar.addi c0_i32_394 v373
  v374.toNat
def k0_dev45 : Nat :=
  let c0_i32_413 : BitVec 32 := 0#32
  let c3_i32_411 : BitVec 32 := 3#32
  let c1_i32_412 : BitVec 32 := 1#32
  let v390 : BitVec 32 := Scalar.muli c3_i32_411 c1_i32_412
  let v391 : BitVec 32 := Scalar.addi c0_i32_413 v390
  v391.toNat
def k0_dev46 : Nat :=
  let c0_i32_432 : BitVec 32 := 0#32
  let c1_i32_430 : BitVec 32 := 1#32
  let c1_i32_431 : BitVec 32 := 1#32
  let v407 : BitVec 32 := Scalar.muli c1_i32_430 c1_i32_431
  let v408 : BitVec 32 := Scalar.addi c0_i32_432 v407
  v408.toNat
def k0_dev47 (d0 : Dev nD) : Nat :=
  let c0_i32_215_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_206_r0 : BitVec 32 := 1#32
  let v215_r0 : BitVec 32 := Scalar.addi v2 c1_i32_206_r0
  let c4_i32_207_r0 : BitVec 32 := 4#32
  let c0_i32_208_r0 : BitVec 32 := 0#32
  let v216_r0 : BitVec 1 := Scalar.cmpi .eq c4_i32_207_r0 c0_i32_208_r0
  let c1_i32_209_r0 : BitVec 32 := 1#32
  let v217_r0 : BitVec 32 := Scalar.select v216_r0 c1_i32_209_r0 c4_i32_207_r0
  let v218_r0 : BitVec 32 := Scalar.remsi v215_r0 v217_r0
  let c0_i32_211_r0 : BitVec 32 := 0#32
  let v220_r0 : BitVec 1 := Scalar.cmpi .slt v218_r0 c0_i32_211_r0
  let c0_i32_212_r0 : BitVec 32 := 0#32
  let v221_r0 : BitVec 1 := Scalar.cmpi .slt v217_r0 c0_i32_212_r0
  let v222_r0 : BitVec 1 := Scalar.xori v220_r0 v221_r0
  let c0_i32_210_r0 : BitVec 32 := 0#32
  let v219_r0 : BitVec 1 := Scalar.cmpi .ne v218_r0 c0_i32_210_r0
  let v223_r0 : BitVec 1 := Scalar.andi v222_r0 v219_r0
  let v224_r0 : BitVec 32 := Scalar.addi v218_r0 v217_r0
  let v225_r0 : BitVec 32 := Scalar.select v223_r0 v224_r0 v218_r0
  let c1_i32_214_r0 : BitVec 32 := 1#32
  let v226_r0 : BitVec 32 := Scalar.muli v225_r0 c1_i32_214_r0
  let v227_r0 : BitVec 32 := Scalar.addi c0_i32_215_r0 v226_r0
  v227_r0.toNat
def k0_dev48 (d0 : Dev nD) : Nat :=
  let c0_i32_225_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_216_r0 : BitVec 32 := 2#32
  let v228_r0 : BitVec 32 := Scalar.addi v2 c2_i32_216_r0
  let c4_i32_217_r0 : BitVec 32 := 4#32
  let c0_i32_218_r0 : BitVec 32 := 0#32
  let v229_r0 : BitVec 1 := Scalar.cmpi .eq c4_i32_217_r0 c0_i32_218_r0
  let c1_i32_219_r0 : BitVec 32 := 1#32
  let v230_r0 : BitVec 32 := Scalar.select v229_r0 c1_i32_219_r0 c4_i32_217_r0
  let v231_r0 : BitVec 32 := Scalar.remsi v228_r0 v230_r0
  let c0_i32_221_r0 : BitVec 32 := 0#32
  let v233_r0 : BitVec 1 := Scalar.cmpi .slt v231_r0 c0_i32_221_r0
  let c0_i32_222_r0 : BitVec 32 := 0#32
  let v234_r0 : BitVec 1 := Scalar.cmpi .slt v230_r0 c0_i32_222_r0
  let v235_r0 : BitVec 1 := Scalar.xori v233_r0 v234_r0
  let c0_i32_220_r0 : BitVec 32 := 0#32
  let v232_r0 : BitVec 1 := Scalar.cmpi .ne v231_r0 c0_i32_220_r0
  let v236_r0 : BitVec 1 := Scalar.andi v235_r0 v232_r0
  let v237_r0 : BitVec 32 := Scalar.addi v231_r0 v230_r0
  let v238_r0 : BitVec 32 := Scalar.select v236_r0 v237_r0 v231_r0
  let c1_i32_224_r0 : BitVec 32 := 1#32
  let v239_r0 : BitVec 32 := Scalar.muli v238_r0 c1_i32_224_r0
  let v240_r0 : BitVec 32 := Scalar.addi c0_i32_225_r0 v239_r0
  v240_r0.toNat
def k0_dev49 (d0 : Dev nD) : Nat :=
  let c0_i32_235_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_226_r0 : BitVec 32 := 3#32
  let v241_r0 : BitVec 32 := Scalar.addi v2 c3_i32_226_r0
  let c4_i32_227_r0 : BitVec 32 := 4#32
  let c0_i32_228_r0 : BitVec 32 := 0#32
  let v242_r0 : BitVec 1 := Scalar.cmpi .eq c4_i32_227_r0 c0_i32_228_r0
  let c1_i32_229_r0 : BitVec 32 := 1#32
  let v243_r0 : BitVec 32 := Scalar.select v242_r0 c1_i32_229_r0 c4_i32_227_r0
  let v244_r0 : BitVec 32 := Scalar.remsi v241_r0 v243_r0
  let c0_i32_231_r0 : BitVec 32 := 0#32
  let v246_r0 : BitVec 1 := Scalar.cmpi .slt v244_r0 c0_i32_231_r0
  let c0_i32_232_r0 : BitVec 32 := 0#32
  let v247_r0 : BitVec 1 := Scalar.cmpi .slt v243_r0 c0_i32_232_r0
  let v248_r0 : BitVec 1 := Scalar.xori v246_r0 v247_r0
  let c0_i32_230_r0 : BitVec 32 := 0#32
  let v245_r0 : BitVec 1 := Scalar.cmpi .ne v244_r0 c0_i32_230_r0
  let v249_r0 : BitVec 1 := Scalar.andi v248_r0 v245_r0
  let v250_r0 : BitVec 32 := Scalar.addi v244_r0 v243_r0
  let v251_r0 : BitVec 32 := Scalar.select v249_r0 v250_r0 v244_r0
  let c1_i32_234_r0 : BitVec 32 := 1#32
  let v252_r0 : BitVec 32 := Scalar.muli v251_r0 c1_i32_234_r0
  let v253_r0 : BitVec 32 := Scalar.addi c0_i32_235_r0 v252_r0
  v253_r0.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8192x1024 : Shape := ⟨2, ![8192, 1024]⟩
abbrev S128x1024 : Shape := ⟨2, ![128, 1024]⟩
abbrev S8192x8 : Shape := ⟨2, ![8192, 8]⟩
abbrev S128x8 : Shape := ⟨2, ![128, 8]⟩
abbrev S1024x1024 : Shape := ⟨2, ![1024, 1024]⟩
abbrev S4x2048x1024 : Shape := ⟨3, ![4, 2048, 1024]⟩
abbrev S4x32x1024 : Shape := ⟨3, ![4, 32, 1024]⟩
abbrev S4x2048x8 : Shape := ⟨3, ![4, 2048, 8]⟩
abbrev S4x32x8 : Shape := ⟨3, ![4, 32, 8]⟩
abbrev S_ : Shape := ⟨0, ![]⟩
abbrev S32x1024 : Shape := ⟨2, ![32, 1024]⟩
abbrev S1x1888x1024 : Shape := ⟨3, ![1, 1888, 1024]⟩
abbrev S1888x1024 : Shape := ⟨2, ![1888, 1024]⟩
abbrev S1x128x1024 : Shape := ⟨3, ![1, 128, 1024]⟩
abbrev S2048x1024 : Shape := ⟨2, ![2048, 1024]⟩
abbrev S32x8 : Shape := ⟨2, ![32, 8]⟩
abbrev S1x1888x8 : Shape := ⟨3, ![1, 1888, 8]⟩
abbrev S1888x8 : Shape := ⟨2, ![1888, 8]⟩
abbrev S4x128x8 : Shape := ⟨3, ![4, 128, 8]⟩
abbrev S2048x8 : Shape := ⟨2, ![2048, 8]⟩
abbrev S2048x8x128 : Shape := ⟨3, ![2048, 8, 128]⟩
abbrev S2048x8x1 : Shape := ⟨3, ![2048, 8, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x8, .f32⟩
  | .hbm, ⟨3, _⟩ => ⟨S128x8, .f32⟩
  | .hbm, ⟨4, _⟩ => ⟨S1024x1024, .bf16⟩
  | .hbm, ⟨5, _⟩ => ⟨S8192x1024, .f32⟩
  | .hbm, ⟨6, _⟩ => ⟨S4x2048x1024, .f32⟩
  | .hbm, ⟨7, _⟩ => ⟨S128x1024, .f32⟩
  | .hbm, ⟨8, _⟩ => ⟨S4x32x1024, .f32⟩
  | .hbm, ⟨9, _⟩ => ⟨S4x2048x8, .f32⟩
  | .hbm, ⟨10, _⟩ => ⟨S4x32x8, .f32⟩
  | .hbm, ⟨11, _⟩ => ⟨S_, .f32⟩
  | .hbm, ⟨12, _⟩ => ⟨S32x1024, .f32⟩
  | .hbm, ⟨13, _⟩ => ⟨S1x1888x1024, .f32⟩
  | .hbm, ⟨14, _⟩ => ⟨S1888x1024, .f32⟩
  | .hbm, ⟨15, _⟩ => ⟨S1x128x1024, .f32⟩
  | .hbm, ⟨16, _⟩ => ⟨S128x1024, .f32⟩
  | .hbm, ⟨17, _⟩ => ⟨S1x128x1024, .f32⟩
  | .hbm, ⟨18, _⟩ => ⟨S128x1024, .f32⟩
  | .hbm, ⟨19, _⟩ => ⟨S128x1024, .f32⟩
  | .hbm, ⟨20, _⟩ => ⟨S2048x1024, .f32⟩
  | .hbm, ⟨21, _⟩ => ⟨S_, .f32⟩
  | .hbm, ⟨22, _⟩ => ⟨S32x8, .f32⟩
  | .hbm, ⟨23, _⟩ => ⟨S1x1888x8, .f32⟩
  | .hbm, ⟨24, _⟩ => ⟨S1888x8, .f32⟩
  | .hbm, ⟨25, _⟩ => ⟨S4x128x8, .f32⟩
  | .hbm, ⟨26, _⟩ => ⟨S_, .f32⟩
  | .hbm, ⟨27, _⟩ => ⟨S128x8, .f32⟩
  | .hbm, ⟨28, _⟩ => ⟨S2048x8, .f32⟩
  | .hbm, ⟨29, _⟩ => ⟨S2048x8x128, .f32⟩
  | .hbm, ⟨30, _⟩ => ⟨S2048x8x1, .f32⟩
  | .hbm, ⟨31, _⟩ => ⟨S2048x8x128, .f32⟩
  | .hbm, ⟨32, _⟩ => ⟨S2048x8x128, .f32⟩
  | .hbm, ⟨33, _⟩ => ⟨S2048x1024, .f32⟩
  | .hbm, ⟨34, _⟩ => ⟨S1024x1024, .f32⟩
  | .hbm, ⟨35, _⟩ => ⟨S2048x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Query.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== QueryReferenceIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Global.lean ====
abbrev S32x1024 : Shape := ⟨2, ![32, 1024]⟩
abbrev S2048x1024 : Shape := ⟨2, ![2048, 1024]⟩
abbrev S32x8 : Shape := ⟨2, ![32, 8]⟩
abbrev S32x128 : Shape := ⟨2, ![32, 128]⟩
abbrev S2048x128 : Shape := ⟨2, ![2048, 128]⟩
abbrev S32x2048 : Shape := ⟨2, ![32, 2048]⟩
abbrev S32 : Shape := ⟨1, ![32]⟩
abbrev S32x1 : Shape := ⟨2, ![32, 1]⟩

abbrev nBuf : Space → Nat
  | .hbm => 5
  | .vmem => 5
  | .smem => 0
  | _ => 0

abbrev bufTy : (tb : Table) → Fin (tcTables nBuf tb) → BufTy
  | .hbm, ⟨0, _⟩ => ⟨S32x1024, .bf16⟩
  | .hbm, ⟨1, _⟩ => ⟨S2048x1024, .bf16⟩
  | .hbm, ⟨2, _⟩ => ⟨S2048x1024, .bf16⟩
  | .hbm, ⟨3, _⟩ => ⟨S32x1024, .bf16⟩
  | .hbm, ⟨4, _⟩ => ⟨S32x8, .f32⟩
  | .local _ .vmem, ⟨0, _⟩ => ⟨S32x1024, .bf16⟩
  | .local _ .vmem, ⟨1, _⟩ => ⟨S2048x1024, .bf16⟩
  | .local _ .vmem, ⟨2, _⟩ => ⟨S2048x1024, .bf16⟩
  | .local _ .vmem, ⟨3, _⟩ => ⟨S32x1024, .bf16⟩
  | .local _ .vmem, ⟨4, _⟩ => ⟨S32x8, .f32⟩
  | _, _ => ⟨S32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GlobalReferenceIdeal.lean ====
abbrev S32x1024 : Shape := ⟨2, ![32, 1024]⟩
abbrev S2048x1024 : Shape := ⟨2, ![2048, 1024]⟩
abbrev S32x8x128 : Shape := ⟨3, ![32, 8, 128]⟩
abbrev S2048x8x128 : Shape := ⟨3, ![2048, 8, 128]⟩
abbrev S8x32x2048 : Shape := ⟨3, ![8, 32, 2048]⟩
abbrev S_ : Shape := ⟨0, ![]⟩
abbrev S8x128x32 : Shape := ⟨3, ![8, 128, 32]⟩
abbrev S8x32 : Shape := ⟨2, ![8, 32]⟩
abbrev S32x8 : Shape := ⟨2, ![32, 8]⟩

abbrev nBuf : Space → Nat
  | .hbm => 21
  | .vmem => 0
  | .smem => 0
  | _ => 0

abbrev bufTy : (tb : Table) → Fin (tcTables nBuf tb) → BufTy
  | .hbm, ⟨0, _⟩ => ⟨S32x1024, .bf16⟩
  | .hbm, ⟨1, _⟩ => ⟨S2048x1024, .bf16⟩
  | .hbm, ⟨2, _⟩ => ⟨S2048x1024, .bf16⟩
  | .hbm, ⟨3, _⟩ => ⟨S32x1024, .f32⟩
  | .hbm, ⟨4, _⟩ => ⟨S32x8x128, .f32⟩
  | .hbm, ⟨5, _⟩ => ⟨S2048x1024, .f32⟩
  | .hbm, ⟨6, _⟩ => ⟨S2048x8x128, .f32⟩
  | .hbm, ⟨7, _⟩ => ⟨S2048x1024, .f32⟩
  | .hbm, ⟨8, _⟩ => ⟨S2048x8x128, .f32⟩
  | .hbm, ⟨9, _⟩ => ⟨S8x32x2048, .f32⟩
  | .hbm, ⟨10, _⟩ => ⟨S_, .f32⟩
  | .hbm, ⟨11, _⟩ => ⟨S8x32x2048, .f32⟩
  | .hbm, ⟨12, _⟩ => ⟨S8x32x2048, .f32⟩
  | .hbm, ⟨13, _⟩ => ⟨S8x32x2048, .f32⟩
  | .hbm, ⟨14, _⟩ => ⟨S8x128x32, .f32⟩
  | .hbm, ⟨15, _⟩ => ⟨S32x8x128, .f32⟩
  | .hbm, ⟨16, _⟩ => ⟨S32x1024, .f32⟩
  | .hbm, ⟨17, _⟩ => ⟨S32x1024, .bf16⟩
  | .hbm, ⟨18, _⟩ => ⟨S_, .f32⟩
  | .hbm, ⟨19, _⟩ => ⟨S8x32, .f32⟩
  | .hbm, ⟨20, _⟩ => ⟨S32x8, .f32⟩
  | _, _ => ⟨S32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Local.lean ====
abbrev S2048x1024 : Shape := ⟨2, ![2048, 1024]⟩
abbrev S2048x8 : Shape := ⟨2, ![2048, 8]⟩
abbrev S256x1024 : Shape := ⟨2, ![256, 1024]⟩
abbrev S256x8 : Shape := ⟨2, ![256, 8]⟩
abbrev S256x512 : Shape := ⟨2, ![256, 512]⟩
abbrev S256x128 : Shape := ⟨2, ![256, 128]⟩
abbrev S512x128 : Shape := ⟨2, ![512, 128]⟩
abbrev S128x128 : Shape := ⟨2, ![128, 128]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x8, .f32⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x8, .f32⟩
  | .local _ .vmem, ⟨7, _⟩ => ⟨S256x8, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 4
abbrev τ : Topo := Topo.v7x

variable {F : FTy → Type} [FloatOps F]

abbrev grid0 : Pipeline.Grid := ⟨1, ![8], ![false]⟩

def k0_mult1 (i : grid0.Coords) (d0 : Dev nD) : BitVec 32 :=
  let c1536_i32 : BitVec 32 := 1536#32
  let c0_i32 : BitVec 32 := 0#32
  let arg0 : BitVec 32 := BitVec.ofNat 32 (i 0).val
  let c256_i32 : BitVec 32 := 256#32
  let v3 : BitVec 32 := Scalar.muli arg0 c256_i32
  let c128_i32 : BitVec 32 := 128#32
  let v4 : BitVec 32 := Scalar.subi v3 c128_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v5 : BitVec 32 := Scalar.muli v2 c2048_i32
  let v6 : BitVec 32 := Scalar.subi v4 v5
  let v7 : BitVec 32 := Scalar.maxsi c0_i32 v6
  let v8 : BitVec 32 := Scalar.minsi c1536_i32 v7
  v8
def k0_off1 (i : grid0.Coords) (d0 : Dev nD) : Fin 2 → Nat :=
  let c1536_i32 : BitVec 32 := 1536#32
  let c0_i32 : BitVec 32 := 0#32
  let arg0 : BitVec 32 := BitVec.ofNat 32 (i 0).val
  let c256_i32 : BitVec 32 := 256#32
  let v3 : BitVec 32 := Scalar.muli arg0 c256_i32
  let c128_i32 : BitVec 32 := 128#32
  let v4 : BitVec 32 := Scalar.subi v3 c128_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v5 : BitVec 32 := Scalar.muli v2 c2048_i32
  let v6 : BitVec 32 := Scalar.subi v4 v5
  let v7 : BitVec 32 := Scalar.maxsi c0_i32 v6
  let v8 : BitVec 32 := Scalar.minsi c1536_i32 v7
  let v9 : BitVec 32 := v8
  let v34 : Index := Scalar.indexCast v9
  let c0_6 : Index := 0#32
  ![v34.toNat, 0]
def k0_off2 (i : grid0.Coords) (d0 : Dev nD) : Fin 2 → Nat :=
  let c1536_i32 : BitVec 32 := 1536#32
  let c0_i32 : BitVec 32 := 0#32
  let arg0 : BitVec 32 := BitVec.ofNat 32 (i 0).val
  let c256_i32 : BitVec 32 := 256#32
  let v3 : BitVec 32 := Scalar.muli arg0 c256_i32
  let c128_i32 : BitVec 32 := 128#32
  let v4 : BitVec 32 := Scalar.subi v3 c128_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v5 : BitVec 32 := Scalar.muli v2 c2048_i32
  let v6 : BitVec 32 := Scalar.subi v4 v5
  let v7 : BitVec 32 := Scalar.maxsi c0_i32 v6
  let v8 : BitVec 32 := Scalar.minsi c1536_i32 v7
  let v9 : BitVec 32 := v8
  let v70 : Index := Scalar.indexCast v9
  let c128_24 : Index := 128#32
  ![v70.toNat, 128]
def k0_off3 (i : grid0.Coords) (d0 : Dev nD) : Fin 2 → Nat :=
  let c1536_i32 : BitVec 32 := 1536#32
  let c0_i32 : BitVec 32 := 0#32
  let arg0 : BitVec 32 := BitVec.ofNat 32 (i 0).val
  let c256_i32 : BitVec 32 := 256#32
  let v3 : BitVec 32 := Scalar.muli arg0 c256_i32
  let c128_i32 : BitVec 32 := 128#32
  let v4 : BitVec 32 := Scalar.subi v3 c128_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v5 : BitVec 32 := Scalar.muli v2 c2048_i32
  let v6 : BitVec 32 := Scalar.subi v4 v5
  let v7 : BitVec 32 := Scalar.maxsi c0_i32 v6
  let v8 : BitVec 32 := Scalar.minsi c1536_i32 v7
  let v9 : BitVec 32 := v8
  let v106 : Index := Scalar.indexCast v9
  let c256_43 : Index := 256#32
  ![v106.toNat, 256]
def k0_off4 (i : grid0.Coords) (d0 : Dev nD) : Fin 2 → Nat :=
  let c1536_i32 : BitVec 32 := 1536#32
  let c0_i32 : BitVec 32 := 0#32
  let arg0 : BitVec 32 := BitVec.ofNat 32 (i 0).val
  let c256_i32 : BitVec 32 := 256#32
  let v3 : BitVec 32 := Scalar.muli arg0 c256_i32
  let c128_i32 : BitVec 32 := 128#32
  let v4 : BitVec 32 := Scalar.subi v3 c128_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v5 : BitVec 32 := Scalar.muli v2 c2048_i32
  let v6 : BitVec 32 := Scalar.subi v4 v5
  let v7 : BitVec 32 := Scalar.maxsi c0_i32 v6
  let v8 : BitVec 32 := Scalar.minsi c1536_i32 v7
  let v9 : BitVec 32 := v8
  let v142 : Index := Scalar.indexCast v9
  let c384_62 : Index := 384#32
  ![v142.toNat, 384]
def k0_off5 (i : grid0.Coords) (d0 : Dev nD) : Fin 2 → Nat :=
  let c1536_i32 : BitVec 32 := 1536#32
  let c0_i32 : BitVec 32 := 0#32
  let arg0 : BitVec 32 := BitVec.ofNat 32 (i 0).val
  let c256_i32 : BitVec 32 := 256#32
  let v3 : BitVec 32 := Scalar.muli arg0 c256_i32
  let c128_i32 : BitVec 32 := 128#32
  let v4 : BitVec 32 := Scalar.subi v3 c128_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v5 : BitVec 32 := Scalar.muli v2 c2048_i32
  let v6 : BitVec 32 := Scalar.subi v4 v5
  let v7 : BitVec 32 := Scalar.maxsi c0_i32 v6
  let v8 : BitVec 32 := Scalar.minsi c1536_i32 v7
  let v9 : BitVec 32 := v8
  let v178 : Index := Scalar.indexCast v9
  let c512_81 : Index := 512#32
  ![v178.toNat, 512]
def k0_off6 (i : grid0.Coords) (d0 : Dev nD) : Fin 2 → Nat :=
  let c1536_i32 : BitVec 32 := 1536#32
  let c0_i32 : BitVec 32 := 0#32
  let arg0 : BitVec 32 := BitVec.ofNat 32 (i 0).val
  let c256_i32 : BitVec 32 := 256#32
  let v3 : BitVec 32 := Scalar.muli arg0 c256_i32
  let c128_i32 : BitVec 32 := 128#32
  let v4 : BitVec 32 := Scalar.subi v3 c128_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v5 : BitVec 32 := Scalar.muli v2 c2048_i32
  let v6 : BitVec 32 := Scalar.subi v4 v5
  let v7 : BitVec 32 := Scalar.maxsi c0_i32 v6
  let v8 : BitVec 32 := Scalar.minsi c1536_i32 v7
  let v9 : BitVec 32 := v8
  let v214 : Index := Scalar.indexCast v9
  let c640_100 : Index := 640#32
  ![v214.toNat, 640]
def k0_off7 (i : grid0.Coords) (d0 : Dev nD) : Fin 2 → Nat :=
  let c1536_i32 : BitVec 32 := 1536#32
  let c0_i32 : BitVec 32 := 0#32
  let arg0 : BitVec 32 := BitVec.ofNat 32 (i 0).val
  let c256_i32 : BitVec 32 := 256#32
  let v3 : BitVec 32 := Scalar.muli arg0 c256_i32
  let c128_i32 : BitVec 32 := 128#32
  let v4 : BitVec 32 := Scalar.subi v3 c128_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v5 : BitVec 32 := Scalar.muli v2 c2048_i32
  let v6 : BitVec 32 := Scalar.subi v4 v5
  let v7 : BitVec 32 := Scalar.maxsi c0_i32 v6
  let v8 : BitVec 32 := Scalar.minsi c1536_i32 v7
  let v9 : BitVec 32 := v8
  let v250 : Index := Scalar.indexCast v9
  let c768_119 : Index := 768#32
  ![v250.toNat, 768]
def k0_off8 (i : grid0.Coords) (d0 : Dev nD) : Fin 2 → Nat :=
  let c1536_i32 : BitVec 32 := 1536#32
  let c0_i32 : BitVec 32 := 0#32
  let arg0 : BitVec 32 := BitVec.ofNat 32 (i 0).val
  let c256_i32 : BitVec 32 := 256#32
  let v3 : BitVec 32 := Scalar.muli arg0 c256_i32
  let c128_i32 : BitVec 32 := 128#32
  let v4 : BitVec 32 := Scalar.subi v3 c128_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v5 : BitVec 32 := Scalar.muli v2 c2048_i32
  let v6 : BitVec 32 := Scalar.subi v4 v5
  let v7 : BitVec 32 := Scalar.maxsi c0_i32 v6
  let v8 : BitVec 32 := Scalar.minsi c1536_i32 v7
  let v9 : BitVec 32 := v8
  let v286 : Index := Scalar.indexCast v9
  let c896_138 : Index := 896#32
  ![v286.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LocalReferenceIdeal.lean ====
abbrev S2048x1024 : Shape := ⟨2, ![2048, 1024]⟩
abbrev S8192x1024 : Shape := ⟨2, ![8192, 1024]⟩
abbrev S2048x8x128 : Shape := ⟨3, ![2048, 8, 128]⟩
abbrev S4x2048x8x128 : Shape := ⟨4, ![4, 2048, 8, 128]⟩
abbrev S2048 : Shape := ⟨1, ![2048]⟩
abbrev S1x2048x1 : Shape := ⟨3, ![1, 2048, 1]⟩
abbrev S8192 : Shape := ⟨1, ![8192]⟩
abbrev S4x1x2048 : Shape := ⟨3, ![4, 1, 2048]⟩
abbrev S4x2048x2048 : Shape := ⟨3, ![4, 2048, 2048]⟩
abbrev S_ : Shape := ⟨0, ![]⟩
abbrev S8x4x2048x2048 : Shape := ⟨4, ![8, 4, 2048, 2048]⟩
abbrev S4x8x2048x2048 : Shape := ⟨4, ![4, 8, 2048, 2048]⟩
abbrev S4x1x2048x2048 : Shape := ⟨4, ![4, 1, 2048, 2048]⟩
abbrev S4x8x128x2048 : Shape := ⟨4, ![4, 8, 128, 2048]⟩
abbrev S4x8x2048 : Shape := ⟨3, ![4, 8, 2048]⟩
abbrev S4x2048x8 : Shape := ⟨3, ![4, 2048, 8]⟩
abbrev S8192x8 : Shape := ⟨2, ![8192, 8]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8192x1024, .bf16⟩
  | .hbm, ⟨2, _⟩ => ⟨S8192x1024, .bf16⟩
  | .hbm, ⟨3, _⟩ => ⟨S2048x1024, .f32⟩
  | .hbm, ⟨4, _⟩ => ⟨S2048x8x128, .f32⟩
  | .hbm, ⟨5, _⟩ => ⟨S8192x1024, .f32⟩
  | .hbm, ⟨6, _⟩ => ⟨S4x2048x8x128, .f32⟩
  | .hbm, ⟨7, _⟩ => ⟨S8192x1024, .f32⟩
  | .hbm, ⟨8, _⟩ => ⟨S4x2048x8x128, .f32⟩
  | .hbm, ⟨9, _⟩ => ⟨S2048, .i32⟩
  | .hbm, ⟨10, _⟩ => ⟨S1x2048x1, .i32⟩
  | .hbm, ⟨11, _⟩ => ⟨S8192, .i32⟩
  | .hbm, ⟨12, _⟩ => ⟨S4x1x2048, .i32⟩
  | .hbm, ⟨13, _⟩ => ⟨S4x2048x2048, .i32⟩
  | .hbm, ⟨14, _⟩ => ⟨S4x2048x2048, .i32⟩
  | .hbm, ⟨15, _⟩ => ⟨S4x2048x2048, .i32⟩
  | .hbm, ⟨16, _⟩ => ⟨S4x2048x2048, .i32⟩
  | .hbm, ⟨17, _⟩ => ⟨S_, .i32⟩
  | .hbm, ⟨18, _⟩ => ⟨S4x2048x2048, .i32⟩
  | .hbm, ⟨19, _⟩ => ⟨S4x2048x2048, .i1⟩
  | .hbm, ⟨20, _⟩ => ⟨S_, .i32⟩
  | .hbm, ⟨21, _⟩ => ⟨S4x1x2048, .i32⟩
  | .hbm, ⟨22, _⟩ => ⟨S4x1x2048, .i1⟩
  | .hbm, ⟨23, _⟩ => ⟨S4x2048x2048, .i1⟩
  | .hbm, ⟨24, _⟩ => ⟨S4x2048x2048, .i1⟩
  | .hbm, ⟨25, _⟩ => ⟨S8x4x2048x2048, .f32⟩
  | .hbm, ⟨26, _⟩ => ⟨S4x8x2048x2048, .f32⟩
  | .hbm, ⟨27, _⟩ => ⟨S_, .f32⟩
  | .hbm, ⟨28, _⟩ => ⟨S4x8x2048x2048, .f32⟩
  | .hbm, ⟨29, _⟩ => ⟨S4x8x2048x2048, .f32⟩
  | .hbm, ⟨30, _⟩ => ⟨S4x1x2048x2048, .i1⟩
  | .hbm, ⟨31, _⟩ => ⟨S4x8x2048x2048, .f32⟩
  | .hbm, ⟨32, _⟩ => ⟨S_, .f32⟩
  | .hbm, ⟨33, _⟩ => ⟨S_, .f32⟩
  | .hbm, ⟨34, _⟩ => ⟨S4x8x2048x2048, .i1⟩
  | .hbm, ⟨35, _⟩ => ⟨S4x8x2048x2048, .f32⟩
  | .hbm, ⟨36, _⟩ => ⟨S4x8x2048x2048, .f32⟩
  | .hbm, ⟨37, _⟩ => ⟨S4x8x128x2048, .f32⟩
  | .hbm, ⟨38, _⟩ => ⟨S4x2048x8x128, .f32⟩
  | .hbm, ⟨39, _⟩ => ⟨S8192x1024, .f32⟩
  | .hbm, ⟨40, _⟩ => ⟨S8192x1024, .bf16⟩
  | .hbm, ⟨41, _⟩ => ⟨S_, .f32⟩
  | .hbm, ⟨42, _⟩ => ⟨S4x8x2048, .f32⟩
  | .hbm, ⟨43, _⟩ => ⟨S4x2048x8, .f32⟩
  | .hbm, ⟨44, _⟩ => ⟨S8192x8, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Proof.Ideal.Contents.lean ====
/-
The arrays the kernel keeps on each device, cut into the pieces that change hands between devices, and what
each piece holds once it has been written: the running sums, the blocks received from the other devices and
the rows device 0 computes and sends on. Everything is stated for any float instance, from the memory at launch.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Writes

@[expose] public section

noncomputable section

namespace Cert.KernelIdeal.Exchange

open Cert.KernelIdeal Cert.KernelIdeal.Gen
open Idealize.ShloMosaic Idealize.ShloMosaic.TcCoe
open Idealize.SL Idealize.SL.Sem

variable {F : FTy → Type} [FloatOps F]

/-! ## The kernel's arrays -/

abbrev oM : Memref sig .tc .vmem S2048x1024 .bf16 := Memref.whole cc0_stg0_0
abbrev ogM : Memref sig .tc .vmem S32x1024 .bf16 := Memref.whole cc0_stg1_0
abbrev lM : Memref sig .tc .vmem S2048x8 .f32 := Memref.whole cc0_stg2_0
abbrev lgM : Memref sig .tc .vmem S32x8 .f32 := Memref.whole cc0_stg3_0
abbrev woM : Memref sig .tc .vmem S1024x1024 .bf16 := Memref.whole cc0_stg4_0
abbrev outM : Memref sig .tc .vmem S2048x1024 .f32 := Memref.whole cc0_stg5_0
abbrev slM : Memref sig .tc .vmem S2048x8 .f32 := Memref.whole cc0_scratch0
abbrev aaLM : Memref sig .tc .vmem S3x2048x8 .f32 := Memref.whole cc0_scratch1
abbrev aaGM : Memref sig .tc .vmem S3x32x1024 .bf16 := Memref.whole cc0_scratch2
abbrev accM : Memref sig .tc .vmem S2048x8 .f32 := Memref.whole cc0_scratch3
abbrev slivM : Memref sig .tc .vmem S128x1024 .bf16 := Memref.whole cc0_scratch4
abbrev tailM : Memref sig .tc .vmem S128x1024 .f32 := Memref.whole cc0_scratch5
abbrev bcM : Memref sig .tc .vmem S2048x1024 .bf16 := Memref.whole cc0_scratch6

/-! ## Bands of rows -/

/-- First row of band `j`: the twelve broadcast bands, then (12) the head band that every device computes. -/
def lo : Fin 13 → ℕ := ![32, 208, 384, 560, 736, 912, 1088, 1264, 1440, 1616, 1792, 1920, 0]
/-- Number of rows of band `j`. -/
def len : Fin 13 → ℕ := ![176, 176, 176, 176, 176, 176, 176, 176, 176, 176, 128, 128, 32]

theorem band_inb (j : Fin 13) : ∀ a, (![lo j, 0] : Fin 2 → ℕ) a + (![len j, 1024] : Fin 2 → ℕ) a ≤ S2048x1024.size a := by
  revert j; decide

/-- Band `j` of a 2048×1024 array. -/
def band (j : Fin 13) : Rect S2048x1024 := Rect.unit (s := S2048x1024) ![lo j, 0] ![len j, 1024] (band_inb j)

/-- The elements of band `j`. -/
def rows (j : Fin 13) : Finset S2048x1024.Idx := (band j).set

theorem mem_rows (j : Fin 13) (i : S2048x1024.Idx) : i ∈ rows j ↔ lo j ≤ (i 0).val ∧ (i 0).val < lo j + len j := by
  unfold rows band
  rw [LoadRect.mem_set]
  constructor
  · intro h
    obtain ⟨k, hk, e⟩ := h 0
    have hk' : k < len j := hk
    have e' : (i 0).val = lo j + 1 * k := e
    omega
  · rintro ⟨h1, h2⟩ a
    fin_cases a
    · exact ⟨(i 0).val - lo j, show (i 0).val - lo j < len j by omega, show (i 0).val = lo j + 1 * ((i 0).val - lo j) by omega⟩
    · exact ⟨(i 1).val, (i 1).isLt, show (i 1).val = 0 + 1 * (i 1).val by omega⟩

theorem rows_disjoint : ∀ j ∈ (Finset.univ : Finset (Fin 13)), ∀ k ∈ (Finset.univ : Finset (Fin 13)), j ≠ k → Disjoint (rows j) (rows k) := by
  intro j _ k _ hjk
  rw [Finset.disjoint_left]
  intro i h1 h2
  rw [mem_rows] at h1 h2
  have key : ∀ j k : Fin 13, j ≠ k → lo j + len j ≤ lo k ∨ lo k + len k ≤ lo j := by decide
  rcases key j k hjk with h | h <;> omega

theorem rows_cover (i : S2048x1024.Idx) : ∃ j, i ∈ rows j := by
  have hi : (i 0).val < 2048 := (i 0).isLt
  have key : ∀ r : Fin 2048, ∃ j : Fin 13, lo j ≤ r.val ∧ r.val < lo j + len j := by
    intro r
    by_cases h1 : r.val < 32
    · exact ⟨12, Nat.zero_le _, by show r.val < 0 + 32; omega⟩
    · by_cases h2 : r.val < 1792
      · have hq : (r.val - 32) / 176 < 10 := by omega
        have hlo : ∀ q : Fin 10, lo ⟨q.val, Nat.lt_trans q.isLt (by decide)⟩ = 32 + 176 * q.val ∧ len ⟨q.val, Nat.lt_trans q.isLt (by decide)⟩ = 176 := by decide
        refine ⟨⟨(r.val - 32) / 176, by omega⟩, ?_⟩
        have := hlo ⟨(r.val - 32) / 176, hq⟩
        simp only at this
        rw [this.1, this.2]
        omega
      · by_cases h3 : r.val < 1920
        · exact ⟨10, by show 1792 ≤ r.val; omega, by show r.val < 1792 + 128; omega⟩
        · exact ⟨11, by show 1920 ≤ r.val; omega, by show r.val < 1920 + 128; omega⟩
  obtain ⟨j, h⟩ := key ⟨(i 0).val, hi⟩
  exact ⟨j, (mem_rows j i).mpr h⟩

theorem rows_union : (Finset.univ : Finset (Fin 13)).biUnion rows = Finset.univ := by
  ext i; simpa using rows_cover i

/-! ## The slots of the two receive arrays -/

theorem slotL_inb (s : Fin 3) : ∀ a, (![s.val, 0, 0] : Fin 3 → ℕ) a + S1x2048x8.size a ≤ S3x2048x8.size a := by revert s; decide
theorem slotG_inb (s : Fin 3) : ∀ a, (![s.val, 0, 0] : Fin 3 → ℕ) a + S1x32x1024.size a ≤ S3x32x1024.size a := by revert s; decide
abbrev slotL (s : Fin 3) : Rect S3x2048x8 := Rect.unit (s := S3x2048x8) ![s.val, 0, 0] S1x2048x8.size (slotL_inb s)
abbrev slotG (s : Fin 3) : Rect S3x32x1024 := Rect.unit (s := S3x32x1024) ![s.val, 0, 0] S1x32x1024.size (slotG_inb s)
/-- Slot `s` of the denominators' receive array, and of the numerators'. -/
abbrev aaLS (s : Fin 3) : Memref sig .tc .vmem S2048x8 .f32 := (aaLM.slice (slotL s) (fun _ => rfl)).squeeze S2048x8 squeezes_S1x2048x8_S2048x8
abbrev aaGS (s : Fin 3) : Memref sig .tc .vmem S32x1024 .bf16 := (aaGM.slice (slotG s) (fun _ => rfl)).squeeze S32x1024 squeezes_S1x32x1024_S32x1024

/-- The device whose block arrives in slot `s` of device `c`. -/
def src (c : Dev nD) (s : Fin 3) : Dev nD := ⟨(c.val + s.val + 1) % 4, Nat.mod_lt _ (by decide)⟩

/-! ## Contents, from the memory at launch -/

variable (m : (ℓ : Loc nD τ sig) → Buf (Elt F) ℓ)

/-- The five inputs as the body finds them staged on device `c`. -/
def xo (c : Dev nD) : (cc0_stg0_0 : Ref sig .tc).ty.Contents (Elt F) := (win0_0.blk (0 : Fin 1)).view.read (Elt F) (m ((c : Thread nD τ).loc main_arg0))
def xog (c : Dev nD) : (cc0_stg1_0 : Ref sig .tc).ty.Contents (Elt F) := (win0_1.blk (0 : Fin 1)).view.read (Elt F) (m ((c : Thread nD τ).loc main_arg1))
def xl (c : Dev nD) : (cc0_stg2_0 : Ref sig .tc).ty.Contents (Elt F) := (win0_2.blk (0 : Fin 1)).view.read (Elt F) (m ((c : Thread nD τ).loc main_arg2))
def xlg (c : Dev nD) : (cc0_stg3_0 : Ref sig .tc).ty.Contents (Elt F) := (win0_3.blk (0 : Fin 1)).view.read (Elt F) (m ((c : Thread nD τ).loc main_arg3))
def xwo (c : Dev nD) : (cc0_stg4_0 : Ref sig .tc).ty.Contents (Elt F) := (win0_4.blk (0 : Fin 1)).view.read (Elt F) (m ((c : Thread nD τ).loc main_arg4))

abbrev headL : Rect S2048x8 := Rect.unit (s := S2048x8) ![0, 0] S32x8.size inb_S2048x8_S32x8_0_0
abbrev restL : Rect S2048x8 := Rect.unit (s := S2048x8) ![32, 0] S2016x8.size inb_S2048x8_S2016x8_32_0

/-- The denominators device `c` sends: its global tokens' partial sums in the first 32 rows, its row sums below. -/
def xsl (c : Dev nD) : (cc0_scratch0 : Ref sig .tc).ty.Contents (Elt F) :=
  (slM.access restL).write (Elt F)
    ((slM.access headL).write (Elt F) (m ((c : Thread nD τ).loc cc0_scratch0))
      (k0_pay134 ((lgM : Memref sig .tc .vmem S32x8 .f32).view.readAt (Elt F) (Rect.unit (s := S32x8) ![0, 0] S32x8.size inb_S32x8_S32x8_0_0).toLoadRect (xlg m c))) Finset.univ)
    (k0_pay135 ((lM : Memref sig .tc .vmem S2048x8 .f32).view.readAt (Elt F) restL.toLoadRect (xl m c))) Finset.univ

/-- What slot `s` of the receive arrays of device `c` holds once its transfer has landed. -/
def raaL (c : Dev nD) (s : Fin 3) : (cc0_scratch1 : Ref sig .tc).ty.Contents (Elt F) :=
  (aaLS s).view.write (Elt F) (m ((c : Thread nD τ).loc cc0_scratch1)) (slM.view.read (Elt F) (xsl m (src c s))) Finset.univ
def raaG (c : Dev nD) (s : Fin 3) : (cc0_scratch2 : Ref sig .tc).ty.Contents (Elt F) :=
  (aaGS s).view.write (Elt F) (m ((c : Thread nD τ).loc cc0_scratch2)) (ogM.view.read (Elt F) (xog m (src c s))) Finset.univ

/-- The rows of `o` that device 1 sends to device 0. -/
abbrev oTailM : Memref sig .tc .vmem S128x1024 .bf16 :=
  oM.slice (Rect.unit (s := S2048x1024) ![1920, 0] S128x1024.size inb_S2048x1024_S128x1024_1920_0) (fun _ => rfl)
/-- The sliver as it lands on a device. -/
def xsliv : (cc0_scratch4 : Ref sig .tc).ty.Contents (Elt F) := oTailM.view.read (Elt F) (xo m 1)

abbrev rdL (c : Dev nD) (s : Fin 3) : Vec F S1x2048x8 .f32 := aaLM.view.readAt (Elt F) (slotL s).toLoadRect (raaL m c s)
abbrev rdG (c : Dev nD) (s : Fin 3) : Vec F S1x32x1024 .bf16 := aaGM.view.readAt (Elt F) (slotG s).toLoadRect (raaG m c s)
abbrev rdSl (c : Dev nD) : Vec F S2048x8 .f32 := slM.view.readAt (Elt F) (Rect.unit (s := S2048x8) ![0, 0] S2048x8.size inb_S2048x8_S2048x8_0_0).toLoadRect (xsl m c)
abbrev rdOg (c : Dev nD) : Vec F S32x1024 .bf16 := ogM.view.readAt (Elt F) (Rect.unit (s := S32x1024) ![0, 0] S32x1024.size inb_S32x1024_S32x1024_0_0).toLoadRect (xog m c)

/-- The denominators summed over the devices. -/
def xacc (c : Dev nD) : (cc0_scratch3 : Ref sig .tc).ty.Contents (Elt F) := k0_pay94 (rdSl m c) (rdL m c 0) (rdL m c 1) (rdL m c 2)

/-- The output projection. -/
def wo (c : Dev nD) : FVec F S1024x1024 .bf16 :=
  k0_pay136 (woM.view.readAt (Elt F) (Rect.unit (s := S1024x1024) ![0, 0] S1024x1024.size inb_S1024x1024_S1024x1024_0_0).toLoadRect (xwo m c))

/-- The head band of the result on device `c`: numerators summed over the devices, normalised and projected. -/
def headV (c : Dev nD) : FVec F S32x1024 .f32 :=
  let n := k0_pay95 (rdOg m c) (rdG m c 0) (rdG m c 1) (rdG m c 2)
  let d : Vec F S32x8 .f32 := accM.view.readAt (Elt F) headL.toLoadRect (xacc m c)
  k0_pay137 (wo m c) n d (k0_pay96 (wo m c) n d) (k0_pay97 n d)

theorem mid_inb (j : Fin 10) : ∀ a, (![32 + 176 * j.val, 0] : Fin 2 → ℕ) a + S176x1024.size a ≤ S2048x1024.size a := by revert j; decide
theorem midL_inb (j : Fin 10) : ∀ a, (![32 + 176 * j.val, 0] : Fin 2 → ℕ) a + S176x8.size a ≤ S2048x8.size a := by revert j; decide
abbrev midR (j : Fin 10) : Rect S2048x1024 := Rect.unit (s := S2048x1024) ![32 + 176 * j.val, 0] S176x1024.size (mid_inb j)
abbrev midL (j : Fin 10) : Rect S2048x8 := Rect.unit (s := S2048x8) ![32 + 176 * j.val, 0] S176x8.size (midL_inb j)
abbrev rdO (j : Fin 10) : Vec F S176x1024 .bf16 := oM.view.readAt (Elt F) (midR j).toLoadRect (xo m 0)
abbrev rdLm (j : Fin 10) : Vec F S176x8 .f32 := lM.view.readAt (Elt F) (midL j).toLoadRect (xl m 0)

/-- A band of 176 rows that device 0 computes: one projection of the normalised numerators, and its rounding. -/
def mid (j : Fin 10) : FVec F S176x1024 .f32 :=
  k0_pay6 (wo m 0) (k0_pay1 (rdO m j)) (k0_pay2 (rdLm m j)) (k0_pay3 (wo m 0) (rdO m j) (rdLm m j)) (k0_pay4 (rdO m j)) (k0_pay5 (rdLm m j))
def midH (j : Fin 10) : FVec F S176x1024 .bf16 :=
  k0_pay7 (wo m 0) (k0_pay1 (rdO m j)) (k0_pay2 (rdLm m j)) (k0_pay3 (wo m 0) (rdO m j) (rdLm m j)) (k0_pay4 (rdO m j)) (k0_pay5 (rdLm m j))

abbrev rdO10 : Vec F S128x1024 .bf16 := oM.view.readAt (Elt F) (Rect.unit (s := S2048x1024) ![1792, 0] S128x1024.size inb_S2048x1024_S128x1024_1792_0).toLoadRect (xo m 0)
abbrev rdL10 : Vec F S128x8 .f32 := lM.view.readAt (Elt F) (Rect.unit (s := S2048x8) ![1792, 0] S128x8.size inb_S2048x8_S128x8_1792_0).toLoadRect (xl m 0)
/-- The band of 128 rows above the last. -/
def low : FVec F S128x1024 .f32 :=
  k0_pay82 (wo m 0) (k0_pay77 (rdO10 m)) (k0_pay78 (rdL10 m)) (k0_pay79 (wo m 0) (rdO10 m) (rdL10 m)) (k0_pay80 (rdO10 m)) (k0_pay81 (rdL10 m))
def lowH : FVec F S128x1024 .bf16 :=
  k0_pay83 (wo m 0) (k0_pay77 (rdO10 m)) (k0_pay78 (rdL10 m)) (k0_pay79 (wo m 0) (rdO10 m) (rdL10 m)) (k0_pay80 (rdO10 m)) (k0_pay81 (rdL10 m))

/-- The last band's numerators: device 0's rows plus device 1's. -/
def xtail : (cc0_scratch5 : Ref sig .tc).ty.Contents (Elt F) :=
  k0_pay85 (oM.view.readAt (Elt F) (Rect.unit (s := S2048x1024) ![1920, 0] S128x1024.size inb_S2048x1024_S128x1024_1920_0).toLoadRect (xo m 0))
    (slivM.view.readAt (Elt F) (Rect.unit (s := S128x1024) ![0, 0] S128x1024.size inb_S128x1024_S128x1024_0_0).toLoadRect (xsliv m))
abbrev rdT : Vec F S128x1024 .f32 := tailM.view.readAt (Elt F) (Rect.unit (s := S128x1024) ![0, 0] S128x1024.size inb_S128x1024_S128x1024_0_0).toLoadRect (xtail m)
abbrev rdAT : Vec F S128x8 .f32 := accM.view.readAt (Elt F) (Rect.unit (s := S2048x8) ![1920, 0] S128x8.size inb_S2048x8_S128x8_1920_0).toLoadRect (xacc m 0)
/-- The last band. -/
def lastV : FVec F S128x1024 .f32 := k0_pay88 (wo m 0) (rdT m) (rdAT m) (k0_pay86 (wo m 0) (rdT m) (rdAT m)) (k0_pay87 (rdT m) (rdAT m))
def lastH : FVec F S128x1024 .bf16 := k0_pay89 (wo m 0) (rdT m) (rdAT m) (k0_pay86 (wo m 0) (rdT m) (rdAT m)) (k0_pay87 (rdT m) (rdAT m))

/-- The entry of a value of `r` rows at a row number taken modulo `r`. -/
abbrev at176 {e : EltTy} (v : Vec F S176x1024 e) (r : ℕ) (k : Fin 1024) : Elt F e := v (Fin.cons (⟨r % 176, Nat.mod_lt _ (by decide)⟩ : Fin 176) (Fin.cons k finZeroElim))
abbrev at128 {e : EltTy} (v : Vec F S128x1024 e) (r : ℕ) (k : Fin 1024) : Elt F e := v (Fin.cons (⟨r % 128, Nat.mod_lt _ (by decide)⟩ : Fin 128) (Fin.cons k finZeroElim))
abbrev at32 {e : EltTy} (v : Vec F S32x1024 e) (r : ℕ) (k : Fin 1024) : Elt F e := v (Fin.cons (⟨r % 32, Nat.mod_lt _ (by decide)⟩ : Fin 32) (Fin.cons k finZeroElim))
/-- The number of the band of 176 rows that row `r` lies in. -/
abbrev bandOf (r : ℕ) : Fin 10 := ⟨(r - 32) / 176 % 10, Nat.mod_lt _ (by decide)⟩

/-- The broadcast array once filled: device 0's rows below the head band, rounded. -/
def xbc : (cc0_scratch6 : Ref sig .tc).ty.Contents (Elt F) := fun i =>
  if (i 0).val < 1792 then at176 (midH m (bandOf (i 0).val)) ((i 0).val - 32) (i 1)
  else if (i 0).val < 1920 then at128 (lowH m) ((i 0).val - 1792) (i 1) else at128 (lastH m) ((i 0).val - 1920) (i 1)

/-- The result on device `c`: the head band it computes itself; below, on device 0 the rows it computes, on the
    others the rows they received. -/
def xout (c : Dev nD) : (cc0_stg5_0 : Ref sig .tc).ty.Contents (Elt F) := fun i =>
  if (i 0).val < 32 then at32 (headV m c) (i 0).val (i 1)
  else if c = 0 then
    (if (i 0).val < 1792 then at176 (mid m (bandOf (i 0).val)) ((i 0).val - 32) (i 1)
     else if (i 0).val < 1920 then at128 (low m) ((i 0).val - 1792) (i 1) else at128 (lastV m) ((i 0).val - 1920) (i 1))
  else (extf .f32 (show FVec F S2048x1024 .bf16 from xbc m) bitsLt_bf16_f32 : FVec F S2048x1024 .f32) i

end Cert.KernelIdeal.Exchange

end
-- ==== Proof.Ideal.Schedule.lean ====
/-
The protocol of the exchange: the semaphore cells of every device, who pays each of them, what the units of a
cell hand to its owner, and the levels that order the waits. What a device holds is written as a list of pieces,
so that a step's effect on it is a computation on lists.
-/
module

public import proofs.«01_k».proof.Proof.Ideal.Contents

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A device's cells: 0 the entry barrier, 1 the exit barrier, then the 38 transfer semaphores in order. -/
abbrev K : Type := Fin 40

abbrev barS : Sem sig := (SemArray.scalar (sig.barrier 0 rfl) : Sems sig S_).sem
abbrev exitS : Sem sig := cc0_scoped0.sem

set_option backward.proofsInPublic true in
def csem (k : K) : SemLoc sig :=
  if k.val = 0 then .reg barS else if k.val = 1 then .reg exitS else .dma (⟨(k.val + 4) % 44, Nat.mod_lt _ (by decide)⟩ : Fin 44)

set_option backward.proofsInPublic true in
def kOf : SemLoc sig → Option K
  | .reg s => if s = barS then some 0 else if s = exitS then some 1 else none
  | .dma s => if h : 6 ≤ s.val then some ⟨(s.val - 4) % 40, Nat.mod_lt _ (by decide)⟩ else none

theorem kOf_csem : ∀ k : K, kOf (csem k) = some k := by decide +kernel

abbrev cell (c : Dev nD) (k : K) : GSem nD τ sig := ((c : Thread nD τ), csem k)

/-! ## Pieces -/

/-- Share `i` of a piece: 0 whole, `2i+1` and `2i+2` its halves. -/
def sh : Fin 7 → PosShare TreeShare := fun
  | 0 => fullShare | 1 => fullShare.left | 2 => fullShare.right
  | 3 => fullShare.left.left | 4 => fullShare.left.right | 5 => fullShare.right.left | 6 => fullShare.right.right

/-- The pieces of a device's arrays that the protocol names. -/
inductive A : Type where
  | o | oTail | oRest | og | l | lg | wo | sl | acc | sliv | tail
  | aaL (s : Fin 3) | aaG (s : Fin 3) | bc (j : Fin 13)
deriving DecidableEq

def refOf : A → Ref sig .tc
  | .o => cc0_stg0_0 | .oTail => cc0_stg0_0 | .oRest => cc0_stg0_0 | .og => cc0_stg1_0 | .l => cc0_stg2_0 | .lg => cc0_stg3_0 | .wo => cc0_stg4_0
  | .sl => cc0_scratch0 | .acc => cc0_scratch3 | .sliv => cc0_scratch4 | .tail => cc0_scratch5
  | .aaL _ => cc0_scratch1 | .aaG _ => cc0_scratch2 | .bc _ => cc0_scratch6

/-- The elements of a piece. -/
def setOf : (a : A) → Finset (refOf a).ty.Idx
  | .o => oM.view.set | .oTail => oTailM.view.set | .oRest => oM.view.set \ oTailM.view.set
  | .og => ogM.view.set | .l => lM.view.set | .lg => lgM.view.set | .wo => woM.view.set
  | .sl => slM.view.set | .acc => accM.view.set | .sliv => slivM.view.set | .tail => tailM.view.set
  | .aaL s => (aaLS s).view.set | .aaG s => (aaGS s).view.set | .bc j => (bcM.slice (band j) (fun _ => rfl)).view.set

variable (m : (ℓ : Loc nD τ sig) → Buf (Elt F) ℓ)

/-- What a piece holds on device `c` once written. -/
def V (c : Dev nD) : (a : A) → Buf (Elt F) ((c : Thread nD τ).loc (refOf a))
  | .o => xo m c | .oTail => xo m c | .oRest => xo m c | .og => xog m c | .l => xl m c | .lg => xlg m c | .wo => xwo m c
  | .sl => xsl m c | .acc => xacc m c | .sliv => xsliv m | .tail => xtail m
  | .aaL s => raaL m c s | .aaG s => raaG m c s | .bc _ => xbc m

/-- What a device may hold of a piece: it whole at some contents, it at what it is to hold (at a share), or —
    the denominators' send array — it whole with its head rows written. -/
inductive Dt : Type where
  | any (a : A) | val (a : A) (q : Fin 7) | half
deriving DecidableEq

abbrev Res : Type := Dev nD × Dt

def interp : Res → sProp 𝕄
  | (d, .any a) => iprop(∃ f : Buf (Elt F) ((d : Thread nD τ).loc (refOf a)), ((d : Thread nD τ).loc (refOf a)) ↦[setOf a]{fullShare} f)
  | (d, .val a q) => iprop(((d : Thread nD τ).loc (refOf a)) ↦[setOf a]{sh q} (V m d a))
  | (d, .half) => iprop(∃ f : Buf (Elt F) ((d : Thread nD τ).loc cc0_scratch0),
      ⌜∀ i : S2048x8.Idx, (i 0).val < 32 → f i = xsl m d i⌝ ∗ ((d : Thread nD τ).loc cc0_scratch0) ↦[slM.view.set]{fullShare} f)

instance interp_storable (r : Res) : BI.Storable (upEmb : UEmb _ 𝕄) (interp m r) := by
  obtain ⟨d, dt⟩ := r
  cases dt <;> unfold interp <;> infer_instance

/-! ## Conjunctions over lists -/

section Lists
variable {α : Type} {M : Type} [URA M]

/-- The conjunction of `Φ` over a list. -/
def lst (Φ : α → sProp M) : List α → sProp M
  | [] => iprop(emp)
  | x :: xs => iprop(Φ x ∗ lst Φ xs)

theorem lst_append (Φ : α → sProp M) (xs ys : List α) : lst Φ (xs ++ ys) = iprop(lst Φ xs ∗ lst Φ ys) := by
  induction xs with
  | nil => exact BI.Entails.antisymm (emp_sep (PROP := sProp M)).2 (emp_sep (PROP := sProp M)).1
  | cons x xs ih =>
    show iprop(Φ x ∗ lst Φ (xs ++ ys)) = iprop((Φ x ∗ lst Φ xs) ∗ lst Φ ys)
    rw [ih]
    exact BI.Entails.antisymm (sep_assoc (PROP := sProp M)).2 (sep_assoc (PROP := sProp M)).1

theorem lst_perm (Φ : α → sProp M) {xs ys : List α} (h : xs.Perm ys) : lst Φ xs = lst Φ ys := by
  induction h with
  | nil => rfl
  | cons x _ ih => show iprop(Φ x ∗ lst Φ _) = iprop(Φ x ∗ lst Φ _); rw [ih]
  | swap x y l =>
    show iprop(Φ y ∗ Φ x ∗ lst Φ l) = iprop(Φ x ∗ Φ y ∗ lst Φ l)
    exact BI.Entails.antisymm (sep_left_comm (PROP := sProp M)).1 (sep_left_comm (PROP := sProp M)).1
  | trans _ _ h1 h2 => exact h1.trans h2

/-- `xs` is among `ys`, with multiplicities. -/
def within [DecidableEq α] (xs ys : List α) : Prop := ∀ x ∈ xs, xs.count x ≤ ys.count x
instance [DecidableEq α] (xs ys : List α) : Decidable (within xs ys) := inferInstanceAs (Decidable (∀ x ∈ xs, xs.count x ≤ ys.count x))

/-- `ys` without `xs`. -/
def minus [DecidableEq α] (ys xs : List α) : List α := ys.diff xs

theorem lst_take [DecidableEq α] (Φ : α → sProp M) {xs ys : List α} (h : within xs ys) :
    lst Φ ys = iprop(lst Φ xs ∗ lst Φ (minus ys xs)) := by
  unfold minus
  rw [← lst_append]
  exact (lst_perm Φ (List.subperm_append_diff_self_of_count_le h)).symm

theorem lst_one (Φ : α → sProp M) (x : α) : lst Φ [x] = Φ x :=
  BI.Entails.antisymm (sep_emp (PROP := sProp M)).1 (sep_emp (PROP := sProp M)).2

theorem lst_flatMap {β : Type} (Φ : α → sProp M) (g : β → List α) (l : List β) : lst Φ (l.flatMap g) = lst (fun b => lst Φ (g b)) l := by
  induction l with
  | nil => rfl
  | cons b l ih => rw [List.flatMap_cons, lst_append, ih]; rfl

theorem bigSep_lst [DecidableEq α] (Φ : α → sProp M) {l : List α} (h : l.Nodup) : bigSep l.toFinset Φ = lst Φ l := by
  induction l with
  | nil => rw [List.toFinset_nil, BI.bigSep_empty]; rfl
  | cons x l ih =>
    rw [List.nodup_cons] at h
    rw [List.toFinset_cons, BI.bigSep_insert (by rw [List.mem_toFinset]; exact h.1), ih h.2]
    rfl

end Lists

instance lst_storable (l : List Res) : BI.Storable (upEmb : UEmb _ 𝕄) (lst (interp m) l) := by
  induction l with
  | nil => unfold lst; infer_instance
  | cons x l ih => unfold lst; infer_instance

/-! ## The tables -/

/-- The credit of a transfer: of a denominators' block, of a numerators' block, of a band of 176 rows, of 128. -/
abbrev nL : ℕ := (aaLS 0).view.dmaCredit
abbrev nG : ℕ := (aaGS 0).view.dmaCredit
abbrev nS : ℕ := slivM.view.dmaCredit
abbrev nB (j : Fin 13) : ℕ := (bcM.slice (band j) (fun _ => rfl)).view.dmaCredit

set_option backward.proofsInPublic true in
/-- The broadcast band that cells 28–33 (clockwise) and 34–39 (counter-clockwise) carry. -/
def bandK (k : K) : Fin 13 := if k.val < 28 then ⟨(k.val - 16) % 13, Nat.mod_lt _ (by decide)⟩
  else if k.val < 34 then ⟨2 * (k.val - 28) % 13, Nat.mod_lt _ (by decide)⟩ else ⟨(2 * (k.val - 34) + 1) % 13, Nat.mod_lt _ (by decide)⟩

/-- The units one payer of a cell brings. -/
def amtK (k : K) : ℕ :=
  if k.val ≤ 1 then 1 else if k.val < 8 then nL else if k.val < 14 then nG else if k.val < 16 then nS else nB (bandK k)

theorem amtK_pos (k : K) : 0 < amtK k := by
  unfold amtK
  split; · exact Nat.one_pos
  split; · exact View.dmaCredit_pos _ (by decide)
  split; · exact View.dmaCredit_pos _ (by decide)
  split; · exact View.dmaCredit_pos _ (by decide)
  have h : ∀ j : Fin 13, 0 < (band j).shape.numel := by decide
  exact View.dmaCredit_pos _ (h _)

/-- Whether a transfer cell of device `c` is used. -/
def used (c : Dev nD) (k : K) : Bool :=
  if k.val < 14 then true else if k.val = 14 then c.val == 1 else if k.val = 15 then c.val == 0
  else if k.val < 28 then (if c.val = 1 then k.val % 2 == 0 else if c.val = 3 then k.val % 2 == 1 else true)
  else c.val != 0

/-- The payers of a cell. -/
def payers (c : Dev nD) (k : K) : List (Fin 4) :=
  if k.val ≤ 1 then [c + 1, c + 2, c + 3] else if used c k then [0] else []

set_option backward.proofsInPublic true in
/-- The slot of `p`'s receive arrays that `c` fills. -/
def slotOf (p c : Dev nD) : Fin 3 := ⟨(c.val + 3 - p.val) % 4 % 3, Nat.mod_lt _ (by decide)⟩

/-- The bands that `c` sends to `p`. -/
def bandsTo (c p : Dev nD) : List (Fin 13) :=
  if (c = 0 ∧ p = 1) ∨ (c = 1 ∧ p = 2) ∨ (c = 2 ∧ p = 3) then [0, 2, 4, 6, 8, 10]
  else if (c = 0 ∧ p = 3) ∨ (c = 3 ∧ p = 2) ∨ (c = 2 ∧ p = 1) then [1, 3, 5, 7, 9, 11] else []

/-- What `p` hands `c` at the entry barrier: the places on `p` that `c` will write. -/
def give (p c : Dev nD) : List Res :=
  (p, .any (.aaL (slotOf p c))) :: (p, .any (.aaG (slotOf p c))) ::
    ((if p = 0 ∧ c = 1 then [((0 : Dev nD), Dt.any .sliv)] else []) ++ (bandsTo c p).map fun j => (p, Dt.any (.bc j)))

set_option backward.proofsInPublic true in
/-- What the units of payer `p` hand the owner `c` of cell `k`. -/
def pay (c : Dev nD) (k : K) (p : Fin 4) : List Res :=
  if k.val = 0 then give p c else if k.val = 1 then []
  else if k.val < 5 then [(c, .val .sl ⟨(k.val + 2) % 7, Nat.mod_lt _ (by decide)⟩)]
  else if k.val < 8 then [(c, .val (.aaL ⟨(k.val - 5) % 3, Nat.mod_lt _ (by decide)⟩) 0)]
  else if k.val < 11 then [(c, .val .og ⟨(k.val - 4) % 7, Nat.mod_lt _ (by decide)⟩)]
  else if k.val < 14 then [(c, .val (.aaG ⟨(k.val - 11) % 3, Nat.mod_lt _ (by decide)⟩) 0)]
  else if k.val = 14 then [(c, .val .oTail 0)] else if k.val = 15 then [(c, .val .sliv 0)]
  else if k.val < 28 then [(c, .val (.bc (bandK k)) (if c = 0 then 0 else 2))]
  else [(c, .val (.bc (bandK k)) 0)]

/-- The level of a cell: waits go up. -/
def lvK (c : Dev nD) (k : K) : ℕ :=
  if k.val = 0 then 1 else if k.val = 1 then 6
  else if (5 ≤ k.val ∧ k.val < 8) ∨ (11 ≤ k.val ∧ k.val < 14) ∨ k.val = 15 then 2
  else if k.val < 28 then 0 else if k.val < 34 then 2 + c.val else 6 - c.val

def lv (g : GSem nD τ sig) (_ : Unit) : ℕ := match kOf g.2 with | some k => lvK g.1.1 k | none => 0
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- One round per cell. -/
def Rd : Rounds.Schedule (GSem nD τ sig) (Fin 4) 𝕄 where
  duties g r := if r = 0 ∧ g.1.2 = .tc then (match kOf g.2 with | some k => (payers g.1.1 k).toFinset | none => ∅) else ∅
  amount g _ _ := match kOf g.2 with | some k => amtK k | none => 1
  payload g _ d := match kOf g.2 with | some k => lst (interp m) (pay g.1.1 k d) | none => iprop(emp)
  amount_pos g _ _ _ := by
    cases h : kOf g.2 with
    | none => exact Nat.one_pos
    | some k => exact amtK_pos k
  unitless _ := False

instance Rd_storable (g : GSem nD τ sig) (r : ℕ) (d : Fin 4) : BI.Storable (upEmb : UEmb _ 𝕄) ((Rd (F := F) m).payload g r d) := by
  show BI.Storable upEmb (match kOf g.2 with | some k => lst (interp m) (pay g.1.1 k d) | none => iprop(emp))
  split <;> infer_instance

theorem duties_cell (c : Dev nD) (k : K) : (Rd (F := F) m).duties (cell c k) 0 = (payers c k).toFinset := by
  dsimp only [Rd]; rw [if_pos ⟨rfl, rfl⟩, kOf_csem]
theorem duties_later (g : GSem nD τ sig) : ∀ r, 1 ≤ r → (Rd (F := F) m).duties g r = ∅ :=
  fun r hr => by dsimp only [Rd]; rw [if_neg fun h => by omega]
theorem duties_none (c : Dev nD) (k : K) (h : payers c k = []) : ∀ r, 0 ≤ r → (Rd (F := F) m).duties (cell c k) r = ∅ := by
  intro r _
  rcases Nat.eq_zero_or_pos r with rfl | hr
  · rw [duties_cell, h]; rfl
  · exact duties_later m _ r hr
theorem amount_cell (c : Dev nD) (k : K) (r : ℕ) (d : Fin 4) : (Rd (F := F) m).amount (cell c k) r d = amtK k := by
  dsimp only [Rd]; rw [kOf_csem]
theorem payload_cell (c : Dev nD) (k : K) (r : ℕ) (d : Fin 4) : (Rd (F := F) m).payload (cell c k) r d = lst (interp m) (pay c k d) := by
  dsimp only [Rd]; rw [kOf_csem]

theorem payers_nodup : ∀ (c : Dev nD) (k : K), (payers c k).Nodup := by decide +kernel

/-- The units a whole round of a cell brings. -/
def expectK (c : Dev nD) (k : K) : ℕ := (payers c k).length * amtK k

theorem expect_cell (c : Dev nD) (k : K) : (Rd (F := F) m).expect (cell c k) 0 = expectK c k := by
  unfold Schedule.expect Schedule.amountOf expectK
  rw [duties_cell, Finset.sum_congr rfl fun d _ => amount_cell m c k 0 d, Finset.sum_const, smul_eq_mul,
    List.toFinset_card_of_nodup (payers_nodup c k)]

/-- All that a whole round of cell `k` hands its owner. -/
def payAll (c : Dev nD) (k : K) : List Res := (payers c k).flatMap (pay c k)

theorem rest_cell (c : Dev nD) (k : K) :
    bigSep ((Rd (F := F) m).duties (cell c k) 0 \ ∅) (fun d => (Rd (F := F) m).payload (cell c k) 0 d) = lst (interp m) (payAll c k) := by
  rw [Finset.sdiff_empty, duties_cell, bigSep_lst _ (payers_nodup c k), payAll, lst_flatMap]
  congr 1
  funext d
  exact payload_cell m c k 0 d

/-! ## What a device owes -/

/-- A payment: a signal to cell `k` of `dst`, or a transfer whose source side completes on the device's own cell `k`
    and whose landing completes on cell `k'` of `dst`. -/
inductive Pay : Type where
  | sig (dst : Dev nD) (k : K) | snd (k : K) (dst : Dev nD) (k' : K)
deriving DecidableEq

def Pay.dst : Pay → Dev nD | .sig d _ => d | .snd _ d _ => d
def Pay.key : Pay → K | .sig _ k => k | .snd _ _ k => k

/-- The units still to be paid. -/
def owedL : List Pay → CellTallies nD τ sig Unit
  | [] => 0
  | p :: l => owedL l + tallyAt (cell p.dst p.key) () (amtK p.key)

theorem owedL_pos {l : List Pay} {g : GSem nD τ sig} {u : Unit} (h : 0 < owedL l g u) : ∃ p ∈ l, g = cell p.dst p.key := by
  induction l with
  | nil => exact absurd h (Nat.lt_irrefl 0)
  | cons p l ih =>
    by_cases hg : g = cell p.dst p.key
    · exact ⟨p, List.mem_cons_self, hg⟩
    · have h' : 0 < owedL l g u + tallyAt (cell p.dst p.key) () (amtK p.key) g u := h
      rw [tallyAt_apply, if_neg (fun hh => hg hh.1), Nat.add_zero] at h'
      obtain ⟨q, hq, e⟩ := ih h'
      exact ⟨q, List.mem_cons_of_mem _ hq, e⟩

theorem lv_cell (c : Dev nD) (k : K) (u : Unit) : lv (cell c k) u = lvK c k := by unfold lv; rw [kOf_csem]

/-- A wait on cell `k` is allowed when everything still owed is above it. -/
def okWait (c : Dev nD) (k : K) (l : List Pay) : Prop := ∀ p ∈ l, lvK c k < lvK p.dst p.key
instance (c : Dev nD) (k : K) (l : List Pay) : Decidable (okWait c k l) := inferInstanceAs (Decidable (∀ p ∈ l, lvK c k < lvK p.dst p.key))

omit [FloatOps F] in
theorem mayWait (c : Dev nD) (k : K) (l : List Pay) (h : okWait c k l) :
    (levAts L lv : sProp 𝕄) ⊢ MayWait (c : Thread nD τ) (csem k) () (owedL l) :=
  MayOwe.of_cut (L := L) (lev := lv) (lvK c k)
    (fun p hp => by rw [Finset.mem_singleton.mp hp, L_tc]; exact Finset.mem_singleton_self _)
    (fun g u hg => by obtain ⟨p, _, rfl⟩ := owedL_pos hg; rw [L_tc]; exact Finset.mem_singleton_self _)
    (fun p hp => by rw [Finset.mem_singleton.mp hp]; exact le_of_eq (lv_cell c k ()))
    (fun g u hg => by obtain ⟨p, hp, rfl⟩ := owedL_pos hg; rw [lv_cell]; exact h p hp)

end Cert.KernelIdeal.Exchange

end
-- ==== Proof.Ideal.State.lean ====
/-
What a device holds between two operations of the kernel (`St`), and one lemma per kind of operation: each
says that from the state before it, it is enough to run the rest from the state after it.
-/
module

public import proofs.«01_k».proof.Proof.Ideal.Schedule

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (Kn : Dev nD × K → ℕ)

/-! ## The state -/

/-- The invariants of all cells, and that each is at its first round. -/
def recs : sProp 𝕄 :=
  bigSep (Finset.univ : Finset (Dev nD × K)) fun ck => iprop(cellInv ER (Rd m) (Kn ck) (cell ck.1 ck.2) ∗ reached ER (cell ck.1 ck.2) 0)
instance recs_persistent : BI.Persistent (recs m Kn) := by unfold recs; infer_instance

theorem recs_inv (ck : Dev nD × K) : recs m Kn ⊢ cellInv ER (Rd m) (Kn ck) (cell ck.1 ck.2) := by
  unfold recs
  refine BIBase.Entails.trans (bigSep_elim (Finset.mem_univ ck)) ?_
  iintro ⟨H, -⟩; iexact H
theorem recs_reached (ck : Dev nD × K) : recs m Kn ⊢ reached ER (cell ck.1 ck.2) 0 := by
  unfold recs
  refine BIBase.Entails.trans (bigSep_elim (Finset.mem_univ ck)) ?_
  iintro ⟨-, H⟩; iexact H

/-- The duty tokens a payment takes. -/
def tok (c : Dev nD) : Pay → sProp 𝕄
  | .sig d k => dutyTok ER (cell d k) 0 c
  | .snd k d k' => iprop(dutyTok ER (cell c k) 0 (0 : Fin 4) ∗ dutyTok ER (cell d k') 0 (0 : Fin 4))
def posn (c : Dev nD) (k : K) : sProp 𝕄 := atPos ER (cell c k) 0 ∅ 0
def crd (c : Dev nD) (k : K) : sProp 𝕄 := cred (tallyAt (cell c k) () (expectK c k))
def zer (c : Dev nD) (k : K) : sProp 𝕄 := semVal (cell c k) 0

/-- The result array, the bands `outs` of it written. -/
def outR (c : Dev nD) (outs : List (Fin 13)) : sProp 𝕄 :=
  iprop(∃ f : Buf (Elt F) ((c : Thread nD τ).loc cc0_stg5_0),
    ⌜∀ j ∈ outs, ∀ i ∈ rows j, f i = xout m c i⌝ ∗ ((c : Thread nD τ).loc cc0_stg5_0) ↦[Finset.univ]{fullShare} f)

/-- Device `c` between two operations: it still owes `todo` and holds the tokens to pay it; it is at the start of the
    cells `ps`, holds the credit to wait for `cs`, is done with the cells `zs`; it holds the pieces `ds`; of its
    result the bands `outs` are written. -/
def St (c : Dev nD) (todo : List Pay) (ps cs zs : List K) (ds : List Res) (outs : List (Fin 13)) : sProp 𝕄 :=
  iprop((recs m Kn ∗ levAts L lv) ∗ (∃ W, owes (c : Thread nD τ) (owedL todo) W) ∗ lst (tok c) todo
    ∗ lst (posn c) ps ∗ lst (crd c) cs ∗ lst (zer c) zs ∗ lst (interp m) ds ∗ outR m c outs)

abbrev WP (c : Dev nD) {α : Type} (p : Prog (TpuEff nD τ sig (Elt F) Λ₀ (c : Thread nD τ).2) α) (Q : α → sProp 𝕄) : sProp 𝕄 :=
  wp frame (wpE (defs₀ (F := F)) 𝒱₀ (c : Thread nD τ) none) Set.univ p Q

variable {m Kn}
variable {c : Dev nD} {todo : List Pay} {ps cs zs : List K} {ds : List Res} {outs : List (Fin 13)}
variable {α : Type}
variable {Q : α → sProp (MT nD τ sig Unit (Elt F) ℕ UU ℕ)}

/-! ## Signals, transfers, waits -/

theorem sig_rule {sem : Sem sig} {k : PUnit → Prog (TpuEff nD τ sig (Elt F) Λ₀ (c : Thread nD τ).2) α} {d : Dev nD} {key : K} {W : Finset (SemLoc sig × Unit)}
    (hs : SemLoc.reg sem = csem key) (hk : amtK key = 1) (hp : (c : Fin 4) ∈ payers d key) :
    iprop(cellInv ER (Rd m) (Kn (d, key)) (cell d key) ∗ owes (c : Thread nD τ) (owedL (.sig d key :: todo)) W ∗ dutyTok ER (cell d key) 0 (c : Fin 4)
        ∗ lst (interp m) (pay d key c) ∗ reached ER (cell d key) 0)
      ⊢ iprop((owes (c : Thread nD τ) (owedL todo) W -∗ WP c (k ⟨⟩) Q) -∗ WP c (.op (.semSignal ((d : Dev nD) : Thread nD τ) sem 1) k) Q) := by
  refine BIBase.Entails.trans ?_ (Rounds.wp_signal 𝒱₀ ER (Rd m) (c : Thread nD τ) none (dst := (d : Thread nD τ)) (sem := sem) (κ := Kn (d, key)) (d := (c : Fin 4)) (r := 0)
      (k' := 1) (by rw [hs, duties_cell, List.mem_toFinset]; exact hp) (by rw [hs, amount_cell]; exact hk) () (owedL todo) (O₀ := owedL (.sig d key :: todo)) (W := W)
      (by rw [hs]; show owedL todo + tallyAt (cell d key) () (amtK key) = _; rw [hk]))
  rw [hs, payload_cell]

theorem st_sig {dst : Dev nD} {sem : Sem sig} {n : ℤ} {k : PUnit → Prog (TpuEff nD τ sig (Elt F) Λ₀ (c : Thread nD τ).2) α}
    {d : Dev nD} {key : K} (hd : dst = d) (hs : SemLoc.reg sem = csem key) (hn : n = 1) (hk : amtK key = 1) (hp : (c : Fin 4) ∈ payers d key)
    (hw : within (pay d key c) ds)
    (h : St m Kn c todo ps cs zs (minus ds (pay d key c)) outs ⊢ WP c (k ⟨⟩) Q) :
    St m Kn c (.sig d key :: todo) ps cs zs ds outs ⊢ WP c (.op (.semSignal ((dst : Dev nD) : Thread nD τ) sem n) k) Q := by
  subst hd hn
  unfold St
  rw [show lst (tok (F := F) c) (Pay.sig dst key :: todo) = iprop(dutyTok ER (cell dst key) 0 c ∗ lst (tok c) todo) from rfl, lst_take (interp m) hw]
  iintro ⟨⟨#Hr, #Hl⟩, ⟨%W, HO⟩, ⟨Ht, Hts⟩, Hp, Hc, Hz, ⟨Hd, Hds⟩, Ho⟩
  iapply (sig_rule (Kn := Kn) hs hk hp) $$ [HO Ht Hd]
  · isplitr; · iapply (recs_inv m Kn (dst, key)); iexact Hr
    isplitl [HO]; · iexact HO
    isplitl [Ht]; · iexact Ht
    isplitl [Hd]; · iexact Hd
    iapply (recs_reached m Kn (dst, key)); iexact Hr
  iintro HO
  iapply h
  unfold St
  isplitr; · isplitr <;> iassumption
  isplitl [HO]; · iexists W; iexact HO
  isplitl [Hts]; · iexact Hts
  isplitl [Hp]; · iexact Hp
  isplitl [Hc]; · iexact Hc
  isplitl [Hz]; · iexact Hz
  isplitl [Hds]; · iexact Hds
  iexact Ho

theorem st_wait_gen {w : TpuEff nD τ sig (Elt F) Λ₀ (c : Thread nD τ).2 PUnit} {sm : SemLoc sig} {k' : ℕ}
    (hw : ∀ K : PUnit → sProp 𝕄, wpE (defs₀ (F := F)) 𝒱₀ (c : Thread nD τ) none Set.univ w K = waitSpec (c : Thread nD τ) Set.univ sm k' K)
    {k : PUnit → Prog (TpuEff nD τ sig (Elt F) Λ₀ (c : Thread nD τ).2) α}
    (key : K) (hs : sm = csem key) (hk : k' = expectK c key) (hps : within [key] ps) (hcs : within [key] cs) (hl : okWait c key todo)
    (h : St m Kn c todo (minus ps [key]) (minus cs [key]) (key :: zs) (payAll c key ++ ds) outs ⊢ WP c (k ⟨⟩) Q) :
    St m Kn c todo ps cs zs ds outs ⊢ WP c (.op w k) Q := by
  subst hs hk
  unfold St
  rw [lst_take (posn c) hps, lst_take (crd c) hcs, lst_one, lst_one]
  iintro ⟨⟨#Hr, #Hl⟩, ⟨%W, HO⟩, Hts, ⟨Hp, Hps⟩, ⟨Hc, Hcs⟩, Hz, Hds, Ho⟩
  unfold posn crd
  iapply (Rounds.wp_wait_rest_token 𝒱₀ ER (Rd m) (c : Thread nD τ) none (κ := Kn (c, key)) (sm := csem key) (k' := expectK c key)
      hw (Set.mem_univ _) () (O := owedL todo) (W := W) (R := 0) (m := 0) (T := ∅)
      (by rw [Nat.zero_add]; exact (expect_cell m c key).symm)) $$ [Hc HO Hp]
  · isplitr; · iapply (recs_inv m Kn (c, key)); iexact Hr
    isplitl [Hc]; · iexact Hc
    isplitl [HO]; · iexact HO
    isplitr; · iapply (mayWait c key todo hl); iexact Hl
    iexact Hp
  iintro ⟨HO, Hp, -, Hpay⟩
  imod (Rounds.cell_close ER (Rd m) (Set.mem_univ (Kn (c, key))) (fun h => h) (R := 0 + 1) (duties_later m (cell c key))) $$ [Hp] with Hz1
  · isplitr; · iapply (recs_inv m Kn (c, key)); iexact Hr
    iexact Hp
  ihave Hpay := (Entails.of_eq (rest_cell m c key)) $$ Hpay
  iapply h
  unfold St
  rw [lst_append, show lst (zer (F := F) c) (key :: zs) = iprop(semVal (cell c key) 0 ∗ lst (zer c) zs) from rfl]
  isplitr; · isplitr <;> iassumption
  isplitl [HO]; · iexists (insert (csem key, ()) W); iexact HO
  isplitl [Hts]; · iexact Hts
  isplitl [Hps]; · iexact Hps
  isplitl [Hcs]; · iexact Hcs
  isplitl [Hz1 Hz]; · isplitl [Hz1] <;> iassumption
  isplitl [Hpay Hds]; · isplitl [Hpay] <;> iassumption
  iexact Ho

theorem st_semWait {sem : Sem sig} {n : ℤ} {k : PUnit → Prog (TpuEff nD τ sig (Elt F) Λ₀ (c : Thread nD τ).2) α}
    (key : K) (hs : SemLoc.reg sem = csem key) (hn : n = 3) (hk : 3 = expectK c key) (hps : within [key] ps) (hcs : within [key] cs) (hl : okWait c key todo)
    (h : St m Kn c todo (minus ps [key]) (minus cs [key]) (key :: zs) (payAll c key ++ ds) outs ⊢ WP c (k ⟨⟩) Q) :
    St m Kn c todo ps cs zs ds outs ⊢ WP c (.op (.semWait sem n) k) Q := by
  subst hn
  exact st_wait_gen (wpE_semWait_eq 𝒱₀ (c : Thread nD τ) none Set.univ) key hs hk hps hcs hl h

theorem st_dmaWait {sp sp' : Space} {s : Shape} {e e' : EltTy} {src : Memref sig (c : Thread nD τ).2.kind sp' s e'} {κ : Kind} {dst : Memref sig κ sp s e}
    {sem : DmaSem sig} {hsrc : src.view.WordExact} {hdst : dst.view.WordExact}
    {k : PUnit → Prog (TpuEff nD τ sig (Elt F) Λ₀ (c : Thread nD τ).2) α}
    (key : K) (hs : SemLoc.dma sem = csem key) (hk : dst.view.dmaCredit = amtK key) (h1 : (payers c key).length = 1)
    (hps : within [key] ps) (hcs : within [key] cs) (hl : okWait c key todo)
    (h : St m Kn c todo (minus ps [key]) (minus cs [key]) (key :: zs) (payAll c key ++ ds) outs ⊢ WP c (k ⟨⟩) Q) :
    St m Kn c todo ps cs zs ds outs ⊢ WP c (.op (.waitDma2 sem src dst hsrc hdst) k) Q :=
  st_wait_gen (wpE_waitDma2_eq 𝒱₀ (c : Thread nD τ) none Set.univ) key hs (by rw [hk, expectK, h1, Nat.one_mul]) hps hcs hl h

theorem st_send {sp sp' : Space} {s : Shape} {e : EltTy} {dst' : Dev nD} {src : Memref sig (c : Thread nD τ).2.kind sp s e}
    {dst : Memref sig (dst' : Thread nD τ).2.kind sp' s e} {hsc : dst.view.ref.isScScratch = false} {sS sem : SemLoc sig}
    {hsrc : src.view.WordExact} {hdst : dst.view.WordExact} {hsem : DmaTarget.Typed sp sem (.remote (dst' : Thread nD τ) dst sS hsc)}
    {k : PUnit → Prog (TpuEff nD τ sig (Elt F) Λ₀ (c : Thread nD τ).2) α} {key key' : K} {d : Dev nD}
    (hs : sS = csem key) (hs' : sem = csem key') (hd : dst' = d)
    {a a' : A} {q : Fin 7} (fs : Buf (Elt F) (src.view.loc (c : Thread nD τ)))
    (hsrcP : interp m (c, .val a q) = (src.view.loc (c : Thread nD τ) ↦[src.view.set]{sh q} fs))
    (hdstP : interp m (dst', .any a') ⊢ iprop(∃ fd, dst.view.loc (dst' : Thread nD τ) ↦[dst.view.set]{fullShare} fd))
    (hland : ∀ fd, (dst.view.loc (dst' : Thread nD τ) ↦[dst.view.set]{fullShare} (dst.view.write (Elt F) fd (src.view.read (Elt F) fs) Finset.univ))
      ⊢ interp m (dst', .val a' 0))
    (hN : dst.view.amount sem = amtK key') (hk : amtK key = amtK key')
    (h1 : payers c key = [0]) (h2 : payers d key' = [0]) (hp1 : pay c key 0 = [(c, .val a q)]) (hp2 : pay d key' 0 = [(d, .val a' 0)])
    (hw : within [(c, .val a q), (d, .any a')] ds)
    (h : St m Kn c todo ps (key :: cs) zs (minus ds [(c, .val a q), (d, .any a')]) outs ⊢ WP c (k ⟨⟩) Q) :
    St m Kn c (.snd key d key' :: todo) ps cs zs ds outs
      ⊢ WP c (.op (.enqueueDma src (.remote (dst' : Thread nD τ) dst sS hsc) sem hsrc hdst hsem) k) Q := by
  subst hs hs' hd
  unfold St
  rw [show lst (tok (F := F) c) (Pay.snd key dst' key' :: todo)
      = iprop((dutyTok ER (cell c key) 0 (0 : Fin 4) ∗ dutyTok ER (cell dst' key') 0 (0 : Fin 4)) ∗ lst (tok c) todo) from rfl, lst_take (interp m) hw]
  rw [show lst (interp m) [(c, Dt.val a q), (dst', Dt.any a')] = iprop(interp m (c, .val a q) ∗ lst (interp m) [(dst', Dt.any a')]) from rfl, lst_one]
  iintro ⟨⟨#Hr, #Hl⟩, ⟨%W, HO⟩, ⟨⟨Ht, Ht'⟩, Hts⟩, Hps, Hcs, Hz, ⟨⟨Hs, Hd⟩, Hds⟩, Ho⟩
  ihave Hd := hdstP $$ Hd
  icases Hd with ⟨%fd, Hd⟩
  ihave Hs := (Entails.of_eq hsrcP) $$ Hs
  iapply (Rounds.wp_send_pointsTo 𝒱₀ ER (Rd m) (c : Thread nD τ) none (c' := (dst' : Thread nD τ)) (src := src) (dst := dst) (sS := csem key) (sem := csem key')
      (q := sh q) (fs := fs) (fd := fd) (r₁ := 0) (r₂ := 0) (d₁ := (0 : Fin 4)) (d₂ := (0 : Fin 4)) (κ₁ := Kn (c, key)) (κ₂ := Kn (dst', key'))
      (by rw [duties_cell, h1]; exact List.mem_toFinset.mpr (List.mem_singleton_self _)) (by rw [duties_cell, h2]; exact List.mem_toFinset.mpr (List.mem_singleton_self _))
      () () (amtK key') hN (by rw [amount_cell]; exact hk) (amount_cell m dst' key' 0 0) (owedL todo) rfl (W := W)
      (by rw [payload_cell, hp1, lst_one]; exact Entails.of_eq hsrcP.symm)
      (by rw [payload_cell, hp2, lst_one]; exact hland fd)) $$ [HO Ht Ht' Hs Hd]
  · isplitr; · iapply (recs_inv m Kn (c, key)); iexact Hr
    isplitr; · iapply (recs_inv m Kn (dst', key')); iexact Hr
    isplitl [Hs]; · iexact Hs
    isplitl [Hd]; · iexact Hd
    isplitl [HO]; · iexact HO
    isplitl [Ht]; · iexact Ht
    isplitr; · iapply (recs_reached m Kn (c, key)); iexact Hr
    isplitl [Ht']; · iexact Ht'
    iapply (recs_reached m Kn (dst', key')); iexact Hr
  iintro ⟨Hc, HO⟩
  iapply h
  unfold St
  rw [show lst (crd (F := F) c) (key :: cs) = iprop(crd c key ∗ lst (crd c) cs) from rfl]
  isplitr; · isplitr <;> iassumption
  isplitl [HO]; · iexists W; iexact HO
  isplitl [Hts]; · iexact Hts
  isplitl [Hps]; · iexact Hps
  isplitl [Hc Hcs]
  · isplitl [Hc]
    · unfold crd expectK; rw [h1, List.length_singleton, Nat.one_mul, hk]; iexact Hc
    iexact Hcs
  isplitl [Hz]; · iexact Hz
  isplitl [Hds]; · iexact Hds
  iexact Ho

/-! ## Loads and stores -/

/-- A load of a piece that is held at what it is to hold. -/
theorem st_load {sp : CoreSpace} {s : Shape} {e : EltTy} {mr : Memref sig (c : Thread nD τ).2.kind sp s e} {r : LoadRect s} {hl : mr.view.LoadsAt r}
    {k : (r.shape.Idx → Elt F e) → Prog (TpuEff nD τ sig (Elt F) Λ₀ (c : Thread nD τ).2) α} {S : Finset (Idx (mr.view.loc (c : Thread nD τ)))}
    {f : Buf (Elt F) (mr.view.loc (c : Thread nD τ))} (a : A) (q : Fin 7)
    (hP : interp m (c, .val a q) = (mr.view.loc (c : Thread nD τ) ↦[S]{sh q} f)) (hS : mr.view.setOn r.set ⊆ S)
    (hw : within [(c, .val a q)] ds)
    (h : St m Kn c todo ps cs zs ds outs ⊢ WP c (k (mr.view.readAt (Elt F) r f)) Q) :
    St m Kn c todo ps cs zs ds outs ⊢ WP c (.op (.load mr r hl) k) Q := by
  unfold St at h ⊢
  rw [lst_take (interp m) hw, lst_one, hP] at h ⊢
  iintro ⟨Hr, HO, Hts, Hps, Hcs, Hz, ⟨Hd, Hds⟩, Ho⟩
  iapply (wp_load 𝒱₀ (c : Thread nD τ) none Set.univ (m := mr) (r := r) hS) $$ Hd
  iintro Hd
  iapply h
  isplitl [Hr]; · iexact Hr
  isplitl [HO]; · iexact HO
  isplitl [Hts]; · iexact Hts
  isplitl [Hps]; · iexact Hps
  isplitl [Hcs]; · iexact Hcs
  isplitl [Hz]; · iexact Hz
  isplitl [Hd Hds]; · isplitl [Hd] <;> iassumption
  iexact Ho

/-- A load of a piece whose contents do not matter. -/
theorem st_load_any {sp : CoreSpace} {s : Shape} {e : EltTy} {mr : Memref sig (c : Thread nD τ).2.kind sp s e} {r : LoadRect s} {hl : mr.view.LoadsAt r}
    {k : (r.shape.Idx → Elt F e) → Prog (TpuEff nD τ sig (Elt F) Λ₀ (c : Thread nD τ).2) α} {S : Finset (Idx (mr.view.loc (c : Thread nD τ)))} (d : Dt)
    (hP : interp m (c, d) ⊢ iprop(∃ f, (mr.view.loc (c : Thread nD τ) ↦[S]{fullShare} f) ∗ ((mr.view.loc (c : Thread nD τ) ↦[S]{fullShare} f) -∗ interp m (c, d))))
    (hS : mr.view.setOn r.set ⊆ S) (hw : within [(c, d)] ds)
    (h : ∀ v, St m Kn c todo ps cs zs ds outs ⊢ WP c (k v) Q) :
    St m Kn c todo ps cs zs ds outs ⊢ WP c (.op (.load mr r hl) k) Q := by
  unfold St at h ⊢
  rw [lst_take (interp m) hw, lst_one] at h ⊢
  iintro ⟨Hr, HO, Hts, Hps, Hcs, Hz, ⟨Hd, Hds⟩, Ho⟩
  ihave Hd := hP $$ Hd
  icases Hd with ⟨%f, Hd, Hback⟩
  iapply (wp_load 𝒱₀ (c : Thread nD τ) none Set.univ (m := mr) (r := r) hS) $$ Hd
  iintro Hd
  iapply (h _)
  isplitl [Hr]; · iexact Hr
  isplitl [HO]; · iexact HO
  isplitl [Hts]; · iexact Hts
  isplitl [Hps]; · iexact Hps
  isplitl [Hcs]; · iexact Hcs
  isplitl [Hz]; · iexact Hz
  isplitl [Hd Hback Hds]
  · isplitl [Hd Hback]
    · iapply Hback; iexact Hd
    iexact Hds
  iexact Ho

theorem any_open (a : A) : interp m (c, .any a) ⊢ iprop(∃ f, (((c : Thread nD τ).loc (refOf a)) ↦[setOf a]{fullShare} f) ∗ ((((c : Thread nD τ).loc (refOf a)) ↦[setOf a]{fullShare} f) -∗ interp m (c, .any a))) := by
  unfold interp
  iintro ⟨%f, H⟩
  iexists f
  isplitl; · iexact H
  iintro H
  iexists f
  iexact H
theorem val_open (a : A) : interp m (c, .val a 0) ⊢ iprop(∃ f, (((c : Thread nD τ).loc (refOf a)) ↦[setOf a]{fullShare} f) ∗ ((((c : Thread nD τ).loc (refOf a)) ↦[setOf a]{fullShare} f) -∗ interp m (c, .val a 0))) := by
  unfold interp
  iintro H
  iexists (V m c a)
  isplitl; · iexact H
  iintro H
  iexact H
theorem half_open : interp m (c, .half) ⊢ iprop(∃ f, (((c : Thread nD τ).loc cc0_scratch0) ↦[slM.view.set]{fullShare} f) ∗ ((((c : Thread nD τ).loc cc0_scratch0) ↦[slM.view.set]{fullShare} f) -∗ interp m (c, .half))) := by
  unfold interp
  iintro ⟨%f, %h, H⟩
  iexists f
  isplitl; · iexact H
  iintro H
  iexists f
  isplitr; · ipureintro; exact h
  iexact H

/-- A store that turns a piece into another. -/
theorem st_store {sp : CoreSpace} {s : Shape} {e : EltTy} {mr : Memref sig (c : Thread nD τ).2.kind sp s e} {r : Rect s} {w : r.shape.Idx → Elt F e} {Mk : Finset r.shape.Idx}
    {hx : (mr.access r).Stores Mk} {hm : Mk = Finset.univ ∨ ∀ a, r.stride a = 1}
    {k : PUnit → Prog (TpuEff nD τ sig (Elt F) Λ₀ (c : Thread nD τ).2) α} {S : Finset (Idx ((mr.access r).loc (c : Thread nD τ)))} (d d' : Dt)
    (P : Buf (Elt F) ((mr.access r).loc (c : Thread nD τ)) → Prop)
    (hP : interp m (c, d) ⊢ iprop(∃ f, ⌜P f⌝ ∗ ((mr.access r).loc (c : Thread nD τ) ↦[S]{fullShare} f)))
    (hS : (mr.access r).setOn Mk ⊆ S) (hw : within [(c, d)] ds)
    (hQ : ∀ f, P f → ((mr.access r).loc (c : Thread nD τ) ↦[S]{fullShare} ((mr.access r).write (Elt F) f w Mk)) ⊢ interp m (c, d'))
    (h : St m Kn c todo ps cs zs ((c, d') :: minus ds [(c, d)]) outs ⊢ WP c (k ⟨⟩) Q) :
    St m Kn c todo ps cs zs ds outs ⊢ WP c (.op (.store mr r w Mk hx hm) k) Q := by
  unfold St at h ⊢
  rw [lst_take (interp m) hw, lst_one]
  rw [show lst (interp m) ((c, d') :: minus ds [(c, d)]) = iprop(interp m (c, d') ∗ lst (interp m) (minus ds [(c, d)])) from rfl] at h
  iintro ⟨Hr, HO, Hts, Hps, Hcs, Hz, ⟨Hd, Hds⟩, Ho⟩
  ihave Hd := hP $$ Hd
  icases Hd with ⟨%f, %hf, Hd⟩
  iapply (wp_store 𝒱₀ (c : Thread nD τ) none Set.univ (m := mr) (r := r) (Mk := Mk) hS) $$ Hd
  iintro Hd
  iapply h
  isplitl [Hr]; · iexact Hr
  isplitl [HO]; · iexact HO
  isplitl [Hts]; · iexact Hts
  isplitl [Hps]; · iexact Hps
  isplitl [Hcs]; · iexact Hcs
  isplitl [Hz]; · iexact Hz
  isplitl [Hd Hds]
  · isplitl [Hd]
    · iapply (hQ f hf); iexact Hd
    iexact Hds
  iexact Ho

theorem any_start (a : A) : interp m (c, .any a) ⊢ iprop(∃ f, ⌜True⌝ ∗ (((c : Thread nD τ).loc (refOf a)) ↦[setOf a]{fullShare} f)) := by
  unfold interp
  iintro ⟨%f, H⟩
  iexists f
  isplitr; · ipureintro; trivial
  iexact H
theorem half_start : interp m (c, .half) ⊢ iprop(∃ f, ⌜∀ i : S2048x8.Idx, (i 0).val < 32 → f i = xsl m c i⌝ ∗ (((c : Thread nD τ).loc cc0_scratch0) ↦[slM.view.set]{fullShare} f)) := by
  unfold interp
  exact .rfl

/-- A load of rows of the result array: their contents do not matter. -/
theorem st_load_out {r : LoadRect S2048x1024} {hl : (outM : Memref sig .tc .vmem S2048x1024 .f32).view.LoadsAt r}
    {k : (r.shape.Idx → Elt F .f32) → Prog (TpuEff nD τ sig (Elt F) Λ₀ (c : Thread nD τ).2) α}
    (h : ∀ v, St m Kn c todo ps cs zs ds outs ⊢ WP c (k v) Q) :
    St m Kn c todo ps cs zs ds outs ⊢ WP c (.op (.load (outM : Memref sig .tc .vmem S2048x1024 .f32) r hl) k) Q := by
  unfold St outR at h ⊢
  iintro ⟨Hr, HO, Hts, Hps, Hcs, Hz, Hds, ⟨%f, %hf, Ho⟩⟩
  iapply (wp_load 𝒱₀ (c : Thread nD τ) none Set.univ (m := outM) (r := r) (Finset.subset_univ _)) $$ Ho
  iintro Ho
  iapply (h _)
  isplitl [Hr]; · iexact Hr
  isplitl [HO]; · iexact HO
  isplitl [Hts]; · iexact Hts
  isplitl [Hps]; · iexact Hps
  isplitl [Hcs]; · iexact Hcs
  isplitl [Hz]; · iexact Hz
  isplitl [Hds]; · iexact Hds
  iexists f
  isplitr; · ipureintro; exact hf
  iexact Ho

/-- A store of band `j` of the result. -/
theorem st_store_out {r : Rect S2048x1024} {w : r.shape.Idx → Elt F .f32}
    {hx : ((outM : Memref sig .tc .vmem S2048x1024 .f32).access r).Stores Finset.univ} {hm : Finset.univ = Finset.univ ∨ ∀ a, r.stride a = 1}
    {k : PUnit → Prog (TpuEff nD τ sig (Elt F) Λ₀ (c : Thread nD τ).2) α} (j : Fin 13)
    (hset : r = band j) (hv : ∀ x : r.shape.Idx, w x = xout m c (r.emb x))
    (h : St m Kn c todo ps cs zs ds (j :: outs) ⊢ WP c (k ⟨⟩) Q) :
    St m Kn c todo ps cs zs ds outs ⊢ WP c (.op (.store (outM : Memref sig .tc .vmem S2048x1024 .f32) r w Finset.univ hx hm) k) Q := by
  unfold St outR at h ⊢
  iintro ⟨Hr, HO, Hts, Hps, Hcs, Hz, Hds, ⟨%f, %hf, Ho⟩⟩
  iapply (wp_store 𝒱₀ (c : Thread nD τ) none Set.univ (m := outM) (r := r) (Mk := Finset.univ) (Finset.subset_univ _)) $$ Ho
  iintro Ho
  iapply h
  isplitl [Hr]; · iexact Hr
  isplitl [HO]; · iexact HO
  isplitl [Hts]; · iexact Hts
  isplitl [Hps]; · iexact Hps
  isplitl [Hcs]; · iexact Hcs
  isplitl [Hz]; · iexact Hz
  isplitl [Hds]; · iexact Hds
  iexists (((outM : Memref sig .tc .vmem S2048x1024 .f32).access r).write (Elt F) f w Finset.univ)
  isplitr
  · ipureintro
    have hin : ∀ x : r.shape.Idx, ((outM : Memref sig .tc .vmem S2048x1024 .f32).access r).write (Elt F) f w Finset.univ (r.emb x) = xout m c (r.emb x) :=
      fun x => (View.write_emb_of_mem (v := (outM : Memref sig .tc .vmem S2048x1024 .f32).access r) f w (Finset.mem_univ x)).trans (hv x)
    intro j' hj' i hi
    by_cases hir : i ∈ r.set
    · rw [← Rect.map_emb_univ, Finset.mem_map] at hir
      obtain ⟨x, _, rfl⟩ := hir
      exact hin x
    · rw [View.write_of_not_mem _ _ _ (by
        intro hh
        rw [View.setOn_univ] at hh
        exact hir ((View.set_slice_whole cc0_stg5_0 r).subset hh))]
      rcases List.mem_cons.mp hj' with rfl | hj'
      · exact absurd (hset ▸ hi) hir
      · exact hf j' hj' i hi
  iexact Ho

/-! ## Rearrangements -/

theorem st_conv {X : sProp 𝕄} (xs ys : List Res) (hw : within xs ds) (hc : lst (interp m) xs ⊢ lst (interp m) ys)
    (h : St m Kn c todo ps cs zs (ys ++ minus ds xs) outs ⊢ X) : St m Kn c todo ps cs zs ds outs ⊢ X := by
  unfold St at h ⊢
  rw [lst_append] at h
  rw [lst_take (interp m) hw]
  refine BIBase.Entails.trans ?_ h
  iintro ⟨Hr, HO, Hts, Hps, Hcs, Hz, ⟨Hd, Hds⟩, Ho⟩
  isplitl [Hr]; · iexact Hr
  isplitl [HO]; · iexact HO
  isplitl [Hts]; · iexact Hts
  isplitl [Hps]; · iexact Hps
  isplitl [Hcs]; · iexact Hcs
  isplitl [Hz]; · iexact Hz
  isplitl [Hd Hds]
  · isplitl [Hd]
    · iapply hc; iexact Hd
    iexact Hds
  iexact Ho

theorem st_norm {X : sProp 𝕄} (todo' : List Pay) (ps' cs' zs' : List K) (ds' : List Res) (outs' : List (Fin 13))
    (h0 : todo = todo') (h1 : ps.Perm ps') (h2 : cs.Perm cs') (h3 : zs.Perm zs') (h4 : ds.Perm ds') (h5 : outs = outs')
    (h : St m Kn c todo' ps' cs' zs' ds' outs' ⊢ X) : St m Kn c todo ps cs zs ds outs ⊢ X := by
  subst h0 h5
  unfold St at h ⊢
  rwa [lst_perm _ h1, lst_perm _ h2, lst_perm _ h3, lst_perm _ h4]

theorem share_split (d : Dev nD) (a : A) (q q1 q2 : Fin 7) (h : ∃ p : PosShare TreeShare, sh q = p ∧ sh q1 = p.left ∧ sh q2 = p.right) :
    lst (interp m) [(d, .val a q)] ⊢ lst (interp m) [(d, .val a q1), (d, .val a q2)] := by
  obtain ⟨p, e, e1, e2⟩ := h
  show _ ⊢ iprop(interp m (d, .val a q1) ∗ lst (interp m) [(d, .val a q2)])
  rw [lst_one, lst_one]
  have hv : ∀ q, interp m (d, .val a q) = iprop(((d : Thread nD τ).loc (refOf a)) ↦[setOf a]{sh q} (V m d a)) := fun _ => rfl
  rw [hv, hv, hv, e, e1, e2]
  exact (pointsTo_share (PosShare.mem_left_op_right p)).1
theorem share_join (d : Dev nD) (a : A) (q q1 q2 : Fin 7) (h : ∃ p : PosShare TreeShare, sh q = p ∧ sh q1 = p.left ∧ sh q2 = p.right) :
    lst (interp m) [(d, .val a q1), (d, .val a q2)] ⊢ lst (interp m) [(d, .val a q)] := by
  obtain ⟨p, e, e1, e2⟩ := h
  show iprop(interp m (d, .val a q1) ∗ lst (interp m) [(d, .val a q2)]) ⊢ _
  rw [lst_one, lst_one]
  have hv : ∀ q, interp m (d, .val a q) = iprop(((d : Thread nD τ).loc (refOf a)) ↦[setOf a]{sh q} (V m d a)) := fun _ => rfl
  rw [hv, hv, hv, e, e1, e2]
  exact (pointsTo_share (PosShare.mem_left_op_right p)).2
theorem forget (d : Dev nD) (a : A) : interp m (d, .val a 0) ⊢ interp m (d, .any a) := by
  unfold interp
  iintro H
  iexists (V m d a)
  iexact H

end Cert.KernelIdeal.Exchange

end
-- ==== Proof.Ideal.Steps.lean ====
/-
The operations of this kernel, one lemma per kind: the transfers of the two all-to-all exchanges, of the sliver
and of the broadcast bands, and the loads and stores of the pieces.
-/
module

public import proofs.«01_k».proof.Proof.Ideal.State
public import Idealize.ShloMosaic.Lib.Exec.Geometry

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {Kn : Dev nD × K → ℕ}
variable {c : Dev nD} {todo : List Pay} {ps cs zs : List K} {ds : List Res} {outs : List (Fin 13)}
variable {α : Type}
variable {Q : α → sProp (MT nD τ sig Unit (Elt F) ℕ UU ℕ)}

/-! ## Beginning and end of a piece of program -/

/-- A piece of program may be run before its continuation is looked at. -/
theorem st_bind {β : Type} {S : sProp 𝕄} {p : Prog (TpuEff nD τ sig (Elt F) Λ₀ (c : Thread nD τ).2) β} {f : β → Prog (TpuEff nD τ sig (Elt F) Λ₀ (c : Thread nD τ).2) α}
    (h : S ⊢ WP c p (fun x => WP c (f x) Q)) : S ⊢ WP c (p >>= f) Q := by
  show S ⊢ wp frame (wpE (defs₀ (F := F)) 𝒱₀ (c : Thread nD τ) none) Set.univ (p >>= f) Q
  rw [wp_bind]; exact h

/-- A part whose proof is at hand, followed by the rest. -/
theorem st_part {β : Type} {S S' : sProp 𝕄} {r : β} {p : Prog (TpuEff nD τ sig (Elt F) Λ₀ (c : Thread nD τ).2) β} {f : β → Prog (TpuEff nD τ sig (Elt F) Λ₀ (c : Thread nD τ).2) α}
    (hp : ∀ R : β → sProp (MT nD τ sig Unit (Elt F) ℕ UU ℕ), (S' ⊢ R r) → S ⊢ WP c p R) (h : S' ⊢ WP c (f r) Q) : S ⊢ WP c (p >>= f) Q :=
  st_bind (hp _ h)

/-- One operation followed by the rest. -/
theorem st_lift {β : Type} {S : sProp 𝕄} {e : TpuEff nD τ sig (Elt F) Λ₀ (c : Thread nD τ).2 β} {f : β → Prog (TpuEff nD τ sig (Elt F) Λ₀ (c : Thread nD τ).2) α}
    (h : S ⊢ WP c (.op e f) Q) : S ⊢ WP c (Prog.lift e >>= f) Q := h

/-- The end of a piece of program, the lists brought to another order. -/
theorem st_ret {x : α} {todo' : List Pay} {ps' cs' zs' : List K} {ds' : List Res} {outs' : List (Fin 13)}
    (h : St m Kn c todo' ps' cs' zs' ds' outs' ⊢ Q x)
    (h0 : todo = todo' := by decide +kernel) (h1 : ps.Perm ps' := by decide +kernel) (h2 : cs.Perm cs' := by decide +kernel)
    (h3 : zs.Perm zs' := by decide +kernel) (h4 : ds.Perm ds' := by decide +kernel) (h5 : outs = outs' := by decide +kernel) :
    St m Kn c todo ps cs zs ds outs ⊢ WP c (.ret x) Q := by
  show _ ⊢ wp frame (wpE (defs₀ (F := F)) 𝒱₀ (c : Thread nD τ) none) Set.univ (.ret x) Q
  rw [wp_ret]
  exact BIBase.Entails.trans (st_norm _ _ _ _ _ _ h0 h1 h2 h3 h4 h5 h) fupd_intro

/-- A wait for a transfer to complete. -/
theorem wt (key : K) {sp sp' : Space} {s : Shape} {e e' : EltTy} {src : Memref sig (c : Thread nD τ).2.kind sp' s e'} {κ : Kind} {dst : Memref sig κ sp s e}
    {sem : DmaSem sig} {hsrc : src.view.WordExact} {hdst : dst.view.WordExact} {k : PUnit → Prog (TpuEff nD τ sig (Elt F) Λ₀ (c : Thread nD τ).2) α}
    (h : St m Kn c todo (minus ps [key]) (minus cs [key]) (key :: zs) (payAll c key ++ ds) outs ⊢ WP c (k ⟨⟩) Q)
    (hs : SemLoc.dma sem = csem key := by rfl) (hk : dst.view.dmaCredit = amtK key := by rfl) (h1 : (payers c key).length = 1 := by decide +kernel)
    (hps : within [key] ps := by decide +kernel) (hcs : within [key] cs := by decide +kernel) (hl : okWait c key todo := by decide +kernel) :
    St m Kn c todo ps cs zs ds outs ⊢ WP c (.op (.waitDma2 sem src dst hsrc hdst) k) Q :=
  st_dmaWait key hs hk h1 hps hcs hl h

/-! ## The broadcast bands -/

set_option backward.proofsInPublic true in
/-- The cell of a device that its sending of band `j` completes on, and the one that band `j` arrives on. -/
def keyS (j : Fin 12) : K := ⟨(16 + j.val) % 40, Nat.mod_lt _ (by decide)⟩
set_option backward.proofsInPublic true in
def keyR (j : Fin 12) : K := ⟨((if j.val % 2 = 0 then 28 else 34) + j.val / 2) % 40, Nat.mod_lt _ (by decide)⟩
/-- The next device on band `j`'s way. -/
def hop (c : Dev nD) (j : Fin 12) : Dev nD := if j.val % 2 = 0 then c + 1 else c + 3
/-- The share of a band that device `c` sends from. -/
def qOf (c : Dev nD) : Fin 7 := if c = 0 then 0 else 2
/-- Whether device `c` sends band `j` on. -/
def sends (c : Dev nD) (j : Fin 12) : Bool := if j.val % 2 = 0 then c != 3 else c != 1
abbrev bsend (c : Dev nD) (j : Fin 12) : Pay := .snd (keyS j) (hop c j) (keyR j)

theorem bc_facts : ∀ (c : Dev nD) (j : Fin 12), sends c j = true →
    payers c (keyS j) = [0] ∧ payers (hop c j) (keyR j) = [0] ∧ pay c (keyS j) 0 = [(c, .val (.bc j.castSucc) (qOf c))]
      ∧ pay (hop c j) (keyR j) 0 = [(hop c j, .val (.bc j.castSucc) 0)] := by decide +kernel
theorem bandK_facts : ∀ j : Fin 12, bandK (keyS j) = j.castSucc ∧ bandK (keyR j) = j.castSucc ∧ 16 ≤ (keyS j).val ∧ 16 ≤ (keyR j).val := by decide +kernel
theorem amt_bc (k : K) (h : 16 ≤ k.val) : amtK k = nB (bandK k) := by
  unfold amtK
  rw [if_neg (by omega), if_neg (by omega), if_neg (by omega), if_neg (by omega)]

theorem band_within : ∀ j : Fin 13, LoadRect.within (band j) (band j).toLoadRect = true := by decide +kernel
theorem slotL_within : ∀ s : Fin 3, LoadRect.within (slotL s) (slotL s).toLoadRect = true := by decide +kernel
theorem slotG_within : ∀ s : Fin 3, LoadRect.within (slotG s) (slotG s).toLoadRect = true := by decide +kernel

/-- Sending band `j` to the next device. -/
theorem sendB (j : Fin 12) {dst' : Dev nD} {r : Rect S2048x1024} {h1 h2 : ∀ a, r.stride a = 1} {sS sem : DmaSem sig}
    {hsc : (bcM.slice r h2 : Memref sig (dst' : Thread nD τ).2.kind .vmem r.shape .bf16).view.ref.isScScratch = false}
    {hsrc : (bcM.slice r h1 : Memref sig (c : Thread nD τ).2.kind .vmem r.shape .bf16).view.WordExact}
    {hdst : (bcM.slice r h2 : Memref sig (dst' : Thread nD τ).2.kind .vmem r.shape .bf16).view.WordExact}
    {hsem : DmaTarget.Typed .vmem (SemLoc.dma sem) (.remote (dst' : Thread nD τ) (bcM.slice r h2) (SemLoc.dma sS) hsc)}
    {k : PUnit → Prog (TpuEff nD τ sig (Elt F) Λ₀ (c : Thread nD τ).2) α} {key key' : K} {d : Dev nD}
    (h : St m Kn c todo ps (key :: cs) zs (minus ds [(c, .val (.bc j.castSucc) (qOf c)), (d, .any (.bc j.castSucc))]) outs ⊢ WP c (k ⟨⟩) Q)
    (hd : dst' = d) (hdj : d = hop c j := by decide +kernel) (hk : key = keyS j := by decide +kernel) (hk' : key' = keyR j := by decide +kernel)
    (hr : r = band j.castSucc := by rfl)
    (hs : SemLoc.dma sS = csem key := by rfl) (hs' : SemLoc.dma sem = csem key' := by rfl)
    (hj : sends c j = true := by decide +kernel)
    (hw : within [(c, .val (.bc j.castSucc) (qOf c)), (d, .any (.bc j.castSucc))] ds := by decide +kernel) :
    St m Kn c (.snd key d key' :: todo) ps cs zs ds outs
      ⊢ WP c (.op (.enqueueDma (bcM.slice r h1) (.remote (dst' : Thread nD τ) (bcM.slice r h2) (.dma sS) hsc) (.dma sem) hsrc hdst hsem) k) Q := by
  subst hdj hr hk hk'
  obtain ⟨f1, f2, f3, f4⟩ := bc_facts c j hj
  obtain ⟨g1, g2, g3, g4⟩ := bandK_facts j
  refine st_send hs hs' hd (a := .bc j.castSucc) (a' := .bc j.castSucc) (q := qOf c) (xbc m) rfl .rfl ?_ ?_ ?_ f1 f2 f3 f4 hw h
  · intro fd
    show _ ⊢ (((dst' : Thread nD τ).loc cc0_scratch6) ↦[(bcM.slice (band j.castSucc) h2).view.set]{fullShare} (xbc m) : sProp 𝕄)
    refine Entails.of_eq (pointsTo_congr ?_)
    intro i hi
    obtain ⟨x, -, rfl⟩ := Finset.mem_map.mp hi
    rw [View.write_emb_of_mem _ _ (Finset.mem_univ x)]
    rfl
  · rw [amt_bc _ g4, g2]
  · rw [amt_bc _ g3, amt_bc _ g4, g1, g2]

/-- Loading band `j` of the broadcast array. -/
theorem ldB (j : Fin 13) (q : Fin 7) {r : Rect S2048x1024} {hl : (bcM : Memref sig .tc .vmem S2048x1024 .bf16).view.LoadsAt r.toLoadRect}
    {k : (r.shape.Idx → Elt F .bf16) → Prog (TpuEff nD τ sig (Elt F) Λ₀ (c : Thread nD τ).2) α}
    (h : St m Kn c todo ps cs zs ds outs ⊢ WP c (k (bcM.view.readAt (Elt F) r.toLoadRect (xbc m))) Q)
    (hr : r = band j := by rfl) (hw : within [(c, .val (.bc j) q)] ds := by decide +kernel) :
    St m Kn c todo ps cs zs ds outs ⊢ WP c (.op (.load (bcM : Memref sig .tc .vmem S2048x1024 .bf16) r.toLoadRect hl) k) Q := by
  subst hr
  exact st_load (.bc j) q rfl (Memref.setOn_subset_slice_of_within bcM (band j) (fun _ => rfl) _ (band_within j)) hw h
theorem ldB_any (j : Fin 13) {r : Rect S2048x1024} {hl : (bcM : Memref sig .tc .vmem S2048x1024 .bf16).view.LoadsAt r.toLoadRect}
    {k : (r.shape.Idx → Elt F .bf16) → Prog (TpuEff nD τ sig (Elt F) Λ₀ (c : Thread nD τ).2) α}
    (h : ∀ v, St m Kn c todo ps cs zs ds outs ⊢ WP c (k v) Q)
    (hr : r = band j := by rfl) (hw : within [(c, .any (.bc j))] ds := by decide +kernel) :
    St m Kn c todo ps cs zs ds outs ⊢ WP c (.op (.load (bcM : Memref sig .tc .vmem S2048x1024 .bf16) r.toLoadRect hl) k) Q := by
  subst hr
  exact st_load_any (.any (.bc j)) (any_open (.bc j)) (Memref.setOn_subset_slice_of_within bcM (band j) (fun _ => rfl) _ (band_within j)) hw h

/-- Storing band `j` of the broadcast array. -/
theorem stB (j : Fin 13) {r : Rect S2048x1024} {w : r.shape.Idx → Elt F .bf16}
    {hx : ((bcM : Memref sig .tc .vmem S2048x1024 .bf16).access r).Stores Finset.univ} {hm : Finset.univ = Finset.univ ∨ ∀ a, r.stride a = 1}
    {k : PUnit → Prog (TpuEff nD τ sig (Elt F) Λ₀ (c : Thread nD τ).2) α}
    (hv : ∀ x : r.shape.Idx, w x = xbc m (r.emb x))
    (h : St m Kn c todo ps cs zs ((c, .val (.bc j) 0) :: minus ds [(c, .any (.bc j))]) outs ⊢ WP c (k ⟨⟩) Q)
    (hr : r = band j := by rfl) (hw : within [(c, .any (.bc j))] ds := by decide +kernel) :
    St m Kn c todo ps cs zs ds outs ⊢ WP c (.op (.store (bcM : Memref sig .tc .vmem S2048x1024 .bf16) r w Finset.univ hx hm) k) Q := by
  subst hr
  refine st_store (.any (.bc j)) (.val (.bc j) 0) (fun _ => True) (any_start (.bc j))
    (Memref.setOn_access_subset_slice_of_within bcM (band j) (fun _ => rfl) _ _ (band_within j)) hw ?_ h
  intro f _
  refine Entails.of_eq (pointsTo_congr ?_)
  intro i hi
  obtain ⟨x, -, rfl⟩ := Finset.mem_map.mp hi
  refine (View.write_emb_of_mem (v := (bcM : Memref sig .tc .vmem S2048x1024 .bf16).access (band j)) f w (Finset.mem_univ x)).trans ?_
  exact hv x

/-! ## The two all-to-all exchanges and the sliver -/

set_option backward.proofsInPublic true in
/-- Transfer `i` of an exchange goes to the device `i + 1` further, into its slot `2 - i`. -/
def aaDst (c : Dev nD) (i : Fin 3) : Dev nD := ⟨(c.val + i.val + 1) % 4, Nat.mod_lt _ (by decide)⟩
def aaSlot (i : Fin 3) : Fin 3 := 2 - i
set_option backward.proofsInPublic true in
def aaQ (i : Fin 3) : Fin 7 := ⟨(4 + i.val) % 7, Nat.mod_lt _ (by decide)⟩
set_option backward.proofsInPublic true in
def keyAt (b i : ℕ) : K := ⟨(b + i) % 40, Nat.mod_lt _ (by decide)⟩

theorem aa_facts : ∀ (c : Dev nD) (i : Fin 3), src (aaDst c i) (aaSlot i) = c
    ∧ payers c (keyAt 2 i.val) = [0] ∧ payers (aaDst c i) (keyAt 5 (aaSlot i).val) = [0]
    ∧ pay c (keyAt 2 i.val) 0 = [(c, .val .sl (aaQ i))] ∧ pay (aaDst c i) (keyAt 5 (aaSlot i).val) 0 = [(aaDst c i, .val (.aaL (aaSlot i)) 0)]
    ∧ payers c (keyAt 8 i.val) = [0] ∧ payers (aaDst c i) (keyAt 11 (aaSlot i).val) = [0]
    ∧ pay c (keyAt 8 i.val) 0 = [(c, .val .og (aaQ i))] ∧ pay (aaDst c i) (keyAt 11 (aaSlot i).val) 0 = [(aaDst c i, .val (.aaG (aaSlot i)) 0)] := by decide +kernel
theorem amt_aa : ∀ i : Fin 3, amtK (keyAt 2 i.val) = nL ∧ amtK (keyAt 5 i.val) = nL ∧ amtK (keyAt 8 i.val) = nG ∧ amtK (keyAt 11 i.val) = nG := by
  intro i; fin_cases i <;> exact ⟨rfl, rfl, rfl, rfl⟩

/-- Sending the denominators' block. -/
theorem sendL (i : Fin 3) {s : Fin 3} {dst' : Dev nD} {sS sem : DmaSem sig}
    {hsc : (aaLS s : Memref sig (dst' : Thread nD τ).2.kind .vmem S2048x8 .f32).view.ref.isScScratch = false}
    {hsrc : (slM : Memref sig (c : Thread nD τ).2.kind .vmem S2048x8 .f32).view.WordExact}
    {hdst : (aaLS s : Memref sig (dst' : Thread nD τ).2.kind .vmem S2048x8 .f32).view.WordExact}
    {hsem : DmaTarget.Typed .vmem (SemLoc.dma sem) (.remote (dst' : Thread nD τ) (aaLS s) (SemLoc.dma sS) hsc)}
    {k : PUnit → Prog (TpuEff nD τ sig (Elt F) Λ₀ (c : Thread nD τ).2) α}
    (h : St m Kn c todo ps (keyAt 2 i.val :: cs) zs (minus ds [(c, .val .sl (aaQ i)), (aaDst c i, .any (.aaL (aaSlot i)))]) outs ⊢ WP c (k ⟨⟩) Q)
    (hd : dst' = aaDst c i) (hsl : s = aaSlot i := by rfl)
    (hs : SemLoc.dma sS = csem (keyAt 2 i.val) := by rfl) (hs' : SemLoc.dma sem = csem (keyAt 5 (aaSlot i).val) := by rfl)
    (hw : within [(c, .val .sl (aaQ i)), (aaDst c i, .any (.aaL (aaSlot i)))] ds := by decide +kernel) :
    St m Kn c (.snd (keyAt 2 i.val) (aaDst c i) (keyAt 5 (aaSlot i).val) :: todo) ps cs zs ds outs
      ⊢ WP c (.op (.enqueueDma (slM : Memref sig .tc .vmem S2048x8 .f32) (.remote (dst' : Thread nD τ) (aaLS s) (.dma sS) hsc) (.dma sem) hsrc hdst hsem) k) Q := by
  subst hsl
  obtain ⟨f0, f1, f2, f3, f4, -, -, -, -⟩ := aa_facts c i
  refine st_send hs hs' hd (a := .sl) (a' := .aaL (aaSlot i)) (q := aaQ i) (xsl m c) rfl .rfl ?_ ?_ ?_ f1 f2 f3 f4 hw h
  · intro fd
    subst hd
    rw [View.pointsTo_write_univ_congr _ _ _ _ (m (((aaDst c i : Dev nD) : Thread nD τ).loc cc0_scratch1))]
    show _ ⊢ ((((aaDst c i : Dev nD) : Thread nD τ).loc cc0_scratch1) ↦[(aaLS (aaSlot i)).view.set]{fullShare} (raaL m (aaDst c i) (aaSlot i)) : sProp 𝕄)
    unfold raaL
    rw [f0]
  · rw [(amt_aa (aaSlot i)).2.1]
  · rw [(amt_aa (aaSlot i)).2.1, (amt_aa i).1]

/-- Sending the numerators' block. -/
theorem sendG (i : Fin 3) {s : Fin 3} {dst' : Dev nD} {sS sem : DmaSem sig}
    {hsc : (aaGS s : Memref sig (dst' : Thread nD τ).2.kind .vmem S32x1024 .bf16).view.ref.isScScratch = false}
    {hsrc : (ogM : Memref sig (c : Thread nD τ).2.kind .vmem S32x1024 .bf16).view.WordExact}
    {hdst : (aaGS s : Memref sig (dst' : Thread nD τ).2.kind .vmem S32x1024 .bf16).view.WordExact}
    {hsem : DmaTarget.Typed .vmem (SemLoc.dma sem) (.remote (dst' : Thread nD τ) (aaGS s) (SemLoc.dma sS) hsc)}
    {k : PUnit → Prog (TpuEff nD τ sig (Elt F) Λ₀ (c : Thread nD τ).2) α}
    (h : St m Kn c todo ps (keyAt 8 i.val :: cs) zs (minus ds [(c, .val .og (aaQ i)), (aaDst c i, .any (.aaG (aaSlot i)))]) outs ⊢ WP c (k ⟨⟩) Q)
    (hd : dst' = aaDst c i) (hsl : s = aaSlot i := by rfl)
    (hs : SemLoc.dma sS = csem (keyAt 8 i.val) := by rfl) (hs' : SemLoc.dma sem = csem (keyAt 11 (aaSlot i).val) := by rfl)
    (hw : within [(c, .val .og (aaQ i)), (aaDst c i, .any (.aaG (aaSlot i)))] ds := by decide +kernel) :
    St m Kn c (.snd (keyAt 8 i.val) (aaDst c i) (keyAt 11 (aaSlot i).val) :: todo) ps cs zs ds outs
      ⊢ WP c (.op (.enqueueDma (ogM : Memref sig .tc .vmem S32x1024 .bf16) (.remote (dst' : Thread nD τ) (aaGS s) (.dma sS) hsc) (.dma sem) hsrc hdst hsem) k) Q := by
  subst hsl
  obtain ⟨f0, -, -, -, -, f1, f2, f3, f4⟩ := aa_facts c i
  refine st_send hs hs' hd (a := .og) (a' := .aaG (aaSlot i)) (q := aaQ i) (xog m c) rfl .rfl ?_ ?_ ?_ f1 f2 f3 f4 hw h
  · intro fd
    subst hd
    rw [View.pointsTo_write_univ_congr _ _ _ _ (m (((aaDst c i : Dev nD) : Thread nD τ).loc cc0_scratch2))]
    show _ ⊢ ((((aaDst c i : Dev nD) : Thread nD τ).loc cc0_scratch2) ↦[(aaGS (aaSlot i)).view.set]{fullShare} (raaG m (aaDst c i) (aaSlot i)) : sProp 𝕄)
    unfold raaG
    rw [f0]
  · rw [(amt_aa (aaSlot i)).2.2.2]
  · rw [(amt_aa (aaSlot i)).2.2.2, (amt_aa i).2.2.1]

/-- Device 1's sending of the sliver. -/
theorem sendS {dst' : Dev nD} {sS sem : DmaSem sig}
    {hsc : (slivM : Memref sig (dst' : Thread nD τ).2.kind .vmem S128x1024 .bf16).view.ref.isScScratch = false}
    {hsrc : (oTailM : Memref sig ((1 : Dev nD) : Thread nD τ).2.kind .vmem S128x1024 .bf16).view.WordExact}
    {hdst : (slivM : Memref sig (dst' : Thread nD τ).2.kind .vmem S128x1024 .bf16).view.WordExact}
    {hsem : DmaTarget.Typed .vmem (SemLoc.dma sem) (.remote (dst' : Thread nD τ) slivM (SemLoc.dma sS) hsc)}
    {k : PUnit → Prog (TpuEff nD τ sig (Elt F) Λ₀ ((1 : Dev nD) : Thread nD τ).2) α}
    (h : St m Kn 1 todo ps (14 :: cs) zs (minus ds [(1, .val .oTail 0), (0, .any .sliv)]) outs ⊢ WP 1 (k ⟨⟩) Q)
    (hd : dst' = 0)
    (hs : SemLoc.dma sS = csem 14 := by rfl) (hs' : SemLoc.dma sem = csem 15 := by rfl)
    (hw : within [((1 : Dev nD), .val .oTail 0), (0, .any .sliv)] ds := by decide +kernel) :
    St m Kn 1 (.snd 14 0 15 :: todo) ps cs zs ds outs
      ⊢ WP 1 (.op (.enqueueDma (oTailM : Memref sig .tc .vmem S128x1024 .bf16) (.remote (dst' : Thread nD τ) slivM (.dma sS) hsc) (.dma sem) hsrc hdst hsem) k) Q := by
  refine st_send hs hs' hd (a := .oTail) (a' := .sliv) (q := 0) (xo m 1) rfl .rfl ?_ rfl rfl
    (by decide +kernel) (by decide +kernel) (by decide +kernel) (by decide +kernel) hw h
  intro fd
  show _ ⊢ (((dst' : Thread nD τ).loc cc0_scratch4) ↦[slivM.view.set]{fullShare} (xsliv m) : sProp 𝕄)
  refine Entails.of_eq (congrArg (fun f => (((dst' : Thread nD τ).loc cc0_scratch4) ↦[slivM.view.set]{fullShare} f : sProp 𝕄)) ?_)
  exact View.write_whole_univ cc0_scratch4 fd _

/-- Loading slot `s` of a receive array. -/
theorem ldAL (s : Fin 3) {r : Rect S3x2048x8} {hl : (aaLM : Memref sig .tc .vmem S3x2048x8 .f32).view.LoadsAt r.toLoadRect}
    {k : (r.shape.Idx → Elt F .f32) → Prog (TpuEff nD τ sig (Elt F) Λ₀ (c : Thread nD τ).2) α}
    (h : St m Kn c todo ps cs zs ds outs ⊢ WP c (k (aaLM.view.readAt (Elt F) r.toLoadRect (raaL m c s))) Q)
    (hr : r = slotL s := by rfl) (hw : within [(c, .val (.aaL s) 0)] ds := by decide +kernel) :
    St m Kn c todo ps cs zs ds outs ⊢ WP c (.op (.load (aaLM : Memref sig .tc .vmem S3x2048x8 .f32) r.toLoadRect hl) k) Q := by
  subst hr
  refine st_load (.aaL s) 0 rfl ?_ hw h
  exact Memref.subset_of_set_eq (Memref.setOn_subset_slice_of_within aaLM (slotL s) (fun _ => rfl) _ (slotL_within s))
    (Memref.set_view_squeeze _ squeezes_S1x2048x8_S2048x8)
theorem ldAG (s : Fin 3) {r : Rect S3x32x1024} {hl : (aaGM : Memref sig .tc .vmem S3x32x1024 .bf16).view.LoadsAt r.toLoadRect}
    {k : (r.shape.Idx → Elt F .bf16) → Prog (TpuEff nD τ sig (Elt F) Λ₀ (c : Thread nD τ).2) α}
    (h : St m Kn c todo ps cs zs ds outs ⊢ WP c (k (aaGM.view.readAt (Elt F) r.toLoadRect (raaG m c s))) Q)
    (hr : r = slotG s := by rfl) (hw : within [(c, .val (.aaG s) 0)] ds := by decide +kernel) :
    St m Kn c todo ps cs zs ds outs ⊢ WP c (.op (.load (aaGM : Memref sig .tc .vmem S3x32x1024 .bf16) r.toLoadRect hl) k) Q := by
  subst hr
  refine st_load (.aaG s) 0 rfl ?_ hw h
  exact Memref.subset_of_set_eq (Memref.setOn_subset_slice_of_within aaGM (slotG s) (fun _ => rfl) _ (slotG_within s))
    (Memref.set_view_squeeze _ squeezes_S1x32x1024_S32x1024)

/-! ## The denominators' send array and the sums -/

theorem head_write (f g : (cc0_scratch0 : Ref sig .tc).ty.Contents (Elt F)) (w : headL.shape.Idx → Elt F .f32) (i : S2048x8.Idx) (hi : (i 0).val < 32) :
    (slM.access headL).write (Elt F) f w Finset.univ i = (slM.access headL).write (Elt F) g w Finset.univ i := by
  have hm : i ∈ headL.set := by
    rw [LoadRect.mem_set]
    intro a
    fin_cases a
    · exact ⟨(i 0).val, hi, show (i 0).val = 0 + 1 * (i 0).val by omega⟩
    · exact ⟨(i 1).val, (i 1).isLt, show (i 1).val = 0 + 1 * (i 1).val by omega⟩
  rw [← Rect.map_emb_univ, Finset.mem_map] at hm
  obtain ⟨x, -, rfl⟩ := hm
  exact (View.write_emb_of_mem (v := (slM : Memref sig .tc .vmem S2048x8 .f32).access headL) f w (Finset.mem_univ x)).trans
    (View.write_emb_of_mem (v := (slM : Memref sig .tc .vmem S2048x8 .f32).access headL) g w (Finset.mem_univ x)).symm
theorem mem_rest (i : S2048x8.Idx) : i ∈ restL.set ↔ 32 ≤ (i 0).val := by
  rw [LoadRect.mem_set]
  constructor
  · intro h
    obtain ⟨k, hk, e⟩ := h 0
    have e' : (i 0).val = 32 + 1 * k := e
    omega
  · intro h a
    have h2 : (i 0).val < 2048 := (i 0).isLt
    fin_cases a
    · exact ⟨(i 0).val - 32, show (i 0).val - 32 < 2016 by omega, show (i 0).val = 32 + 1 * ((i 0).val - 32) by omega⟩
    · exact ⟨(i 1).val, (i 1).isLt, show (i 1).val = 0 + 1 * (i 1).val by omega⟩
theorem rest_write (f g : (cc0_scratch0 : Ref sig .tc).ty.Contents (Elt F)) (w : restL.shape.Idx → Elt F .f32) (i : S2048x8.Idx)
    (hi : (i 0).val < 32 → f i = g i) :
    (slM.access restL).write (Elt F) f w Finset.univ i = (slM.access restL).write (Elt F) g w Finset.univ i := by
  by_cases hm : i ∈ restL.set
  · rw [← Rect.map_emb_univ, Finset.mem_map] at hm
    obtain ⟨x, -, rfl⟩ := hm
    exact (View.write_emb_of_mem (v := (slM : Memref sig .tc .vmem S2048x8 .f32).access restL) f w (Finset.mem_univ x)).trans
      (View.write_emb_of_mem (v := (slM : Memref sig .tc .vmem S2048x8 .f32).access restL) g w (Finset.mem_univ x)).symm
  · have hn : i ∉ ((slM : Memref sig .tc .vmem S2048x8 .f32).access restL).setOn Finset.univ := fun hh => by
      rw [View.setOn_univ] at hh
      exact hm ((View.set_slice_whole cc0_scratch0 restL).subset hh)
    rw [View.write_of_not_mem _ _ _ hn, View.write_of_not_mem _ _ _ hn]
    exact hi (by by_contra h; exact hm ((mem_rest i).mpr (by omega)))
theorem rest_keeps (f : (cc0_scratch0 : Ref sig .tc).ty.Contents (Elt F)) (w : restL.shape.Idx → Elt F .f32) (i : S2048x8.Idx) (hi : (i 0).val < 32) :
    (slM.access restL).write (Elt F) f w Finset.univ i = f i := by
  refine View.write_of_not_mem _ _ _ fun hh => ?_
  rw [View.setOn_univ] at hh
  have := (mem_rest i).mp ((View.set_slice_whole cc0_scratch0 restL).subset hh)
  omega

/-- Storing the head rows of the denominators' send array. -/
theorem stHead {w : headL.shape.Idx → Elt F .f32}
    {hx : ((slM : Memref sig .tc .vmem S2048x8 .f32).access headL).Stores Finset.univ} {hm : Finset.univ = Finset.univ ∨ ∀ a, headL.stride a = 1}
    {k : PUnit → Prog (TpuEff nD τ sig (Elt F) Λ₀ (c : Thread nD τ).2) α}
    (h : St m Kn c todo ps cs zs ((c, .half) :: minus ds [(c, .any .sl)]) outs ⊢ WP c (k ⟨⟩) Q)
    (hv : w = k0_pay134 ((lgM : Memref sig .tc .vmem S32x8 .f32).view.readAt (Elt F) (Rect.unit (s := S32x8) ![0, 0] S32x8.size inb_S32x8_S32x8_0_0).toLoadRect (xlg m c)) := by rfl)
    (hw : within [(c, .any .sl)] ds := by decide +kernel) :
    St m Kn c todo ps cs zs ds outs ⊢ WP c (.op (.store (slM : Memref sig .tc .vmem S2048x8 .f32) headL w Finset.univ hx hm) k) Q := by
  subst hv
  refine st_store (.any .sl) .half (fun _ => True) (any_start .sl) (Memref.setOn_access_subset slM headL _) hw ?_ h
  intro f _
  unfold interp
  iintro H
  iexists _
  isplitr
  rotate_left
  · iexact H
  · ipureintro
    intro i hi
    unfold xsl
    rw [rest_keeps _ _ i hi]
    exact head_write _ _ _ i hi
/-- Storing the rows below. -/
theorem stRest {w : restL.shape.Idx → Elt F .f32}
    {hx : ((slM : Memref sig .tc .vmem S2048x8 .f32).access restL).Stores Finset.univ} {hm : Finset.univ = Finset.univ ∨ ∀ a, restL.stride a = 1}
    {k : PUnit → Prog (TpuEff nD τ sig (Elt F) Λ₀ (c : Thread nD τ).2) α}
    (h : St m Kn c todo ps cs zs ((c, .val .sl 0) :: minus ds [(c, .half)]) outs ⊢ WP c (k ⟨⟩) Q)
    (hv : w = k0_pay135 ((lM : Memref sig .tc .vmem S2048x8 .f32).view.readAt (Elt F) restL.toLoadRect (xl m c)) := by rfl)
    (hw : within [(c, .half)] ds := by decide +kernel) :
    St m Kn c todo ps cs zs ds outs ⊢ WP c (.op (.store (slM : Memref sig .tc .vmem S2048x8 .f32) restL w Finset.univ hx hm) k) Q := by
  subst hv
  refine st_store .half (.val .sl 0) _ half_start (Memref.setOn_access_subset slM restL _) hw ?_ h
  intro f hf
  refine Entails.of_eq (pointsTo_congr ?_)
  intro i _
  show _ = xsl m c i
  unfold xsl
  refine rest_write _ _ _ i fun hi => ?_
  rw [hf i hi]
  unfold xsl
  exact rest_keeps _ _ i hi

/-- Storing the denominators' sums. -/
theorem stAcc {r : Rect S2048x8} {w : r.shape.Idx → Elt F .f32}
    {hx : ((accM : Memref sig .tc .vmem S2048x8 .f32).access r).Stores Finset.univ} {hm : Finset.univ = Finset.univ ∨ ∀ a, r.stride a = 1}
    {k : PUnit → Prog (TpuEff nD τ sig (Elt F) Λ₀ (c : Thread nD τ).2) α}
    (hr : r = Rect.unit (s := S2048x8) ![0, 0] S2048x8.size inb_S2048x8_S2048x8_0_0) (hv : HEq w (xacc m c))
    (h : St m Kn c todo ps cs zs ((c, .val .acc 0) :: minus ds [(c, .any .acc)]) outs ⊢ WP c (k ⟨⟩) Q)
    (hw : within [(c, .any .acc)] ds := by decide +kernel) :
    St m Kn c todo ps cs zs ds outs ⊢ WP c (.op (.store (accM : Memref sig .tc .vmem S2048x8 .f32) r w Finset.univ hx hm) k) Q := by
  subst hr
  obtain rfl := eq_of_heq hv
  refine st_store (.any .acc) (.val .acc 0) (fun _ => True) (any_start .acc) (Memref.setOn_access_subset accM _ _) hw ?_ h
  intro f _
  refine Entails.of_eq (congrArg (fun f => (((c : Thread nD τ).loc cc0_scratch3) ↦[accM.view.set]{fullShare} f : sProp 𝕄)) ?_)
  exact Memref.write_access_unit_zero_univ (Elt F) cc0_scratch3 (by funext a; fin_cases a <;> rfl) _ f _
/-- Storing the last band's numerators. -/
theorem stTail {r : Rect S128x1024} {w : r.shape.Idx → Elt F .f32}
    {hx : ((tailM : Memref sig .tc .vmem S128x1024 .f32).access r).Stores Finset.univ} {hm : Finset.univ = Finset.univ ∨ ∀ a, r.stride a = 1}
    {k : PUnit → Prog (TpuEff nD τ sig (Elt F) Λ₀ (c : Thread nD τ).2) α}
    (hr : r = Rect.unit (s := S128x1024) ![0, 0] S128x1024.size inb_S128x1024_S128x1024_0_0) (hv : HEq w (xtail m))
    (h : St m Kn c todo ps cs zs ((c, .val .tail 0) :: minus ds [(c, .any .tail)]) outs ⊢ WP c (k ⟨⟩) Q)
    (hw : within [(c, .any .tail)] ds := by decide +kernel) :
    St m Kn c todo ps cs zs ds outs ⊢ WP c (.op (.store (tailM : Memref sig .tc .vmem S128x1024 .f32) r w Finset.univ hx hm) k) Q := by
  subst hr
  obtain rfl := eq_of_heq hv
  refine st_store (.any .tail) (.val .tail 0) (fun _ => True) (any_start .tail) (Memref.setOn_access_subset tailM _ _) hw ?_ h
  intro f _
  refine Entails.of_eq (congrArg (fun f => (((c : Thread nD τ).loc cc0_scratch5) ↦[tailM.view.set]{fullShare} f : sProp 𝕄)) ?_)
  exact Memref.write_access_unit_zero_univ (Elt F) cc0_scratch5 (by funext a; fin_cases a <;> rfl) _ f _

/-! ## Device 1's rows that leave for device 0 -/

theorem o_split (d : Dev nD) : lst (interp m) [(d, .val .o 0)] = lst (interp m) [(d, .val .oTail 0), (d, .val .oRest 0)] := by
  show _ = iprop(interp m (d, .val .oTail 0) ∗ lst (interp m) [(d, .val .oRest 0)])
  rw [lst_one, lst_one]
  have hs := pointsTo_split_subset (Ix := Unit) (Name := ℕ) (U := UU) (Lvl := ℕ) (q := fullShare) (f := xo m d) (ℓ := (d : Thread nD τ).loc cc0_stg0_0)
    (View.set_slice_subset (oM : Memref sig .tc .vmem S2048x1024 .bf16).view (Rect.unit (s := S2048x1024) ![1920, 0] S128x1024.size inb_S2048x1024_S128x1024_1920_0))
  exact BI.Entails.antisymm hs.1 hs.2

end Cert.KernelIdeal.Exchange

end
-- ==== Proof.Ideal.Prefix.lean ====
/-
What a device holds as its run goes on — the payments it still owes, the cells it still waits on, its pieces — and
the first part of the run, which every device goes through alike: the entry barrier, the sliver, the denominators'
send array, and the sending of both exchanges.
-/
module

public import proofs.«01_k».proof.Proof.Ideal.Steps

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {Kn : Dev nD × K → ℕ}

/-- A piece of the kernel's body at the call's own arrays and semaphores. -/
@[reducible] def app {β : Type 1} (p : (arg0 : Memref sig .tc .vmem S2048x1024 .bf16) → arg0.IsWhole → (arg1 : Memref sig .tc .vmem S32x1024 .bf16) → arg1.IsWhole → (arg2 : Memref sig .tc .vmem S2048x8 .f32) → arg2.IsWhole → (arg3 : Memref sig .tc .vmem S32x8 .f32) → arg3.IsWhole →
      (arg4 : Memref sig .tc .vmem S1024x1024 .bf16) → arg4.IsWhole → (arg5 : Memref sig .tc .vmem S2048x1024 .f32) → arg5.IsWhole → (arg6 : Memref sig .tc .vmem S2048x8 .f32) → arg6.IsWhole → (arg7 : Memref sig .tc .vmem S3x2048x8 .f32) → arg7.IsWhole →
      (arg8 : Memref sig .tc .vmem S3x32x1024 .bf16) → arg8.IsWhole → (arg9 : Memref sig .tc .vmem S2048x8 .f32) → arg9.IsWhole → (arg10 : Memref sig .tc .vmem S128x1024 .bf16) → arg10.IsWhole → (arg11 : Memref sig .tc .vmem S128x1024 .f32) → arg11.IsWhole →
      (arg12 : Memref sig .tc .vmem S2048x1024 .bf16) → arg12.IsWhole → DmaSems sig S3 → DmaSems sig S3 → DmaSems sig S3 → DmaSems sig S3 → DmaSems sig S_ → DmaSems sig S_ → DmaSems sig S12 → DmaSems sig S6 → DmaSems sig S6 → Sems sig S_ → β) : β :=
  p oM (Memref.isWhole_whole _) ogM (Memref.isWhole_whole _) lM (Memref.isWhole_whole _) lgM (Memref.isWhole_whole _) woM (Memref.isWhole_whole _) outM (Memref.isWhole_whole _) slM (Memref.isWhole_whole _) aaLM (Memref.isWhole_whole _) aaGM (Memref.isWhole_whole _) accM (Memref.isWhole_whole _) slivM (Memref.isWhole_whole _) tailM (Memref.isWhole_whole _) bcM (Memref.isWhole_whole _) cc0_scratch7 cc0_scratch8 cc0_scratch9 cc0_scratch10 cc0_scratch11 cc0_scratch12 cc0_scratch13 cc0_scratch14 cc0_scratch15 cc0_scoped0

/-! ## What a device owes, waits on and holds -/

def fin12 : List (Fin 12) := [0, 1, 2, 3, 4, 5, 6, 7, 8, 9, 10, 11]
/-- The bands device `c` sends on, in the order it does. -/
def sent (c : Dev nD) : List (Fin 12) := fin12.filter (sends c)
/-- The bands device `c` receives. -/
def recvd (c : Dev nD) : List (Fin 12) := if c = 0 then [] else fin12

/-- The signals of a barrier. -/
def sigs (c : Dev nD) (k : K) : List Pay := [.sig (aaDst c 0) k, .sig (aaDst c 1) k, .sig (aaDst c 2) k]
/-- What is owed from the broadcast on. -/
def owedB (c : Dev nD) : List Pay := (sent c).map (bsend c) ++ sigs c 1
/-- The two transfers to the device `i + 1` further. -/
abbrev payL (c : Dev nD) (i : Fin 3) : Pay := .snd (keyAt 2 i.val) (aaDst c i) (keyAt 5 (aaSlot i).val)
abbrev payG (c : Dev nD) (i : Fin 3) : Pay := .snd (keyAt 8 i.val) (aaDst c i) (keyAt 11 (aaSlot i).val)
/-- What is owed after `n` transfers of the exchanges. -/
def owedA (c : Dev nD) (n : ℕ) : List Pay := [payL c 0, payG c 0, payL c 1, payG c 1, payL c 2, payG c 2].drop n ++ owedB c
/-- What is owed at the start. -/
def owed0 (c : Dev nD) : List Pay := sigs c 0 ++ ((if c = 1 then [.snd 14 0 15] else []) ++ owedA c 0)

def cells0 : List K := List.finRange 40
/-- The cells that others pay. -/
def creds0 (c : Dev nD) : List K := 0 :: 1 :: [5, 6, 7, 11, 12, 13] ++ ((if c = 0 then [15] else []) ++ (recvd c).map keyR)
/-- The credit held after `n` transfers of the exchanges. -/
def credsA (c : Dev nD) (n : ℕ) : List K :=
  (((List.finRange 3).flatMap fun i => [keyAt 2 i.val, keyAt 8 i.val]).take n) ++ ((if c = 1 then [14] else []) ++ minus (creds0 c) [0])

/-- The pieces of device `c` that it only reads. -/
def fixedP (c : Dev nD) : List Res := [(c, .val .l 0), (c, .val .lg 0), (c, .val .wo 0)]
/-- The pieces of device `c` that no other device writes. -/
def ownP (c : Dev nD) : List Res := [(c, .any .acc), (c, .any .tail), (c, .any (.bc 12))]
/-- The pieces at the start. -/
def held0 (c : Dev nD) : List Res :=
  fixedP c ++ (ownP c ++ ((c, .val .o 0) :: (c, .val .og 0) :: (c, .any .sl) :: (c, .any .sliv) ::
    (((List.finRange 3).flatMap fun s => [(c, .any (.aaL s)), (c, .any (.aaG s))]) ++ fin12.map fun j => (c, .any (.bc j.castSucc)))))
/-- The places of band `j` that device `c` still holds when it starts the broadcast: its own where it does not
    receive the band, the next device's where it sends it. -/
def places (c : Dev nD) : List Res :=
  (if c = 0 then fin12.map fun j => (c, Dt.any (.bc j.castSucc)) else []) ++ (sent c).map fun j => (hop c j, Dt.any (.bc j.castSucc))
/-- The pieces after `n` transfers of the exchanges. -/
def heldA (c : Dev nD) (n : ℕ) : List Res :=
  (((List.finRange 3).flatMap fun i => [[(c, Dt.val .sl (aaQ i)), (aaDst c i, .any (.aaL (aaSlot i)))], [(c, .val .og (aaQ i)), (aaDst c i, .any (.aaG (aaSlot i)))]]).drop n).flatten
    ++ ((c, .val .sl 3) :: (c, .val .og 3) :: (c, .val (if c = 1 then .oRest else .o) 0) :: (if c = 0 then [] else [(c, .any .sliv)]) ++ (places c ++ (ownP c ++ fixedP c)))

/-- The cells that device `c`'s own transfers of the exchanges and the sliver complete on. -/
def aaKeys (c : Dev nD) : List K := [2, 8, 3, 9, 4, 10] ++ if c = 1 then [14] else []

variable (m Kn) in
/-- Device `c` past the exchanges: the bands `sk` sent on, the cells `W` waited for. -/
abbrev At (c : Dev nD) (todo : List Pay) (sk : List (Fin 12)) (W : List K) (ds : List Res) (outs : List (Fin 13)) : sProp 𝕄 :=
  St m Kn c todo (minus cells0 W) (minus (creds0 c ++ (aaKeys c ++ sk.map keyS)) W) W ds outs

/-- The device's index as the body computes it. -/
def word (c : Dev nD) : BitVec 32 := Scalar.remsi (Scalar.divsi (Dev.word c) 1#32) 4#32

omit [FloatOps F] in
theorem dev_cases : ∀ c : Dev nD, c = 0 ∨ c = 1 ∨ c = 2 ∨ c = 3 := by decide

/-! ## The common first part -/

/-- The pieces after the first two signals. -/
def held1 (c : Dev nD) : List Res := minus (held0 c) (give c (aaDst c 0) ++ give c (aaDst c 1))

theorem p60 (c : Dev nD) {Q} (h : ∀ v30 v31, St m Kn c (.sig (aaDst c 2) 0 :: ((if c = 1 then [.snd 14 0 15] else []) ++ owedA c 0)) cells0 (creds0 c) [] (held1 c) []
      ⊢ Q ⟨c, word c, SemArray.scalar (sig.barrier 0 rfl), v30, 4#32, v31⟩) :
    St m Kn c (owed0 c) cells0 (creds0 c) [] (held0 c) [] ⊢ WP c (app (k0_part60 (F := F))) Q := by
  rw [k0_part60_eq_skeleton]
  unfold app k0_part60_skel
  simp only [semSignalWord, Prog.lift, Prog.bind_op, Prog.bind_ret, Prog.pure_eq_ret, wp_deviceId]
  obtain rfl | rfl | rfl | rfl := dev_cases c
  all_goals
    refine st_sig (d := aaDst _ 0) (by decide +kernel) (key := 0) rfl rfl rfl (by decide +kernel) (by decide +kernel) ?_
    refine st_sig (d := aaDst _ 1) (by decide +kernel) (key := 0) rfl rfl rfl (by decide +kernel) (by decide +kernel) ?_
    exact st_ret (h _ _)

/-- The denominators' send array and the numerators' block, each cut in the four shares they are read from. -/
theorem cut4 (c : Dev nD) (a : A) : lst (interp m) [(c, .val a 0)] ⊢ lst (interp m) [(c, .val a 3), (c, .val a 4), (c, .val a 5), (c, .val a 6)] := by
  refine BIBase.Entails.trans (share_split c a 0 1 2 ⟨_, rfl, rfl, rfl⟩) ?_
  show lst (interp m) ([(c, .val a 1)] ++ [(c, .val a 2)]) ⊢ lst (interp m) ([(c, .val a 3), (c, .val a 4)] ++ [(c, .val a 5), (c, .val a 6)])
  rw [lst_append, lst_append]
  exact BI.BIClass.sep_mono (share_split c a 1 3 4 ⟨_, rfl, rfl, rfl⟩) (share_split c a 2 5 6 ⟨_, rfl, rfl, rfl⟩)

theorem cutSt {c : Dev nD} {todo : List Pay} {ps cs zs : List K} {ds : List Res} {outs : List (Fin 13)} {X : sProp 𝕄}
    (h : St m Kn c todo ps cs zs ([(c, .val .og 3), (c, .val .og 4), (c, .val .og 5), (c, .val .og 6)] ++
      minus ([(c, .val .sl 3), (c, .val .sl 4), (c, .val .sl 5), (c, .val .sl 6)] ++ minus ds [(c, .val .sl 0)]) [(c, .val .og 0)]) outs ⊢ X)
    (h1 : within [(c, .val .sl 0)] ds := by decide +kernel)
    (h2 : within [(c, .val .og 0)] ([(c, .val .sl 3), (c, .val .sl 4), (c, .val .sl 5), (c, .val .sl 6)] ++ minus ds [(c, .val .sl 0)]) := by decide +kernel) :
    St m Kn c todo ps cs zs ds outs ⊢ X :=
  st_conv _ _ h1 (cut4 c .sl) (st_conv _ _ h2 (cut4 c .og) h)

theorem p61 (c : Dev nD) {w v30 v31 Q} (h : ∀ v58 v59 v60 v61, St m Kn c (owedA c 0) (minus cells0 [0]) (credsA c 0) [0] (heldA c 0) []
      ⊢ Q ⟨v58, v59, v60, v61⟩) :
    St m Kn c (.sig (aaDst c 2) 0 :: ((if c = 1 then [.snd 14 0 15] else []) ++ owedA c 0)) cells0 (creds0 c) [] (held1 c) []
      ⊢ WP c (app (k0_part61 (F := F)) c w (SemArray.scalar (sig.barrier 0 rfl)) v30 4#32 v31) Q := by
  rw [k0_part61_eq_skeleton]
  unfold app k0_part61_skel
  simp only [semSignalWord, semWaitWord, Prog.lift, Prog.bind_op, Prog.bind_ret, Prog.pure_eq_ret]
  obtain rfl | rfl | rfl | rfl := dev_cases c
  all_goals
    refine st_sig (d := aaDst _ 2) (by decide +kernel) (key := 0) rfl rfl rfl (by decide +kernel) (by decide +kernel) ?_
    refine st_semWait 0 rfl rfl (by decide +kernel) (by decide +kernel) (by decide +kernel) (by decide +kernel) ?_
  on_goal 2 =>
    rw [dif_pos (by decide +kernel)]
    refine st_conv [(1, .val .o 0)] [(1, .val .oTail 0), (1, .val .oRest 0)] (by decide +kernel) (Entails.of_eq (o_split 1)) ?_
    refine sendS ?_ (by decide +kernel)
  on_goal 1 => rw [dif_neg (by decide +kernel)]
  on_goal 3 => rw [dif_neg (by decide +kernel)]
  on_goal 4 => rw [dif_neg (by decide +kernel)]
  all_goals
    refine st_load .lg 0 rfl (View.setOn_subset_set _ _) (by decide +kernel) ?_
    refine st_load_any (.any .sl) (any_open .sl) (View.setOn_subset_set _ _) (by decide +kernel) fun _ => ?_
    refine stHead ?_
    refine st_load .l 0 rfl (View.setOn_subset_set _ _) (by decide +kernel) ?_
    refine st_load_any .half half_open (View.setOn_subset_set _ _) (by decide +kernel) fun _ => ?_
    refine stRest ?_
    refine cutSt ?_
    exact st_ret (h _ _ _ _)

theorem p62 (c : Dev nD) {w v58 v59 v60 v61 Q} (h : ∀ v66 v77 v94 c4 c0, St m Kn c (owedA c 2) (minus cells0 [0]) (credsA c 2) [0] (heldA c 2) []
      ⊢ Q ⟨v66, v77, v94, c4, c0⟩) :
    St m Kn c (owedA c 0) (minus cells0 [0]) (credsA c 0) [0] (heldA c 0) []
      ⊢ WP c (app (k0_part62 (F := F)) c w v58 v59 v60 v61) Q := by
  rw [k0_part62_eq_skeleton]
  unfold app k0_part62_skel
  simp only [Prog.lift, Prog.bind_op, Prog.bind_ret, Prog.pure_eq_ret]
  obtain rfl | rfl | rfl | rfl := dev_cases c
  all_goals
    refine sendL 0 (s := 2) ?_ (by decide +kernel)
    refine sendG 0 (s := 2) ?_ (by decide +kernel)
    exact st_ret (h _ _ _ _ _)

theorem p63 (c : Dev nD) {w v94 c4 c0 Q} (h : ∀ v104 v115, St m Kn c (owedA c 3) (minus cells0 [0]) (credsA c 3) [0] (heldA c 3) [] ⊢ Q ⟨v104, v115⟩) :
    St m Kn c (owedA c 2) (minus cells0 [0]) (credsA c 2) [0] (heldA c 2) [] ⊢ WP c (app (k0_part63 (F := F)) c w v94 c4 c0) Q := by
  rw [k0_part63_eq_skeleton]
  unfold app k0_part63_skel
  simp only [Prog.lift, Prog.bind_op, Prog.bind_ret, Prog.pure_eq_ret]
  obtain rfl | rfl | rfl | rfl := dev_cases c
  all_goals
    refine sendL 1 (s := 1) ?_ (by decide +kernel)
    exact st_ret (h _ _)

theorem p64 (c : Dev nD) {w Q} (h : ∀ v142 v153 c1, St m Kn c (owedA c 5) (minus cells0 [0]) (credsA c 5) [0] (heldA c 5) [] ⊢ Q ⟨v142, v153, c1⟩) :
    St m Kn c (owedA c 3) (minus cells0 [0]) (credsA c 3) [0] (heldA c 3) [] ⊢ WP c (app (k0_part64 (F := F)) c w) Q := by
  rw [k0_part64_eq_skeleton]
  unfold app k0_part64_skel
  simp only [Prog.lift, Prog.bind_op, Prog.bind_ret, Prog.pure_eq_ret]
  obtain rfl | rfl | rfl | rfl := dev_cases c
  all_goals
    refine sendG 1 (s := 1) ?_ (by decide +kernel)
    refine sendL 2 (s := 0) ?_ (by decide +kernel)
    exact st_ret (h _ _ _)

/-- The last transfer; a device other than 0 goes on to its own part. -/
theorem p65 (c : Dev nD) (hc : c ≠ 0) {v66 v77 v104 v115 v142 v153 c1 Q}
    (h : At m Kn c (owedB c) [] [0] (heldA c 6) [] ⊢ Q ⟨wo m c, Scalar.extui (Scalar.cmpi .ne (word c) 0#32)⟩) :
    St m Kn c (owedA c 5) (minus cells0 [0]) (credsA c 5) [0] (heldA c 5) []
      ⊢ WP c (app (k0_part65 (F := F)) c (word c) v66 v77 v104 v115 v142 v153 c1) Q := by
  rw [k0_part65_eq_skeleton]
  unfold app k0_part65_skel
  obtain rfl | rfl | rfl | rfl := dev_cases c
  · exact absurd rfl hc
  all_goals
    refine st_lift ?_
    refine sendG 2 (s := 0) ?_ (by decide +kernel)
    refine st_lift ?_
    refine st_load .wo 0 rfl (View.setOn_subset_set _ _) (by decide +kernel) ?_
    rw [dif_neg (by decide +kernel)]
    exact st_ret h

end Cert.KernelIdeal.Exchange

end
-- ==== Proof.Ideal.Chunks.lean ====
/-
The twelve bands device 0 computes are written down by the kernel in pieces that differ from band to band;
each is the same expression of the band's rows.
-/
module

public import proofs.«01_k».proof.Proof.Ideal.Contents

@[expose] public section

noncomputable section

namespace Cert.KernelIdeal.Exchange

open Cert.KernelIdeal Cert.KernelIdeal.Gen
open Idealize.ShloMosaic Idealize.ShloMosaic.TcCoe

variable {F : FTy → Type} [FloatOps F]

/-- A band of 176 rows: its rows of `o` and of `l`, normalised and projected by `w`. -/
def band176 (w : FVec F S1024x1024 .bf16) (o : Vec F S176x1024 .bf16) (l : Vec F S176x8 .f32) : FVec F S176x1024 .f32 :=
  k0_pay6 w (k0_pay1 o) (k0_pay2 l) (k0_pay3 w o l) (k0_pay4 o) (k0_pay5 l)
/-- The same, rounded. -/
def band176H (w : FVec F S1024x1024 .bf16) (o : Vec F S176x1024 .bf16) (l : Vec F S176x8 .f32) : FVec F S176x1024 .bf16 :=
  k0_pay7 w (k0_pay1 o) (k0_pay2 l) (k0_pay3 w o l) (k0_pay4 o) (k0_pay5 l)

variable (w : FVec F S1024x1024 .bf16) (o : Vec F S176x1024 .bf16) (l : Vec F S176x8 .f32)

theorem chunk1 : k0_pay13 w (k0_pay8 o) (k0_pay9 l) (k0_pay10 w (k0_pay8 o) l) (k0_pay11 (k0_pay8 o) l) (k0_pay12 w) = band176 w o l := rfl
theorem chunk1H : k0_pay14 w (k0_pay8 o) (k0_pay9 l) (k0_pay10 w (k0_pay8 o) l) (k0_pay11 (k0_pay8 o) l) (k0_pay12 w) = band176H w o l := rfl
theorem chunk2 : k0_pay19 w (k0_pay15 o) (k0_pay16 l) (k0_pay17 w (k0_pay15 o) (k0_pay16 l)) (k0_pay18 (k0_pay15 o)) = band176 w o l := rfl
theorem chunk2H : k0_pay20 w (k0_pay15 o) (k0_pay16 l) (k0_pay17 w (k0_pay15 o) (k0_pay16 l)) (k0_pay18 (k0_pay15 o)) = band176H w o l := rfl
theorem chunk3 : k0_pay27 w (k0_pay21 o) (k0_pay22 l) (k0_pay25 w (k0_pay21 o) (k0_pay22 l) (k0_pay23 o) (k0_pay24 l)) (k0_pay26 (k0_pay21 o) (k0_pay22 l)) = band176 w o l := rfl
theorem chunk3H : k0_pay28 w (k0_pay21 o) (k0_pay22 l) (k0_pay25 w (k0_pay21 o) (k0_pay22 l) (k0_pay23 o) (k0_pay24 l)) (k0_pay26 (k0_pay21 o) (k0_pay22 l)) = band176H w o l := rfl
theorem chunk4 : k0_pay35 w (k0_pay29 o) (k0_pay30 l) (k0_pay33 w (k0_pay29 o) (k0_pay30 l) (k0_pay31 o l) (k0_pay32 w) (constant S176x1024 .f32 0x00000000#32)) (k0_pay34 w (k0_pay29 o) (k0_pay30 l)) = band176 w o l := rfl
theorem chunk4H : k0_pay36 w (k0_pay29 o) (k0_pay30 l) (k0_pay33 w (k0_pay29 o) (k0_pay30 l) (k0_pay31 o l) (k0_pay32 w) (constant S176x1024 .f32 0x00000000#32)) (k0_pay34 w (k0_pay29 o) (k0_pay30 l)) = band176H w o l := rfl
theorem chunk5 : k0_pay45 w (k0_pay42 w (k0_pay37 o) (k0_pay38 l) (k0_pay39 w o l) (k0_pay40 o) (k0_pay41 l)) (k0_pay43 (k0_pay37 o)) (k0_pay44 (k0_pay38 l)) = band176 w o l := rfl
theorem chunk5H : k0_pay46 w (k0_pay42 w (k0_pay37 o) (k0_pay38 l) (k0_pay39 w o l) (k0_pay40 o) (k0_pay41 l)) (k0_pay43 (k0_pay37 o)) (k0_pay44 (k0_pay38 l)) = band176H w o l := rfl
theorem chunk6 : k0_pay55 (k0_pay52 w (k0_pay47 o) (k0_pay48 l) (k0_pay49 w o l) (k0_pay50 o l) (k0_pay51 w)) (k0_pay53 (k0_pay47 o) (k0_pay48 l)) (k0_pay54 w) = band176 w o l := rfl
theorem chunk6H : k0_pay56 (k0_pay52 w (k0_pay47 o) (k0_pay48 l) (k0_pay49 w o l) (k0_pay50 o l) (k0_pay51 w)) (k0_pay53 (k0_pay47 o) (k0_pay48 l)) (k0_pay54 w) = band176H w o l := rfl
theorem chunk7 : k0_pay61 w (k0_pay57 o) (k0_pay58 l) (k0_pay59 w o l) (k0_pay60 o) = band176 w o l := rfl
theorem chunk7H : k0_pay62 (k0_pay61 w (k0_pay57 o) (k0_pay58 l) (k0_pay59 w o l) (k0_pay60 o)) = band176H w o l := rfl
theorem chunk8 : k0_pay67 w (k0_pay63 o) (k0_pay64 l) (k0_pay65 w o l) (k0_pay66 o l) = band176 w o l := rfl
theorem chunk8H : k0_pay69 (k0_pay68 w (k0_pay63 o) (k0_pay64 l) (k0_pay65 w o l) (k0_pay66 o l)) = band176H w o l := rfl
theorem chunk9 : k0_pay74 w (k0_pay70 o) (k0_pay71 l) (k0_pay72 w o l) (k0_pay73 w o l) = band176 w o l := rfl
theorem chunk9H : k0_pay76 (k0_pay75 w (k0_pay70 o) (k0_pay71 l) (k0_pay72 w o l) (k0_pay73 w o l)) = band176H w o l := rfl

theorem sums_eq (a : Vec F S2048x8 .f32) (b c d : Vec F S1x2048x8 .f32) : k0_pay84 a b c d = k0_pay94 a b c d := rfl
theorem head_eq (a : Vec F S32x1024 .bf16) (b c d : Vec F S1x32x1024 .bf16) (e : Vec F S32x8 .f32) :
    k0_pay93 w (k0_pay90 a b c d) e (k0_pay91 w a b c d e) (k0_pay92 a b c d e)
      = k0_pay137 w (k0_pay95 a b c d) e (k0_pay96 w (k0_pay95 a b c d) e) (k0_pay97 (k0_pay95 a b c d) e) := rfl

end Cert.KernelIdeal.Exchange

end
-- ==== Proof.Ideal.Bands.lean ====
/-
What the bands hold, read off the values the kernel stores: the rows device 0 computes and sends, the rows the
other devices receive and widen, and the head rows.
-/
module

public import proofs.«01_k».proof.Proof.Ideal.Chunks

@[expose] public section

noncomputable section

namespace Cert.KernelIdeal.Exchange

open Cert.KernelIdeal Cert.KernelIdeal.Gen
open Idealize.ShloMosaic Idealize.ShloMosaic.TcCoe

variable {F : FTy → Type} [FloatOps F]

variable (m : (ℓ : Loc nD τ sig) → Buf (Elt F) ℓ)

theorem idx2 {n k : ℕ} (x : (⟨2, ![n, k]⟩ : Shape).Idx) (y0 : Fin n) (y1 : Fin k) (h0 : y0.val = (x 0).val) (h1 : y1.val = (x 1).val) :
    (Fin.cons y0 (Fin.cons y1 finZeroElim) : (⟨2, ![n, k]⟩ : Shape).Idx) = x := by
  funext a
  fin_cases a
  · exact Fin.ext h0
  · exact Fin.ext h1

theorem row_mid (j : Fin 10) (x : (midR j).shape.Idx) : (((midR j).emb x) 0).val = 32 + 176 * j.val + (x 0).val := by
  show 32 + 176 * j.val + 1 * (x 0).val = _; omega
theorem col_mid (j : Fin 10) (x : (midR j).shape.Idx) : (((midR j).emb x) 1).val = (x 1).val := by
  show 0 + 1 * (x 1).val = _; omega
theorem lt_mid (j : Fin 10) (x : (midR j).shape.Idx) : (x 0).val < 176 := (x 0).isLt

/-- Reading a value of 176 rows at a row of band `j` of the array. -/
theorem at_mid {e : EltTy} (v : Fin 10 → Vec F S176x1024 e) (j : Fin 10) (x : (midR j).shape.Idx) :
    at176 (v (bandOf (((midR j).emb x) 0).val)) ((((midR j).emb x) 0).val - 32) (((midR j).emb x) 1) = v j x := by
  have h := lt_mid j x
  have hb : bandOf (((midR j).emb x) 0).val = j := by
    refine Fin.ext ?_
    show ((((midR j).emb x) 0).val - 32) / 176 % 10 = j.val
    rw [row_mid]; have := j.isLt; omega
  rw [hb]
  refine congrArg (v j) (idx2 x _ _ ?_ (col_mid j x))
  show ((((midR j).emb x) 0).val - 32) % 176 = (x 0).val
  rw [row_mid]; omega

theorem out_mid (j : Fin 10) {w : Vec F S176x1024 .f32} (hw : w = band176 (wo m 0) (rdO m j) (rdLm m j)) (x : (midR j).shape.Idx) :
    w x = xout m 0 ((midR j).emb x) := by
  have h := lt_mid j x; have hr := row_mid j x; have hj := j.isLt
  subst hw
  unfold xout
  rw [if_neg (by omega), if_pos rfl, if_pos (by omega)]
  exact (at_mid (F := F) (e := .f32) (mid m) j x).symm
theorem bc_mid (j : Fin 10) {w : Vec F S176x1024 .bf16} (hw : w = band176H (wo m 0) (rdO m j) (rdLm m j)) (x : (midR j).shape.Idx) :
    w x = xbc m ((midR j).emb x) := by
  have h := lt_mid j x; have hr := row_mid j x; have hj := j.isLt
  subst hw
  unfold xbc
  rw [if_pos (by omega)]
  exact (at_mid (F := F) (e := .bf16) (midH m) j x).symm

abbrev lowR : Rect S2048x1024 := Rect.unit (s := S2048x1024) ![1792, 0] S128x1024.size inb_S2048x1024_S128x1024_1792_0
abbrev lastR : Rect S2048x1024 := Rect.unit (s := S2048x1024) ![1920, 0] S128x1024.size inb_S2048x1024_S128x1024_1920_0
abbrev headR : Rect S2048x1024 := Rect.unit (s := S2048x1024) ![0, 0] S32x1024.size inb_S2048x1024_S32x1024_0_0

theorem row_low (x : lowR.shape.Idx) : ((lowR.emb x) 0).val = 1792 + (x 0).val := by show 1792 + 1 * (x 0).val = _; omega
theorem row_last (x : lastR.shape.Idx) : ((lastR.emb x) 0).val = 1920 + (x 0).val := by show 1920 + 1 * (x 0).val = _; omega
theorem row_head (x : headR.shape.Idx) : ((headR.emb x) 0).val = (x 0).val := by show 0 + 1 * (x 0).val = _; omega

theorem at_low {e : EltTy} (v : Vec F S128x1024 e) (x : lowR.shape.Idx) : at128 v (((lowR.emb x) 0).val - 1792) ((lowR.emb x) 1) = v x := by
  have h : (x 0).val < 128 := (x 0).isLt
  refine congrArg v (idx2 x _ _ ?_ (show 0 + 1 * (x 1).val = (x 1).val by omega))
  show (((lowR.emb x) 0).val - 1792) % 128 = (x 0).val
  rw [row_low]; omega
theorem at_last {e : EltTy} (v : Vec F S128x1024 e) (x : lastR.shape.Idx) : at128 v (((lastR.emb x) 0).val - 1920) ((lastR.emb x) 1) = v x := by
  have h : (x 0).val < 128 := (x 0).isLt
  refine congrArg v (idx2 x _ _ ?_ (show 0 + 1 * (x 1).val = (x 1).val by omega))
  show (((lastR.emb x) 0).val - 1920) % 128 = (x 0).val
  rw [row_last]; omega

theorem out_low {w : Vec F S128x1024 .f32} (hw : w = low m) (x : lowR.shape.Idx) : w x = xout m 0 (lowR.emb x) := by
  have h : (x 0).val < 128 := (x 0).isLt
  have hr := row_low x
  subst hw
  unfold xout
  rw [if_neg (by omega), if_pos rfl, if_neg (by omega), if_pos (by omega)]
  exact (at_low (F := F) (e := .f32) (low m) x).symm
theorem bc_low {w : Vec F S128x1024 .bf16} (hw : w = lowH m) (x : lowR.shape.Idx) : w x = xbc m (lowR.emb x) := by
  have h : (x 0).val < 128 := (x 0).isLt
  have hr := row_low x
  subst hw
  unfold xbc
  rw [if_neg (by omega), if_pos (by omega)]
  exact (at_low (F := F) (e := .bf16) (lowH m) x).symm
theorem out_last {w : Vec F S128x1024 .f32} (hw : w = lastV m) (x : lastR.shape.Idx) : w x = xout m 0 (lastR.emb x) := by
  have h : (x 0).val < 128 := (x 0).isLt
  have hr := row_last x
  subst hw
  unfold xout
  rw [if_neg (by omega), if_pos rfl, if_neg (by omega), if_neg (by omega)]
  exact (at_last (F := F) (e := .f32) (lastV m) x).symm
theorem bc_last {w : Vec F S128x1024 .bf16} (hw : w = lastH m) (x : lastR.shape.Idx) : w x = xbc m (lastR.emb x) := by
  have h : (x 0).val < 128 := (x 0).isLt
  have hr := row_last x
  subst hw
  unfold xbc
  rw [if_neg (by omega), if_neg (by omega)]
  exact (at_last (F := F) (e := .bf16) (lastH m) x).symm

theorem out_head (c : Dev nD) {w : Vec F S32x1024 .f32} (hw : w = headV m c) (x : headR.shape.Idx) : w x = xout m c (headR.emb x) := by
  have h : (x 0).val < 32 := (x 0).isLt
  have hr := row_head x
  subst hw
  unfold xout
  rw [if_pos (by omega)]
  refine (congrArg (headV m c) (idx2 x _ _ ?_ (show 0 + 1 * (x 1).val = (x 1).val by omega))).symm
  show ((headR.emb x) 0).val % 32 = (x 0).val
  rw [row_head]; omega

/-- A received band, widened. -/
theorem out_relay (c : Dev nD) (j : Fin 12) {r : Rect S2048x1024} {w : r.shape.Idx → Elt F .f32} (hr : r = band j.castSucc) (hc : c ≠ 0)
    (hw : w = (extf .f32 (show FVec F r.shape .bf16 from bcM.view.readAt (Elt F) r.toLoadRect (xbc m)) bitsLt_bf16_f32 : FVec F r.shape .f32)) (x : r.shape.Idx) :
    w x = xout m c (r.emb x) := by
  subst hr hw
  have hlo : ∀ j : Fin 12, 32 ≤ lo j.castSucc := by decide
  have h : 32 ≤ (((band j.castSucc).emb x) 0).val := by
    show 32 ≤ lo j.castSucc + 1 * (x 0).val
    have := hlo j; omega
  unfold xout
  rw [if_neg (by omega), if_neg hc]
  rfl

end Cert.KernelIdeal.Exchange

end
-- ==== Proof.Ideal.Dev0.lean ====
/-
Device 0's part, up to the sums over the exchange: it computes the bands one after the other, stores each in its
result and, rounded, in the broadcast array, and sends it on.
-/
module

public import proofs.«01_k».proof.Proof.Ideal.Prefix
public import proofs.«01_k».proof.Proof.Ideal.Chunks
public import proofs.«01_k».proof.Proof.Ideal.Bands

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {Kn : Dev nD × K → ℕ}

/-! ## States -/

/-- Device 0 owes the bands from `j` on. -/
def owes0 (j : ℕ) : List Pay := (fin12.drop j).map (bsend 0) ++ sigs 0 1
/-- The pieces that stay with device 0 through the broadcast. -/
def kept0 : List Res := [((0 : Dev nD), .val .o 0), (0, .val .sl 3), (0, .val .og 3), (0, .any (.bc 12))] ++ fixedP 0
/-- The pieces of the bands, `j` of them sent and `b` stored. -/
def bands0 (j b : ℕ) : List Res :=
  ((fin12.drop b).map fun i => ((0 : Dev nD), Dt.any (.bc i.castSucc))) ++ (((fin12.take b).drop j).map fun i => ((0 : Dev nD), Dt.val (.bc i.castSucc) 0))
    ++ (fin12.drop j).map fun i => (hop 0 i, Dt.any (.bc i.castSucc))
/-- The bands stored in the result, the last first. -/
def outs0 (n : ℕ) : List (Fin 13) := ([0, 1, 2, 3, 4, 5, 6, 7, 8, 9, 10, 11, 12].take n).reverse

variable (m Kn) in
/-- Device 0 with `j` bands sent, `b` stored in the broadcast array, `n` in the result. -/
abbrev A0 (j b n : ℕ) : sProp 𝕄 :=
  At m Kn 0 (owes0 j) (fin12.take j) [0] (bands0 j b ++ ([(0, .any .acc), (0, .any .tail)] ++ kept0)) (outs0 n)

/-! ## Steps -/

section Steps
variable {todo : List Pay} {ps cs zs : List K} {ds : List Res} {outs : List (Fin 13)} {α : Type}
variable {Q : α → sProp (MT nD τ sig Unit (Elt F) ℕ UU ℕ)}

/-- Loading band `j` of the numerators, and of the denominators. -/
theorem ldO (j : Fin 10) {hl} {k : Vec F S176x1024 .bf16 → Prog (TpuEff nD τ sig (Elt F) Λ₀ ((0 : Dev nD) : Thread nD τ).2) α}
    (h : St m Kn 0 todo ps cs zs ds outs ⊢ WP 0 (k (rdO m j)) Q) (hw : within [((0 : Dev nD), .val .o 0)] ds := by decide +kernel) :
    St m Kn 0 todo ps cs zs ds outs ⊢ WP 0 (.op (.load (oM : Memref sig .tc .vmem S2048x1024 .bf16) (midR j).toLoadRect hl) k) Q :=
  st_load .o 0 rfl (View.setOn_subset_set _ _) hw h
theorem ldLm (j : Fin 10) {hl} {k : Vec F S176x8 .f32 → Prog (TpuEff nD τ sig (Elt F) Λ₀ ((0 : Dev nD) : Thread nD τ).2) α}
    (h : St m Kn 0 todo ps cs zs ds outs ⊢ WP 0 (k (rdLm m j)) Q) (hw : within [((0 : Dev nD), .val .l 0)] ds := by decide +kernel) :
    St m Kn 0 todo ps cs zs ds outs ⊢ WP 0 (.op (.load (lM : Memref sig .tc .vmem S2048x8 .f32) (midL j).toLoadRect hl) k) Q :=
  st_load .l 0 rfl (View.setOn_subset_set _ _) hw h

omit [FloatOps F] in
theorem mid_band : ∀ j : Fin 10, midR j = band ⟨j.val, by omega⟩ := by
  intro j; fin_cases j <;> rfl

/-- Storing band `j` in the result. -/
theorem stO (j : Fin 10) {w : Vec F S176x1024 .f32} {hx hm} {k : PUnit → Prog (TpuEff nD τ sig (Elt F) Λ₀ ((0 : Dev nD) : Thread nD τ).2) α}
    (hv : w = band176 (wo m 0) (rdO m j) (rdLm m j)) (h : St m Kn 0 todo ps cs zs ds (⟨j.val, by omega⟩ :: outs) ⊢ WP 0 (k ⟨⟩) Q) :
    St m Kn 0 todo ps cs zs ds outs ⊢ WP 0 (.op (.store (outM : Memref sig .tc .vmem S2048x1024 .f32) (midR j) w Finset.univ hx hm) k) Q := by
  refine st_store_out ⟨j.val, by omega⟩ ?_ (out_mid m j hv) h
  exact mid_band j

/-- Storing band `j` in the broadcast array. -/
theorem stM (j : Fin 10) {w : Vec F S176x1024 .bf16} {hx hm} {k : PUnit → Prog (TpuEff nD τ sig (Elt F) Λ₀ ((0 : Dev nD) : Thread nD τ).2) α}
    (hv : w = band176H (wo m 0) (rdO m j) (rdLm m j))
    (h : St m Kn 0 todo ps cs zs ((0, .val (.bc ⟨j.val, by omega⟩) 0) :: minus ds [(0, .any (.bc ⟨j.val, by omega⟩))]) outs ⊢ WP 0 (k ⟨⟩) Q)
    (hw : within [((0 : Dev nD), .any (.bc ⟨j.val, by omega⟩))] ds := by decide +kernel) :
    St m Kn 0 todo ps cs zs ds outs ⊢ WP 0 (.op (.store (bcM : Memref sig .tc .vmem S2048x1024 .bf16) (midR j) w Finset.univ hx hm) k) Q :=
  stB ⟨j.val, by omega⟩ (bc_mid m j hv) h (mid_band j) hw

end Steps

/-! ## The bands of 176 rows -/

theorem p1 {Q} (h : A0 m Kn 0 0 0 ⊢ Q ⟨k0_pay1 (rdO m 0), k0_pay2 (rdLm m 0), k0_pay3 (wo m 0) (rdO m 0) (rdLm m 0), k0_pay4 (rdO m 0), k0_pay5 (rdLm m 0)⟩) :
    A0 m Kn 0 0 0 ⊢ WP 0 (app (k0_part1 (F := F)) (wo m 0)) Q := by
  rw [k0_part1_eq_skeleton]
  unfold app k0_part1_skel
  simp only [Prog.lift, Prog.bind_op, Prog.bind_ret, Prog.pure_eq_ret]
  refine ldO 0 ?_
  refine ldLm 0 ?_
  exact st_ret h

theorem p2 {hc Q} (h : A0 m Kn 1 1 1 ⊢ Q (k0_pay8 (rdO m 1))) :
    A0 m Kn 0 0 0 ⊢ WP 0 (app (k0_part2 (F := F)) 0 (wo m 0) hc (k0_pay1 (rdO m 0)) (k0_pay2 (rdLm m 0)) (k0_pay3 (wo m 0) (rdO m 0) (rdLm m 0)) (k0_pay4 (rdO m 0)) (k0_pay5 (rdLm m 0))) Q := by
  rw [k0_part2_eq_skeleton]
  unfold app k0_part2_skel
  simp only [Prog.lift, Prog.bind_op, Prog.bind_ret, Prog.pure_eq_ret]
  refine st_load_out fun _ => ?_
  refine stO 0 rfl ?_
  refine ldB_any 0 fun _ => ?_
  refine stM 0 rfl ?_
  refine sendB 0 ?_ (Fin.ext k0_dev11_eq)
  refine ldO 1 ?_
  exact st_ret h

theorem p3 {Q} (h : A0 m Kn 1 1 1 ⊢ Q ⟨k0_pay9 (rdLm m 1), k0_pay10 (wo m 0) (k0_pay8 (rdO m 1)) (rdLm m 1), k0_pay11 (k0_pay8 (rdO m 1)) (rdLm m 1), k0_pay12 (wo m 0)⟩) :
    A0 m Kn 1 1 1 ⊢ WP 0 (app (k0_part3 (F := F)) (wo m 0) (k0_pay8 (rdO m 1))) Q := by
  rw [k0_part3_eq_skeleton]
  unfold app k0_part3_skel
  simp only [Prog.lift, Prog.bind_op, Prog.bind_ret, Prog.pure_eq_ret]
  refine ldLm 1 ?_
  exact st_ret h

theorem p4 {hc Q} (h : A0 m Kn 2 2 2 ⊢ Q ⟨k0_pay15 (rdO m 2), k0_pay16 (rdLm m 2)⟩) :
    A0 m Kn 1 1 1 ⊢ WP 0 (app (k0_part4 (F := F)) 0 (wo m 0) hc (k0_pay8 (rdO m 1)) (k0_pay9 (rdLm m 1)) (k0_pay10 (wo m 0) (k0_pay8 (rdO m 1)) (rdLm m 1)) (k0_pay11 (k0_pay8 (rdO m 1)) (rdLm m 1)) (k0_pay12 (wo m 0))) Q := by
  rw [k0_part4_eq_skeleton]
  unfold app k0_part4_skel
  simp only [Prog.lift, Prog.bind_op, Prog.bind_ret, Prog.pure_eq_ret]
  refine st_load_out fun _ => ?_
  refine stO 1 (chunk1 _ _ _) ?_
  refine ldB_any 1 fun _ => ?_
  refine stM 1 (chunk1H _ _ _) ?_
  refine sendB 1 ?_ (Fin.ext k0_dev12_eq)
  refine ldO 2 ?_
  refine ldLm 2 ?_
  exact st_ret h

theorem p5 {Q} (h : A0 m Kn 2 2 2 ⊢ Q ⟨k0_pay17 (wo m 0) (k0_pay15 (rdO m 2)) (k0_pay16 (rdLm m 2)), k0_pay18 (k0_pay15 (rdO m 2))⟩) :
    A0 m Kn 2 2 2 ⊢ WP 0 (app (k0_part5 (F := F)) (wo m 0) (k0_pay15 (rdO m 2)) (k0_pay16 (rdLm m 2))) Q := by
  rw [k0_part5_eq_skeleton]
  unfold app k0_part5_skel
  simp only [Prog.lift, Prog.bind_op, Prog.bind_ret, Prog.pure_eq_ret]
  exact st_ret h

theorem p6 {hc Q} (h : A0 m Kn 3 3 3 ⊢ Q ⟨k0_pay21 (rdO m 3), k0_pay22 (rdLm m 3), k0_pay23 (rdO m 3), k0_pay24 (rdLm m 3)⟩) :
    A0 m Kn 2 2 2 ⊢ WP 0 (app (k0_part6 (F := F)) 0 (wo m 0) hc (k0_pay15 (rdO m 2)) (k0_pay16 (rdLm m 2)) (k0_pay17 (wo m 0) (k0_pay15 (rdO m 2)) (k0_pay16 (rdLm m 2))) (k0_pay18 (k0_pay15 (rdO m 2)))) Q := by
  rw [k0_part6_eq_skeleton]
  unfold app k0_part6_skel
  simp only [Prog.lift, Prog.bind_op, Prog.bind_ret, Prog.pure_eq_ret]
  refine st_load_out fun _ => ?_
  refine stO 2 (chunk2 _ _ _) ?_
  refine ldB_any 2 fun _ => ?_
  refine stM 2 (chunk2H _ _ _) ?_
  refine sendB 2 ?_ (Fin.ext k0_dev13_eq)
  refine ldO 3 ?_
  refine ldLm 3 ?_
  exact st_ret h

theorem p7 {Q} (h : A0 m Kn 3 3 3 ⊢ Q ⟨k0_pay25 (wo m 0) (k0_pay21 (rdO m 3)) (k0_pay22 (rdLm m 3)) (k0_pay23 (rdO m 3)) (k0_pay24 (rdLm m 3)), k0_pay26 (k0_pay21 (rdO m 3)) (k0_pay22 (rdLm m 3))⟩) :
    A0 m Kn 3 3 3 ⊢ WP 0 (app (k0_part7 (F := F)) (wo m 0) (k0_pay21 (rdO m 3)) (k0_pay22 (rdLm m 3)) (k0_pay23 (rdO m 3)) (k0_pay24 (rdLm m 3))) Q := by
  rw [k0_part7_eq_skeleton]
  unfold app k0_part7_skel
  simp only [Prog.lift, Prog.bind_op, Prog.bind_ret, Prog.pure_eq_ret]
  exact st_ret h

theorem p8 {hc Q} (h : A0 m Kn 4 4 4 ⊢ Q ⟨k0_pay29 (rdO m 4), k0_pay30 (rdLm m 4), k0_pay31 (rdO m 4) (rdLm m 4), k0_pay32 (wo m 0), constant S176x1024 .f32 0x00000000#32⟩) :
    A0 m Kn 3 3 3 ⊢ WP 0 (app (k0_part8 (F := F)) 0 (wo m 0) hc (k0_pay21 (rdO m 3)) (k0_pay22 (rdLm m 3)) (k0_pay25 (wo m 0) (k0_pay21 (rdO m 3)) (k0_pay22 (rdLm m 3)) (k0_pay23 (rdO m 3)) (k0_pay24 (rdLm m 3))) (k0_pay26 (k0_pay21 (rdO m 3)) (k0_pay22 (rdLm m 3)))) Q := by
  rw [k0_part8_eq_skeleton]
  unfold app k0_part8_skel
  simp only [Prog.lift, Prog.bind_op, Prog.bind_ret, Prog.pure_eq_ret]
  refine st_load_out fun _ => ?_
  refine stO 3 (chunk3 _ _ _) ?_
  refine ldB_any 3 fun _ => ?_
  refine stM 3 (chunk3H _ _ _) ?_
  refine sendB 3 ?_ (Fin.ext k0_dev14_eq)
  refine ldO 4 ?_
  refine ldLm 4 ?_
  exact st_ret h

theorem p9 {Q} (h : A0 m Kn 4 4 4 ⊢ Q ⟨k0_pay33 (wo m 0) (k0_pay29 (rdO m 4)) (k0_pay30 (rdLm m 4)) (k0_pay31 (rdO m 4) (rdLm m 4)) (k0_pay32 (wo m 0)) (constant S176x1024 .f32 0x00000000#32), k0_pay34 (wo m 0) (k0_pay29 (rdO m 4)) (k0_pay30 (rdLm m 4))⟩) :
    A0 m Kn 4 4 4 ⊢ WP 0 (app (k0_part9 (F := F)) (wo m 0) (k0_pay29 (rdO m 4)) (k0_pay30 (rdLm m 4)) (k0_pay31 (rdO m 4) (rdLm m 4)) (k0_pay32 (wo m 0)) (constant S176x1024 .f32 0x00000000#32)) Q := by
  rw [k0_part9_eq_skeleton]
  unfold app k0_part9_skel
  simp only [Prog.lift, Prog.bind_op, Prog.bind_ret, Prog.pure_eq_ret]
  exact st_ret h

theorem p10 {hc Q} (h : A0 m Kn 5 5 5 ⊢ Q ⟨k0_pay37 (rdO m 5), k0_pay38 (rdLm m 5), k0_pay39 (wo m 0) (rdO m 5) (rdLm m 5), k0_pay40 (rdO m 5), k0_pay41 (rdLm m 5)⟩) :
    A0 m Kn 4 4 4 ⊢ WP 0 (app (k0_part10 (F := F)) 0 (wo m 0) hc (k0_pay29 (rdO m 4)) (k0_pay30 (rdLm m 4)) (k0_pay33 (wo m 0) (k0_pay29 (rdO m 4)) (k0_pay30 (rdLm m 4)) (k0_pay31 (rdO m 4) (rdLm m 4)) (k0_pay32 (wo m 0)) (constant S176x1024 .f32 0x00000000#32)) (k0_pay34 (wo m 0) (k0_pay29 (rdO m 4)) (k0_pay30 (rdLm m 4)))) Q := by
  rw [k0_part10_eq_skeleton]
  unfold app k0_part10_skel
  simp only [Prog.lift, Prog.bind_op, Prog.bind_ret, Prog.pure_eq_ret]
  refine st_load_out fun _ => ?_
  refine stO 4 (chunk4 _ _ _) ?_
  refine ldB_any 4 fun _ => ?_
  refine stM 4 (chunk4H _ _ _) ?_
  refine sendB 4 ?_ (Fin.ext k0_dev15_eq)
  refine ldO 5 ?_
  refine ldLm 5 ?_
  exact st_ret h

theorem p11 {Q} (h : A0 m Kn 5 5 5 ⊢ Q ⟨k0_pay42 (wo m 0) (k0_pay37 (rdO m 5)) (k0_pay38 (rdLm m 5)) (k0_pay39 (wo m 0) (rdO m 5) (rdLm m 5)) (k0_pay40 (rdO m 5)) (k0_pay41 (rdLm m 5)), k0_pay43 (k0_pay37 (rdO m 5)), k0_pay44 (k0_pay38 (rdLm m 5))⟩) :
    A0 m Kn 5 5 5 ⊢ WP 0 (app (k0_part11 (F := F)) (wo m 0) (k0_pay37 (rdO m 5)) (k0_pay38 (rdLm m 5)) (k0_pay39 (wo m 0) (rdO m 5) (rdLm m 5)) (k0_pay40 (rdO m 5)) (k0_pay41 (rdLm m 5))) Q := by
  rw [k0_part11_eq_skeleton]
  unfold app k0_part11_skel
  simp only [Prog.lift, Prog.bind_op, Prog.bind_ret, Prog.pure_eq_ret]
  exact st_ret h

theorem p12 {hc Q} (h : A0 m Kn 6 6 6 ⊢ Q ⟨k0_pay47 (rdO m 6), k0_pay48 (rdLm m 6), k0_pay49 (wo m 0) (rdO m 6) (rdLm m 6), k0_pay50 (rdO m 6) (rdLm m 6), k0_pay51 (wo m 0)⟩) :
    A0 m Kn 5 5 5 ⊢ WP 0 (app (k0_part12 (F := F)) 0 (wo m 0) hc (k0_pay42 (wo m 0) (k0_pay37 (rdO m 5)) (k0_pay38 (rdLm m 5)) (k0_pay39 (wo m 0) (rdO m 5) (rdLm m 5)) (k0_pay40 (rdO m 5)) (k0_pay41 (rdLm m 5))) (k0_pay43 (k0_pay37 (rdO m 5))) (k0_pay44 (k0_pay38 (rdLm m 5)))) Q := by
  rw [k0_part12_eq_skeleton]
  unfold app k0_part12_skel
  simp only [Prog.lift, Prog.bind_op, Prog.bind_ret, Prog.pure_eq_ret]
  refine st_load_out fun _ => ?_
  refine stO 5 (chunk5 _ _ _) ?_
  refine ldB_any 5 fun _ => ?_
  refine stM 5 (chunk5H _ _ _) ?_
  refine sendB 5 ?_ (Fin.ext k0_dev16_eq)
  refine ldO 6 ?_
  refine ldLm 6 ?_
  exact st_ret h

theorem p13 {Q} (h : A0 m Kn 6 6 6 ⊢ Q ⟨k0_pay52 (wo m 0) (k0_pay47 (rdO m 6)) (k0_pay48 (rdLm m 6)) (k0_pay49 (wo m 0) (rdO m 6) (rdLm m 6)) (k0_pay50 (rdO m 6) (rdLm m 6)) (k0_pay51 (wo m 0)), k0_pay53 (k0_pay47 (rdO m 6)) (k0_pay48 (rdLm m 6)), k0_pay54 (wo m 0)⟩) :
    A0 m Kn 6 6 6 ⊢ WP 0 (app (k0_part13 (F := F)) (wo m 0) (k0_pay47 (rdO m 6)) (k0_pay48 (rdLm m 6)) (k0_pay49 (wo m 0) (rdO m 6) (rdLm m 6)) (k0_pay50 (rdO m 6) (rdLm m 6)) (k0_pay51 (wo m 0))) Q := by
  rw [k0_part13_eq_skeleton]
  unfold app k0_part13_skel
  simp only [Prog.lift, Prog.bind_op, Prog.bind_ret, Prog.pure_eq_ret]
  exact st_ret h

theorem p14 {hc Q} (h : A0 m Kn 7 7 7 ⊢ Q ⟨k0_pay57 (rdO m 7), k0_pay58 (rdLm m 7), k0_pay59 (wo m 0) (rdO m 7) (rdLm m 7), k0_pay60 (rdO m 7)⟩) :
    A0 m Kn 6 6 6 ⊢ WP 0 (app (k0_part14 (F := F)) 0 (wo m 0) hc (k0_pay52 (wo m 0) (k0_pay47 (rdO m 6)) (k0_pay48 (rdLm m 6)) (k0_pay49 (wo m 0) (rdO m 6) (rdLm m 6)) (k0_pay50 (rdO m 6) (rdLm m 6)) (k0_pay51 (wo m 0))) (k0_pay53 (k0_pay47 (rdO m 6)) (k0_pay48 (rdLm m 6))) (k0_pay54 (wo m 0))) Q := by
  rw [k0_part14_eq_skeleton]
  unfold app k0_part14_skel
  simp only [Prog.lift, Prog.bind_op, Prog.bind_ret, Prog.pure_eq_ret]
  refine st_load_out fun _ => ?_
  refine stO 6 (chunk6 _ _ _) ?_
  refine ldB_any 6 fun _ => ?_
  refine stM 6 (chunk6H _ _ _) ?_
  refine sendB 6 ?_ (Fin.ext k0_dev17_eq)
  refine ldO 7 ?_
  refine ldLm 7 ?_
  exact st_ret h

theorem p15 {Q} (h : A0 m Kn 7 7 7 ⊢ Q (k0_pay61 (wo m 0) (k0_pay57 (rdO m 7)) (k0_pay58 (rdLm m 7)) (k0_pay59 (wo m 0) (rdO m 7) (rdLm m 7)) (k0_pay60 (rdO m 7)))) :
    A0 m Kn 7 7 7 ⊢ WP 0 (app (k0_part15 (F := F)) (wo m 0) (k0_pay57 (rdO m 7)) (k0_pay58 (rdLm m 7)) (k0_pay59 (wo m 0) (rdO m 7) (rdLm m 7)) (k0_pay60 (rdO m 7))) Q := by
  rw [k0_part15_eq_skeleton]
  unfold app k0_part15_skel
  simp only [Prog.lift, Prog.bind_op, Prog.bind_ret, Prog.pure_eq_ret]
  exact st_ret h

theorem p16 {hc Q} (h : A0 m Kn 8 8 8 ⊢ Q ⟨k0_pay63 (rdO m 8), k0_pay64 (rdLm m 8), k0_pay65 (wo m 0) (rdO m 8) (rdLm m 8), k0_pay66 (rdO m 8) (rdLm m 8)⟩) :
    A0 m Kn 7 7 7 ⊢ WP 0 (app (k0_part16 (F := F)) 0 (wo m 0) hc (k0_pay61 (wo m 0) (k0_pay57 (rdO m 7)) (k0_pay58 (rdLm m 7)) (k0_pay59 (wo m 0) (rdO m 7) (rdLm m 7)) (k0_pay60 (rdO m 7)))) Q := by
  rw [k0_part16_eq_skeleton]
  unfold app k0_part16_skel
  simp only [Prog.lift, Prog.bind_op, Prog.bind_ret, Prog.pure_eq_ret]
  refine st_load_out fun _ => ?_
  refine stO 7 (chunk7 _ _ _) ?_
  refine ldB_any 7 fun _ => ?_
  refine stM 7 (chunk7H _ _ _) ?_
  refine sendB 7 ?_ (Fin.ext k0_dev18_eq)
  refine ldO 8 ?_
  refine ldLm 8 ?_
  exact st_ret h

theorem p17 {Q} (h : A0 m Kn 8 8 9 ⊢ Q (k0_pay68 (wo m 0) (k0_pay63 (rdO m 8)) (k0_pay64 (rdLm m 8)) (k0_pay65 (wo m 0) (rdO m 8) (rdLm m 8)) (k0_pay66 (rdO m 8) (rdLm m 8)))) :
    A0 m Kn 8 8 8 ⊢ WP 0 (app (k0_part17 (F := F)) (wo m 0) (k0_pay63 (rdO m 8)) (k0_pay64 (rdLm m 8)) (k0_pay65 (wo m 0) (rdO m 8) (rdLm m 8)) (k0_pay66 (rdO m 8) (rdLm m 8))) Q := by
  rw [k0_part17_eq_skeleton]
  unfold app k0_part17_skel
  simp only [Prog.lift, Prog.bind_op, Prog.bind_ret, Prog.pure_eq_ret]
  refine st_load_out fun _ => ?_
  refine stO 8 (chunk8 _ _ _) ?_
  exact st_ret h

theorem p18 {hc Q} (h : A0 m Kn 9 9 9 ⊢ Q ⟨k0_pay70 (rdO m 9), k0_pay71 (rdLm m 9), k0_pay72 (wo m 0) (rdO m 9) (rdLm m 9), k0_pay73 (wo m 0) (rdO m 9) (rdLm m 9)⟩) :
    A0 m Kn 8 8 9 ⊢ WP 0 (app (k0_part18 (F := F)) 0 (wo m 0) hc (k0_pay68 (wo m 0) (k0_pay63 (rdO m 8)) (k0_pay64 (rdLm m 8)) (k0_pay65 (wo m 0) (rdO m 8) (rdLm m 8)) (k0_pay66 (rdO m 8) (rdLm m 8)))) Q := by
  rw [k0_part18_eq_skeleton]
  unfold app k0_part18_skel
  simp only [Prog.lift, Prog.bind_op, Prog.bind_ret, Prog.pure_eq_ret]
  refine ldB_any 8 fun _ => ?_
  refine stM 8 (chunk8H _ _ _) ?_
  refine sendB 8 ?_ (Fin.ext k0_dev19_eq)
  refine ldO 9 ?_
  refine ldLm 9 ?_
  exact st_ret h

theorem p19 {Q} (h : A0 m Kn 9 9 10 ⊢ Q (k0_pay75 (wo m 0) (k0_pay70 (rdO m 9)) (k0_pay71 (rdLm m 9)) (k0_pay72 (wo m 0) (rdO m 9) (rdLm m 9)) (k0_pay73 (wo m 0) (rdO m 9) (rdLm m 9)))) :
    A0 m Kn 9 9 9 ⊢ WP 0 (app (k0_part19 (F := F)) (wo m 0) (k0_pay70 (rdO m 9)) (k0_pay71 (rdLm m 9)) (k0_pay72 (wo m 0) (rdO m 9) (rdLm m 9)) (k0_pay73 (wo m 0) (rdO m 9) (rdLm m 9))) Q := by
  rw [k0_part19_eq_skeleton]
  unfold app k0_part19_skel
  simp only [Prog.lift, Prog.bind_op, Prog.bind_ret, Prog.pure_eq_ret]
  refine st_load_out fun _ => ?_
  refine stO 9 (chunk9 _ _ _) ?_
  refine ldB_any 9 fun _ => ?_
  exact st_ret h

theorem p20 {hc Q} (h : A0 m Kn 10 10 10 ⊢ Q ⟨k0_pay77 (rdO10 m), k0_pay78 (rdL10 m), k0_pay79 (wo m 0) (rdO10 m) (rdL10 m), k0_pay80 (rdO10 m), k0_pay81 (rdL10 m)⟩) :
    A0 m Kn 9 9 10 ⊢ WP 0 (app (k0_part20 (F := F)) 0 (wo m 0) hc (k0_pay75 (wo m 0) (k0_pay70 (rdO m 9)) (k0_pay71 (rdLm m 9)) (k0_pay72 (wo m 0) (rdO m 9) (rdLm m 9)) (k0_pay73 (wo m 0) (rdO m 9) (rdLm m 9)))) Q := by
  rw [k0_part20_eq_skeleton]
  unfold app k0_part20_skel
  simp only [Prog.lift, Prog.bind_op, Prog.bind_ret, Prog.pure_eq_ret]
  refine stM 9 (chunk9H _ _ _) ?_
  refine sendB 9 ?_ (Fin.ext k0_dev20_eq)
  refine st_load .o 0 rfl (View.setOn_subset_set _ _) (by decide +kernel) ?_
  refine st_load .l 0 rfl (View.setOn_subset_set _ _) (by decide +kernel) ?_
  exact st_ret h

theorem p21 {Q} (h : A0 m Kn 10 11 11 ⊢ Q ⟨⟩) :
    A0 m Kn 10 10 10 ⊢ WP 0 (app (k0_part21 (F := F)) (wo m 0) (k0_pay77 (rdO10 m)) (k0_pay78 (rdL10 m)) (k0_pay79 (wo m 0) (rdO10 m) (rdL10 m)) (k0_pay80 (rdO10 m)) (k0_pay81 (rdL10 m))) Q := by
  rw [k0_part21_eq_skeleton]
  unfold app k0_part21_skel
  simp only [Prog.lift, Prog.bind_op, Prog.bind_ret, Prog.pure_eq_ret]
  refine st_load_out fun _ => ?_
  refine st_store_out 10 rfl (out_low m rfl) ?_
  refine ldB_any 10 fun _ => ?_
  refine stB 10 (bc_low m rfl) ?_
  exact st_ret h

end Cert.KernelIdeal.Exchange

end
-- ==== Proof.Ideal.Dev0b.lean ====
/-
Device 0's part from the last two bands on: it waits for the exchanges, sums what arrived, computes the last band and
the head band, and waits for its sendings.
-/
module

public import proofs.«01_k».proof.Proof.Ideal.Dev0

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {Kn : Dev nD × K → ℕ}

/-- The cells of the exchanges, in the order device 0 waits for them, and what they hand it. -/
def waits0 (n : ℕ) : List K := [15, 7, 13, 6, 12, 5, 11].take n ++ [0]
def got0 (n : ℕ) : List Res :=
  [((0 : Dev nD), Dt.val .sliv 0), (0, .val (.aaL 2) 0), (0, .val (.aaG 2) 0), (0, .val (.aaL 1) 0), (0, .val (.aaG 1) 0), (0, .val (.aaL 0) 0), (0, .val (.aaG 0) 0)].take n

variable (m Kn) in
/-- Device 0 with `j` bands sent, `b` stored in the broadcast array, `n` in the result, `w` cells of the exchanges waited
    for and `s` sendings of bands. -/
abbrev B0 (j b n w s : ℕ) (sums : List Res) : sProp 𝕄 :=
  At m Kn 0 (owes0 j) (fin12.take j) ((fin12.take s).map keyS ++ waits0 w)
    (bands0 j b ++ (((fin12.take s).map fun i => ((0 : Dev nD), Dt.val (.bc i.castSucc) 0)) ++ (sums ++ (got0 w ++ kept0)))) (outs0 n)

theorem p22 {v66 v77 v104 v115 hc Q} (h : B0 m Kn 11 11 11 4 0 [(0, .any .acc), (0, .any .tail)] ⊢ Q (Scalar.muli v115 1#32)) :
    A0 m Kn 10 11 11 ⊢ WP 0 (app (k0_part22 (F := F)) 0 v66 v77 v104 v115 hc) Q := by
  rw [k0_part22_eq_skeleton]
  unfold app k0_part22_skel
  simp only [Prog.lift, Prog.bind_op, Prog.bind_ret, Prog.pure_eq_ret]
  refine sendB 10 ?_ (Fin.ext k0_dev21_eq)
  refine wt 15 ?_
  refine wt 7 ?_
  refine wt 13 ?_
  refine wt 6 ?_
  exact st_ret h

theorem p23 {v142 v153 v1203 Q} (h : B0 m Kn 11 11 11 7 0 [(0, .val .acc 0), (0, .any .tail)] ⊢ Q ⟨⟩) :
    B0 m Kn 11 11 11 4 0 [(0, .any .acc), (0, .any .tail)] ⊢ WP 0 (app (k0_part23 (F := F)) v142 v153 v1203) Q := by
  rw [k0_part23_eq_skeleton]
  unfold app k0_part23_skel
  simp only [Prog.lift, Prog.bind_op, Prog.bind_ret, Prog.pure_eq_ret]
  refine wt 12 ?_
  refine wt 5 ?_
  refine wt 11 ?_
  refine st_load .sl 3 rfl (View.setOn_subset_set _ _) (by decide +kernel) ?_
  refine ldAL 0 ?_
  refine ldAL 1 ?_
  refine ldAL 2 ?_
  refine st_load_any (.any .acc) (any_open .acc) (View.setOn_subset_set _ _) (by decide +kernel) fun _ => ?_
  refine stAcc rfl (heq_of_eq (sums_eq _ _ _ _)) ?_
  exact st_ret h

theorem p24 {Q} (h : B0 m Kn 11 11 11 7 0 [(0, .val .acc 0), (0, .val .tail 0)] ⊢ Q ⟨rdT m, rdAT m, k0_pay86 (wo m 0) (rdT m) (rdAT m), k0_pay87 (rdT m) (rdAT m)⟩) :
    B0 m Kn 11 11 11 7 0 [(0, .val .acc 0), (0, .any .tail)] ⊢ WP 0 (app (k0_part24 (F := F)) (wo m 0)) Q := by
  rw [k0_part24_eq_skeleton]
  unfold app k0_part24_skel
  simp only [Prog.lift, Prog.bind_op, Prog.bind_ret, Prog.pure_eq_ret]
  refine st_load .o 0 rfl (View.setOn_subset_set _ _) (by decide +kernel) ?_
  refine st_load .sliv 0 rfl (View.setOn_subset_set _ _) (by decide +kernel) ?_
  refine st_load_any (.any .tail) (any_open .tail) (View.setOn_subset_set _ _) (by decide +kernel) fun _ => ?_
  refine stTail rfl HEq.rfl ?_
  refine st_load .tail 0 rfl (View.setOn_subset_set _ _) (by decide +kernel) ?_
  refine st_load .acc 0 rfl (View.setOn_subset_set _ _) (by decide +kernel) ?_
  exact st_ret h

theorem p25 {hc Q} (h : B0 m Kn 12 12 12 7 0 [(0, .val .acc 0), (0, .val .tail 0)] ⊢ Q ⟨⟩) :
    B0 m Kn 11 11 11 7 0 [(0, .val .acc 0), (0, .val .tail 0)] ⊢ WP 0 (app (k0_part25 (F := F)) 0 (wo m 0) hc (rdT m) (rdAT m) (k0_pay86 (wo m 0) (rdT m) (rdAT m)) (k0_pay87 (rdT m) (rdAT m))) Q := by
  rw [k0_part25_eq_skeleton]
  unfold app k0_part25_skel
  simp only [Prog.lift, Prog.bind_op, Prog.bind_ret, Prog.pure_eq_ret]
  refine st_load_out fun _ => ?_
  refine st_store_out 11 rfl (out_last m rfl) ?_
  refine ldB_any 11 fun _ => ?_
  refine stB 11 (bc_last m rfl) ?_
  refine sendB 11 ?_ (Fin.ext k0_dev22_eq)
  exact st_ret h

/-- The head rows of the denominators' sums. -/
abbrev rdH (c : Dev nD) : Vec F S32x8 .f32 := accM.view.readAt (Elt F) headL.toLoadRect (xacc m c)

theorem p26 {Q} (h : B0 m Kn 12 12 12 7 0 [(0, .val .acc 0), (0, .val .tail 0)] ⊢ Q ⟨k0_pay90 (rdOg m 0) (rdG m 0 0) (rdG m 0 1) (rdG m 0 2), (rdH (m := m) 0), k0_pay91 (wo m 0) (rdOg m 0) (rdG m 0 0) (rdG m 0 1) (rdG m 0 2) (rdH (m := m) 0), k0_pay92 (rdOg m 0) (rdG m 0 0) (rdG m 0 1) (rdG m 0 2) (rdH (m := m) 0)⟩) :
    B0 m Kn 12 12 12 7 0 [(0, .val .acc 0), (0, .val .tail 0)] ⊢ WP 0 (app (k0_part26 (F := F)) (wo m 0)) Q := by
  rw [k0_part26_eq_skeleton]
  unfold app k0_part26_skel
  simp only [Prog.lift, Prog.bind_op, Prog.bind_ret, Prog.pure_eq_ret]
  refine st_load .og 3 rfl (View.setOn_subset_set _ _) (by decide +kernel) ?_
  refine ldAG 0 ?_
  refine ldAG 1 ?_
  refine ldAG 2 ?_
  refine st_load .acc 0 rfl (View.setOn_subset_set _ _) (by decide +kernel) ?_
  exact st_ret h

theorem p27 {Q} (h : B0 m Kn 12 12 13 7 1 [(0, .val .acc 0), (0, .val .tail 0)] ⊢ Q ⟨⟩) :
    B0 m Kn 12 12 12 7 0 [(0, .val .acc 0), (0, .val .tail 0)] ⊢ WP 0 (app (k0_part27 (F := F)) (wo m 0) (k0_pay90 (rdOg m 0) (rdG m 0 0) (rdG m 0 1) (rdG m 0 2)) (rdH (m := m) 0) (k0_pay91 (wo m 0) (rdOg m 0) (rdG m 0 0) (rdG m 0 1) (rdG m 0 2) (rdH (m := m) 0)) (k0_pay92 (rdOg m 0) (rdG m 0 0) (rdG m 0 1) (rdG m 0 2) (rdH (m := m) 0))) Q := by
  rw [k0_part27_eq_skeleton]
  unfold app k0_part27_skel
  simp only [Prog.lift, Prog.bind_op, Prog.bind_ret, Prog.pure_eq_ret]
  refine st_load_out fun _ => ?_
  refine st_store_out 12 rfl (out_head m 0 (head_eq _ _ _ _ _ _)) ?_
  refine wt 16 ?_
  exact st_ret h

theorem p28 {Q} (h : B0 m Kn 12 12 13 7 5 [(0, .val .acc 0), (0, .val .tail 0)] ⊢ Q ⟨⟩) :
    B0 m Kn 12 12 13 7 1 [(0, .val .acc 0), (0, .val .tail 0)] ⊢ WP 0 (app (k0_part28 (F := F))) Q := by
  rw [k0_part28_eq_skeleton]
  unfold app k0_part28_skel
  simp only [Prog.lift, Prog.bind_op, Prog.bind_ret, Prog.pure_eq_ret]
  refine wt 17 ?_
  refine wt 18 ?_
  refine wt 19 ?_
  refine wt 20 ?_
  exact st_ret h

theorem p29 {Q} (h : B0 m Kn 12 12 13 7 10 [(0, .val .acc 0), (0, .val .tail 0)] ⊢ Q ⟨⟩) :
    B0 m Kn 12 12 13 7 5 [(0, .val .acc 0), (0, .val .tail 0)] ⊢ WP 0 (app (k0_part29 (F := F))) Q := by
  rw [k0_part29_eq_skeleton]
  unfold app k0_part29_skel
  simp only [Prog.lift, Prog.bind_op, Prog.bind_ret, Prog.pure_eq_ret]
  refine wt 21 ?_
  refine wt 22 ?_
  refine wt 23 ?_
  refine wt 24 ?_
  refine wt 25 ?_
  exact st_ret h

/-- The last transfer, then device 0's part. -/
theorem p65_0 {v66 v77 v104 v115 v142 v153 c1 Q}
    (h : B0 m Kn 12 12 13 7 12 [(0, .val .acc 0), (0, .val .tail 0)] ⊢ Q ⟨wo m 0, Scalar.extui (Scalar.cmpi .ne (word 0) 0#32)⟩) :
    St m Kn 0 (owedA 0 5) (minus cells0 [0]) (credsA 0 5) [0] (heldA 0 5) []
      ⊢ WP 0 (app (k0_part65 (F := F)) 0 (word 0) v66 v77 v104 v115 v142 v153 c1) Q := by
  rw [k0_part65_eq_skeleton]
  unfold app k0_part65_skel
  refine st_lift ?_
  refine sendG 2 (s := 0) ?_ (by decide +kernel)
  refine st_lift ?_
  refine st_load .wo 0 rfl (View.setOn_subset_set _ _) (by decide +kernel) ?_
  rw [dif_pos (by decide +kernel)]
  refine st_norm (owes0 0) (minus cells0 [0]) (minus (creds0 0 ++ (aaKeys 0 ++ ([] : List (Fin 12)).map keyS)) [0]) [0] (bands0 0 0 ++ ([(0, .any .acc), (0, .any .tail)] ++ kept0)) (outs0 0) (by decide +kernel) .rfl (by decide +kernel) .rfl (by decide +kernel) rfl ?_
  refine st_part (fun _ => p1) ?_
  refine st_part (fun _ => p2) ?_
  refine st_part (fun _ => p3) ?_
  refine st_part (fun _ => p4) ?_
  refine st_part (fun _ => p5) ?_
  refine st_part (fun _ => p6) ?_
  refine st_part (fun _ => p7) ?_
  refine st_part (fun _ => p8) ?_
  refine st_part (fun _ => p9) ?_
  refine st_part (fun _ => p10) ?_
  refine st_part (fun _ => p11) ?_
  refine st_part (fun _ => p12) ?_
  refine st_part (fun _ => p13) ?_
  refine st_part (fun _ => p14) ?_
  refine st_part (fun _ => p15) ?_
  refine st_part (fun _ => p16) ?_
  refine st_part (fun _ => p17) ?_
  refine st_part (fun _ => p18) ?_
  refine st_part (fun _ => p19) ?_
  refine st_part (fun _ => p20) ?_
  refine st_part (fun _ => p21) ?_
  refine st_part (fun _ => p22) ?_
  refine st_part (fun _ => p23) ?_
  refine st_part (fun _ => p24) ?_
  refine st_part (fun _ => p25) ?_
  refine st_part (fun _ => p26) ?_
  refine st_part (fun _ => p27) ?_
  refine st_part (fun _ => p28) ?_
  refine st_part (fun _ => p29) ?_
  refine st_lift (wt 26 ?_)
  refine st_lift (wt 27 ?_)
  exact st_ret h
end Cert.KernelIdeal.Exchange

end
-- ==== Proof.Ideal.Relay.lean ====
/-
What the devices other than 0 do: the sums over the exchange, the head band, and the steps by which they take the other
bands from the device before them and send them on.
-/
module

public import proofs.«01_k».proof.Proof.Ideal.Prefix
public import proofs.«01_k».proof.Proof.Ideal.Chunks
public import proofs.«01_k».proof.Proof.Ideal.Bands

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {Kn : Dev nD × K → ℕ}

/-! ## The sums over the exchange and the head band -/

/-- The cells of the exchanges, in the order a relaying device waits for them, and what they hand it. -/
def waitsR (n : ℕ) : List K := [7, 13, 6, 12, 5, 11].take n ++ [0]
def got (c : Dev nD) (n : ℕ) : List Res := [(c, Dt.val (.aaL 2) 0), (c, .val (.aaG 2) 0), (c, .val (.aaL 1) 0), (c, .val (.aaG 1) 0), (c, .val (.aaL 0) 0), (c, .val (.aaG 0) 0)].take n
/-- The pieces that a relaying device keeps throughout. -/
def keptR (c : Dev nD) : List Res :=
  [(c, Dt.any .tail), (c, .any (.bc 12)), (c, .val .sl 3), (c, .val .og 3), (c, .val (if c = 1 then .oRest else .o) 0), (c, .any .sliv)] ++ fixedP c

variable (m Kn) in
/-- A relaying device before the broadcast, `w` cells of the exchanges waited for. -/
abbrev C0 (c : Dev nD) (w : ℕ) (acc : Dt) (outs : List (Fin 13)) : sProp 𝕄 :=
  At m Kn c (owedB c) [] (waitsR w) (places c ++ ((c, acc) :: (got c w ++ keptR c))) outs

theorem p30 (c : Dev nD) (hc : c ≠ 0) {v66 v77 v104 v115 v142 v153 Q} (h : C0 m Kn c 5 (.any .acc) [] ⊢ Q ⟨⟩) :
    At m Kn c (owedB c) [] [0] (heldA c 6) [] ⊢ WP c (app (k0_part30 (F := F)) v66 v77 v104 v115 v142 v153) Q := by
  rw [k0_part30_eq_skeleton]
  unfold app k0_part30_skel
  simp only [Prog.lift, Prog.bind_op, Prog.bind_ret, Prog.pure_eq_ret]
  obtain rfl | rfl | rfl | rfl := dev_cases c
  · exact absurd rfl hc
  all_goals
    refine wt 7 ?_
    refine wt 13 ?_
    refine wt 6 ?_
    refine wt 12 ?_
    refine wt 5 ?_
    exact st_ret h

theorem p31 (c : Dev nD) (hc : c ≠ 0) {Q} (h : C0 m Kn c 6 (.val .acc 0) [] ⊢ Q (k0_pay95 (rdOg m c) (rdG m c 0) (rdG m c 1) (rdG m c 2))) :
    C0 m Kn c 5 (.any .acc) [] ⊢ WP c (app (k0_part31 (F := F))) Q := by
  rw [k0_part31_eq_skeleton]
  unfold app k0_part31_skel
  simp only [Prog.lift, Prog.bind_op, Prog.bind_ret, Prog.pure_eq_ret]
  obtain rfl | rfl | rfl | rfl := dev_cases c
  · exact absurd rfl hc
  all_goals
    refine wt 11 ?_
    refine st_load .sl 3 rfl (View.setOn_subset_set _ _) (by decide +kernel) ?_
    refine ldAL 0 ?_
    refine ldAL 1 ?_
    refine ldAL 2 ?_
    refine st_load_any (.any .acc) (any_open .acc) (View.setOn_subset_set _ _) (by decide +kernel) fun _ => ?_
    refine stAcc rfl HEq.rfl ?_
    refine st_load .og 3 rfl (View.setOn_subset_set _ _) (by decide +kernel) ?_
    refine ldAG 0 ?_
    refine ldAG 1 ?_
    refine ldAG 2 ?_
    exact st_ret h

theorem p32 (c : Dev nD) (hc : c ≠ 0) {w n Q} (h : C0 m Kn c 6 (.val .acc 0) [] ⊢ Q ⟨accM.view.readAt (Elt F) headL.toLoadRect (xacc m c),
      k0_pay96 w n (accM.view.readAt (Elt F) headL.toLoadRect (xacc m c)), k0_pay97 n (accM.view.readAt (Elt F) headL.toLoadRect (xacc m c))⟩) :
    C0 m Kn c 6 (.val .acc 0) [] ⊢ WP c (app (k0_part32 (F := F)) w n) Q := by
  rw [k0_part32_eq_skeleton]
  unfold app k0_part32_skel
  simp only [Prog.lift, Prog.bind_op, Prog.bind_ret, Prog.pure_eq_ret]
  obtain rfl | rfl | rfl | rfl := dev_cases c
  · exact absurd rfl hc
  all_goals
    refine st_load .acc 0 rfl (View.setOn_subset_set _ _) (by decide +kernel) ?_
    exact st_ret h

/-! ## Relaying -/

/-- The order in which a relaying device takes the bands: the ones it sends on first. -/
def ord (c : Dev nD) : List (Fin 12) := sent c ++ fin12.filter fun j => !sends c j

variable (m Kn) in
/-- A relaying device with `r` bands received, `n` sent on, `t` stored in the result and `s` sendings waited for. -/
abbrev R0 (c : Dev nD) (n r t s : ℕ) : sProp 𝕄 :=
  At m Kn c (((sent c).drop n).map (bsend c) ++ sigs c 1) ((sent c).take n) (((sent c).take s).map keyS ++ (((ord c).take r).map keyR ++ waitsR 6))
    ((((ord c).take r).drop n).map (fun j => (c, Dt.val (.bc j.castSucc) 0)) ++ (((sent c).take n).map (fun j => (c, Dt.val (.bc j.castSucc) 1)) ++
      (((sent c).take s).map (fun j => (c, Dt.val (.bc j.castSucc) 2)) ++ (((sent c).drop n).map (fun j => (hop c j, Dt.any (.bc j.castSucc))) ++
        ((c, .val .acc 0) :: (got c 6 ++ keptR c)))))) ((((ord c).take t).map Fin.castSucc).reverse ++ [12])

section Steps
variable {c : Dev nD} {todo : List Pay} {ps cs zs : List K} {ds : List Res} {outs : List (Fin 13)} {α : Type}
variable {Q : α → sProp (MT nD τ sig Unit (Elt F) ℕ UU ℕ)}

/-- Sending on a band just received: it goes from one half of its ownership, the other stays. -/
theorem fwd (j : Fin 12) {dst' : Dev nD} {r : Rect S2048x1024} {h1 h2 : ∀ a, r.stride a = 1} {sS sem : DmaSem sig}
    {hsc : (bcM.slice r h2 : Memref sig (dst' : Thread nD τ).2.kind .vmem r.shape .bf16).view.ref.isScScratch = false}
    {hsrc : (bcM.slice r h1 : Memref sig (c : Thread nD τ).2.kind .vmem r.shape .bf16).view.WordExact}
    {hdst : (bcM.slice r h2 : Memref sig (dst' : Thread nD τ).2.kind .vmem r.shape .bf16).view.WordExact}
    {hsem : DmaTarget.Typed .vmem (SemLoc.dma sem) (.remote (dst' : Thread nD τ) (bcM.slice r h2) (SemLoc.dma sS) hsc)}
    {k : PUnit → Prog (TpuEff nD τ sig (Elt F) Λ₀ (c : Thread nD τ).2) α} {key key' : K} {d : Dev nD}
    (h : St m Kn c todo ps (key :: cs) zs (minus ([(c, .val (.bc j.castSucc) 1), (c, .val (.bc j.castSucc) 2)] ++ minus ds [(c, .val (.bc j.castSucc) 0)])
      [(c, .val (.bc j.castSucc) (qOf c)), (d, .any (.bc j.castSucc))]) outs ⊢ WP c (k ⟨⟩) Q)
    (hd : dst' = d) (hdj : d = hop c j := by decide +kernel) (hk : key = keyS j := by decide +kernel) (hk' : key' = keyR j := by decide +kernel)
    (hr : r = band j.castSucc := by rfl)
    (hs : SemLoc.dma sS = csem key := by rfl) (hs' : SemLoc.dma sem = csem key' := by rfl)
    (hj : sends c j = true := by decide +kernel) (hw0 : within [(c, .val (.bc j.castSucc) 0)] ds := by decide +kernel)
    (hw : within [(c, .val (.bc j.castSucc) (qOf c)), (d, .any (.bc j.castSucc))]
      ([(c, .val (.bc j.castSucc) 1), (c, .val (.bc j.castSucc) 2)] ++ minus ds [(c, .val (.bc j.castSucc) 0)]) := by decide +kernel) :
    St m Kn c (.snd key d key' :: todo) ps cs zs ds outs
      ⊢ WP c (.op (.enqueueDma (bcM.slice r h1) (.remote (dst' : Thread nD τ) (bcM.slice r h2) (.dma sS) hsc) (.dma sem) hsrc hdst hsem) k) Q :=
  st_conv _ _ hw0 (share_split c (.bc j.castSucc) 0 1 2 ⟨_, rfl, rfl, rfl⟩) (sendB j h hd hdj hk hk' hr hs hs' hj hw)

/-- Storing a received band in the result. -/
theorem cp (j : Fin 12) (q : Fin 7) {r : Rect S2048x1024} {w : (r.shape.Idx → Elt F .bf16) → r.shape.Idx → Elt F .f32}
    {hl : (bcM : Memref sig .tc .vmem S2048x1024 .bf16).view.LoadsAt r.toLoadRect} {hl' : (outM : Memref sig .tc .vmem S2048x1024 .f32).view.LoadsAt r.toLoadRect}
    {hx : ((outM : Memref sig .tc .vmem S2048x1024 .f32).access r).Stores Finset.univ} {hm : Finset.univ = Finset.univ ∨ ∀ a, r.stride a = 1}
    {k : PUnit → Prog (TpuEff nD τ sig (Elt F) Λ₀ (c : Thread nD τ).2) α}
    (h : St m Kn c todo ps cs zs ds (j.castSucc :: outs) ⊢ WP c (k ⟨⟩) Q)
    (hw : ∀ v : FVec F r.shape .bf16, w v = (extf .f32 v bitsLt_bf16_f32 : FVec F r.shape .f32) := by intro v; rfl)
    (hr : r = band j.castSucc := by rfl) (hc : c ≠ 0 := by decide) (hin : within [(c, .val (.bc j.castSucc) q)] ds := by decide +kernel) :
    St m Kn c todo ps cs zs ds outs
      ⊢ WP c (.op (.load (bcM : Memref sig .tc .vmem S2048x1024 .bf16) r.toLoadRect hl) fun v =>
          .op (.load (outM : Memref sig .tc .vmem S2048x1024 .f32) r.toLoadRect hl') fun _ =>
          .op (.store (outM : Memref sig .tc .vmem S2048x1024 .f32) r (w v) Finset.univ hx hm) k) Q :=
  ldB j.castSucc q (st_load_out fun _ => st_store_out j.castSucc hr (out_relay m c j hr hc (hw _)) h) hr hin

end Steps

end Cert.KernelIdeal.Exchange

end
-- ==== Proof.Ideal.Dev1.lean ====
/-
Device 1: it sends the even bands on to device 2 and takes the odd ones from it.
-/
module

public import proofs.«01_k».proof.Proof.Ideal.Relay

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {Kn : Dev nD × K → ℕ}

theorem p33 {hc} {Q} (h : R0 m Kn 1 1 2 1 0 ⊢ Q ⟨⟩) : R0 m Kn 1 0 0 0 0 ⊢ WP 1 (app (k0_part33 (F := F)) 1 hc) Q := by
  rw [k0_part33_eq_skeleton]
  unfold app k0_part33_skel
  simp only [Prog.lift, Prog.bind_op, Prog.bind_ret, Prog.pure_eq_ret]
  refine wt 28 ?_
  refine fwd 0 ?_ (Fin.ext k0_dev23_eq)
  refine cp 0 1 ?_
  refine wt 29 ?_
  exact st_ret h

theorem p34 {hc} {Q} (h : R0 m Kn 1 3 3 2 0 ⊢ Q ⟨⟩) : R0 m Kn 1 1 2 1 0 ⊢ WP 1 (app (k0_part34 (F := F)) 1 hc) Q := by
  rw [k0_part34_eq_skeleton]
  unfold app k0_part34_skel
  simp only [Prog.lift, Prog.bind_op, Prog.bind_ret, Prog.pure_eq_ret]
  refine fwd 2 ?_ (Fin.ext k0_dev24_eq)
  refine cp 2 1 ?_
  refine wt 30 ?_
  refine fwd 4 ?_ (Fin.ext k0_dev25_eq)
  exact st_ret h

theorem p35 {hc} {Q} (h : R0 m Kn 1 4 4 4 0 ⊢ Q ⟨⟩) : R0 m Kn 1 3 3 2 0 ⊢ WP 1 (app (k0_part35 (F := F)) 1 hc) Q := by
  rw [k0_part35_eq_skeleton]
  unfold app k0_part35_skel
  simp only [Prog.lift, Prog.bind_op, Prog.bind_ret, Prog.pure_eq_ret]
  refine cp 4 1 ?_
  refine wt 31 ?_
  refine fwd 6 ?_ (Fin.ext k0_dev26_eq)
  refine cp 6 1 ?_
  exact st_ret h

theorem p36 {hc} {Q} (h : R0 m Kn 1 5 6 5 0 ⊢ Q ⟨⟩) : R0 m Kn 1 4 4 4 0 ⊢ WP 1 (app (k0_part36 (F := F)) 1 hc) Q := by
  rw [k0_part36_eq_skeleton]
  unfold app k0_part36_skel
  simp only [Prog.lift, Prog.bind_op, Prog.bind_ret, Prog.pure_eq_ret]
  refine wt 32 ?_
  refine fwd 8 ?_ (Fin.ext k0_dev27_eq)
  refine cp 8 1 ?_
  refine wt 33 ?_
  exact st_ret h

theorem p37 {hc} {Q} (h : R0 m Kn 1 6 8 8 0 ⊢ Q ⟨⟩) : R0 m Kn 1 5 6 5 0 ⊢ WP 1 (app (k0_part37 (F := F)) 1 hc) Q := by
  rw [k0_part37_eq_skeleton]
  unfold app k0_part37_skel
  simp only [Prog.lift, Prog.bind_op, Prog.bind_ret, Prog.pure_eq_ret]
  refine fwd 10 ?_ (Fin.ext k0_dev28_eq)
  refine cp 10 1 ?_
  refine wt 34 ?_
  refine cp 1 0 ?_
  refine wt 35 ?_
  refine cp 3 0 ?_
  exact st_ret h

theorem p38 {Q} (h : R0 m Kn 1 6 10 10 0 ⊢ Q ⟨⟩) : R0 m Kn 1 6 8 8 0 ⊢ WP 1 (app (k0_part38 (F := F))) Q := by
  rw [k0_part38_eq_skeleton]
  unfold app k0_part38_skel
  simp only [Prog.lift, Prog.bind_op, Prog.bind_ret, Prog.pure_eq_ret]
  refine wt 36 ?_
  refine cp 5 0 ?_
  refine wt 37 ?_
  refine cp 7 0 ?_
  exact st_ret h

theorem p39 {Q} (h : R0 m Kn 1 6 12 12 1 ⊢ Q ⟨⟩) : R0 m Kn 1 6 10 10 0 ⊢ WP 1 (app (k0_part39 (F := F))) Q := by
  rw [k0_part39_eq_skeleton]
  unfold app k0_part39_skel
  simp only [Prog.lift, Prog.bind_op, Prog.bind_ret, Prog.pure_eq_ret]
  refine wt 38 ?_
  refine cp 9 0 ?_
  refine wt 39 ?_
  refine cp 11 0 ?_
  refine wt 16 ?_
  exact st_ret h

theorem p40 {hc} {Q} (h : R0 m Kn 1 6 12 12 5 ⊢ Q ⟨⟩) : R0 m Kn 1 0 0 0 0 ⊢ WP 1 (app (k0_part40 (F := F)) 1 hc) Q := by
  rw [k0_part40_eq_skeleton]
  unfold app k0_part40_skel
  simp only [Prog.lift, Prog.bind_op, Prog.bind_ret, Prog.pure_eq_ret]
  refine st_part (fun _ => p33) ?_
  refine st_part (fun _ => p34) ?_
  refine st_part (fun _ => p35) ?_
  refine st_part (fun _ => p36) ?_
  refine st_part (fun _ => p37) ?_
  refine st_part (fun _ => p38) ?_
  refine st_part (fun _ => p39) ?_
  refine wt 18 ?_
  refine wt 20 ?_
  refine wt 22 ?_
  refine wt 24 ?_
  exact st_ret h

end Cert.KernelIdeal.Exchange

end
-- ==== Proof.Ideal.Dev2.lean ====
/-
Device 2: it sends the even bands on to device 3 and the odd ones to device 1.
-/
module

public import proofs.«01_k».proof.Proof.Ideal.Relay

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {Kn : Dev nD × K → ℕ}

theorem p49 {hc} {Q} (h : R0 m Kn 2 1 2 1 0 ⊢ Q ⟨⟩) : R0 m Kn 2 0 0 0 0 ⊢ WP 2 (app (k0_part49 (F := F)) 2 hc) Q := by
  rw [k0_part49_eq_skeleton]
  unfold app k0_part49_skel
  simp only [Prog.lift, Prog.bind_op, Prog.bind_ret, Prog.pure_eq_ret]
  refine wt 28 ?_
  refine fwd 0 ?_ (Fin.ext k0_dev35_eq)
  refine cp 0 1 ?_
  refine wt 34 ?_
  exact st_ret h

theorem p50 {hc} {Q} (h : R0 m Kn 2 3 3 2 0 ⊢ Q ⟨⟩) : R0 m Kn 2 1 2 1 0 ⊢ WP 2 (app (k0_part50 (F := F)) 2 hc) Q := by
  rw [k0_part50_eq_skeleton]
  unfold app k0_part50_skel
  simp only [Prog.lift, Prog.bind_op, Prog.bind_ret, Prog.pure_eq_ret]
  refine fwd 1 ?_ (Fin.ext k0_dev36_eq)
  refine cp 1 1 ?_
  refine wt 29 ?_
  refine fwd 2 ?_ (Fin.ext k0_dev37_eq)
  exact st_ret h

theorem p51 {hc} {Q} (h : R0 m Kn 2 4 4 4 0 ⊢ Q ⟨⟩) : R0 m Kn 2 3 3 2 0 ⊢ WP 2 (app (k0_part51 (F := F)) 2 hc) Q := by
  rw [k0_part51_eq_skeleton]
  unfold app k0_part51_skel
  simp only [Prog.lift, Prog.bind_op, Prog.bind_ret, Prog.pure_eq_ret]
  refine cp 2 1 ?_
  refine wt 35 ?_
  refine fwd 3 ?_ (Fin.ext k0_dev38_eq)
  refine cp 3 1 ?_
  exact st_ret h

theorem p52 {hc} {Q} (h : R0 m Kn 2 5 6 5 0 ⊢ Q ⟨⟩) : R0 m Kn 2 4 4 4 0 ⊢ WP 2 (app (k0_part52 (F := F)) 2 hc) Q := by
  rw [k0_part52_eq_skeleton]
  unfold app k0_part52_skel
  simp only [Prog.lift, Prog.bind_op, Prog.bind_ret, Prog.pure_eq_ret]
  refine wt 30 ?_
  refine fwd 4 ?_ (Fin.ext k0_dev39_eq)
  refine cp 4 1 ?_
  refine wt 36 ?_
  exact st_ret h

theorem p53 {hc} {Q} (h : R0 m Kn 2 7 7 7 0 ⊢ Q ⟨(Scalar.muli 1#32 1#32), 0#32⟩) : R0 m Kn 2 5 6 5 0 ⊢ WP 2 (app (k0_part53 (F := F)) 2 hc) Q := by
  rw [k0_part53_eq_skeleton]
  unfold app k0_part53_skel
  simp only [Prog.lift, Prog.bind_op, Prog.bind_ret, Prog.pure_eq_ret]
  refine fwd 5 ?_ (Fin.ext k0_dev40_eq)
  refine cp 5 1 ?_
  refine wt 31 ?_
  refine fwd 6 ?_ (Fin.ext k0_dev41_eq)
  refine cp 6 1 ?_
  exact st_ret h

theorem p54 {hc v z} {Q} (h : R0 m Kn 2 8 9 8 0 ⊢ Q ⟨⟩) : R0 m Kn 2 7 7 7 0 ⊢ WP 2 (app (k0_part54 (F := F)) 2 hc v z) Q := by
  rw [k0_part54_eq_skeleton]
  unfold app k0_part54_skel
  simp only [Prog.lift, Prog.bind_op, Prog.bind_ret, Prog.pure_eq_ret]
  refine wt 37 ?_
  refine fwd 7 ?_ (Fin.ext k0_dev42_eq)
  refine cp 7 1 ?_
  refine wt 32 ?_
  exact st_ret h

theorem p55 {hc} {Q} (h : R0 m Kn 2 10 10 10 0 ⊢ Q ⟨⟩) : R0 m Kn 2 8 9 8 0 ⊢ WP 2 (app (k0_part55 (F := F)) 2 hc) Q := by
  rw [k0_part55_eq_skeleton]
  unfold app k0_part55_skel
  simp only [Prog.lift, Prog.bind_op, Prog.bind_ret, Prog.pure_eq_ret]
  refine fwd 8 ?_ (Fin.ext k0_dev43_eq)
  refine cp 8 1 ?_
  refine wt 38 ?_
  refine fwd 9 ?_ (Fin.ext k0_dev44_eq)
  refine cp 9 1 ?_
  exact st_ret h

theorem p56 {hc} {Q} (h : R0 m Kn 2 11 12 11 0 ⊢ Q ⟨⟩) : R0 m Kn 2 10 10 10 0 ⊢ WP 2 (app (k0_part56 (F := F)) 2 hc) Q := by
  rw [k0_part56_eq_skeleton]
  unfold app k0_part56_skel
  simp only [Prog.lift, Prog.bind_op, Prog.bind_ret, Prog.pure_eq_ret]
  refine wt 33 ?_
  refine fwd 10 ?_ (Fin.ext k0_dev45_eq)
  refine cp 10 1 ?_
  refine wt 39 ?_
  exact st_ret h

theorem p57 {hc} {Q} (h : R0 m Kn 2 12 12 12 2 ⊢ Q ⟨⟩) : R0 m Kn 2 11 12 11 0 ⊢ WP 2 (app (k0_part57 (F := F)) 2 hc) Q := by
  rw [k0_part57_eq_skeleton]
  unfold app k0_part57_skel
  simp only [Prog.lift, Prog.bind_op, Prog.bind_ret, Prog.pure_eq_ret]
  refine fwd 11 ?_ (Fin.ext k0_dev46_eq)
  refine cp 11 1 ?_
  refine wt 16 ?_
  refine wt 17 ?_
  exact st_ret h

theorem p58 {Q} (h : R0 m Kn 2 12 12 12 7 ⊢ Q ⟨⟩) : R0 m Kn 2 12 12 12 2 ⊢ WP 2 (app (k0_part58 (F := F))) Q := by
  rw [k0_part58_eq_skeleton]
  unfold app k0_part58_skel
  simp only [Prog.lift, Prog.bind_op, Prog.bind_ret, Prog.pure_eq_ret]
  refine wt 18 ?_
  refine wt 19 ?_
  refine wt 20 ?_
  refine wt 21 ?_
  refine wt 22 ?_
  exact st_ret h

theorem p59 {Q} (h : R0 m Kn 2 12 12 12 12 ⊢ Q ⟨⟩) : R0 m Kn 2 12 12 12 7 ⊢ WP 2 (app (k0_part59 (F := F))) Q := by
  rw [k0_part59_eq_skeleton]
  unfold app k0_part59_skel
  simp only [Prog.lift, Prog.bind_op, Prog.bind_ret, Prog.pure_eq_ret]
  refine wt 23 ?_
  refine wt 24 ?_
  refine wt 25 ?_
  refine wt 26 ?_
  refine wt 27 ?_
  exact st_ret h

end Cert.KernelIdeal.Exchange

end
-- ==== Proof.Ideal.Dev3.lean ====
/-
Device 3: it sends the odd bands on to device 2 and takes the even ones from it.
-/
module

public import proofs.«01_k».proof.Proof.Ideal.Relay

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {Kn : Dev nD × K → ℕ}

theorem p41 {hc} {Q} (h : R0 m Kn 3 1 2 1 0 ⊢ Q ⟨⟩) : R0 m Kn 3 0 0 0 0 ⊢ WP 3 (app (k0_part41 (F := F)) 3 hc) Q := by
  rw [k0_part41_eq_skeleton]
  unfold app k0_part41_skel
  simp only [Prog.lift, Prog.bind_op, Prog.bind_ret, Prog.pure_eq_ret]
  refine wt 34 ?_
  refine fwd 1 ?_ (Fin.ext k0_dev29_eq)
  refine cp 1 1 ?_
  refine wt 35 ?_
  exact st_ret h

theorem p42 {hc} {Q} (h : R0 m Kn 3 3 3 2 0 ⊢ Q ⟨⟩) : R0 m Kn 3 1 2 1 0 ⊢ WP 3 (app (k0_part42 (F := F)) 3 hc) Q := by
  rw [k0_part42_eq_skeleton]
  unfold app k0_part42_skel
  simp only [Prog.lift, Prog.bind_op, Prog.bind_ret, Prog.pure_eq_ret]
  refine fwd 3 ?_ (Fin.ext k0_dev30_eq)
  refine cp 3 1 ?_
  refine wt 36 ?_
  refine fwd 5 ?_ (Fin.ext k0_dev31_eq)
  exact st_ret h

theorem p43 {hc} {Q} (h : R0 m Kn 3 4 4 4 0 ⊢ Q ⟨⟩) : R0 m Kn 3 3 3 2 0 ⊢ WP 3 (app (k0_part43 (F := F)) 3 hc) Q := by
  rw [k0_part43_eq_skeleton]
  unfold app k0_part43_skel
  simp only [Prog.lift, Prog.bind_op, Prog.bind_ret, Prog.pure_eq_ret]
  refine cp 5 1 ?_
  refine wt 37 ?_
  refine fwd 7 ?_ (Fin.ext k0_dev32_eq)
  refine cp 7 1 ?_
  exact st_ret h

theorem p44 {hc} {Q} (h : R0 m Kn 3 5 6 5 0 ⊢ Q ⟨⟩) : R0 m Kn 3 4 4 4 0 ⊢ WP 3 (app (k0_part44 (F := F)) 3 hc) Q := by
  rw [k0_part44_eq_skeleton]
  unfold app k0_part44_skel
  simp only [Prog.lift, Prog.bind_op, Prog.bind_ret, Prog.pure_eq_ret]
  refine wt 38 ?_
  refine fwd 9 ?_ (Fin.ext k0_dev33_eq)
  refine cp 9 1 ?_
  refine wt 39 ?_
  exact st_ret h

theorem p45 {hc} {Q} (h : R0 m Kn 3 6 8 8 0 ⊢ Q ⟨⟩) : R0 m Kn 3 5 6 5 0 ⊢ WP 3 (app (k0_part45 (F := F)) 3 hc) Q := by
  rw [k0_part45_eq_skeleton]
  unfold app k0_part45_skel
  simp only [Prog.lift, Prog.bind_op, Prog.bind_ret, Prog.pure_eq_ret]
  refine fwd 11 ?_ (Fin.ext k0_dev34_eq)
  refine cp 11 1 ?_
  refine wt 28 ?_
  refine cp 0 0 ?_
  refine wt 29 ?_
  refine cp 2 0 ?_
  exact st_ret h

theorem p46 {Q} (h : R0 m Kn 3 6 10 10 0 ⊢ Q ⟨⟩) : R0 m Kn 3 6 8 8 0 ⊢ WP 3 (app (k0_part46 (F := F))) Q := by
  rw [k0_part46_eq_skeleton]
  unfold app k0_part46_skel
  simp only [Prog.lift, Prog.bind_op, Prog.bind_ret, Prog.pure_eq_ret]
  refine wt 30 ?_
  refine cp 4 0 ?_
  refine wt 31 ?_
  refine cp 6 0 ?_
  exact st_ret h

theorem p47 {Q} (h : R0 m Kn 3 6 12 12 1 ⊢ Q ⟨⟩) : R0 m Kn 3 6 10 10 0 ⊢ WP 3 (app (k0_part47 (F := F))) Q := by
  rw [k0_part47_eq_skeleton]
  unfold app k0_part47_skel
  simp only [Prog.lift, Prog.bind_op, Prog.bind_ret, Prog.pure_eq_ret]
  refine wt 32 ?_
  refine cp 8 0 ?_
  refine wt 33 ?_
  refine cp 10 0 ?_
  refine wt 17 ?_
  exact st_ret h

theorem p48 {hc} {Q} (h : R0 m Kn 3 6 12 12 5 ⊢ Q ⟨⟩) : R0 m Kn 3 0 0 0 0 ⊢ WP 3 (app (k0_part48 (F := F)) 3 hc) Q := by
  rw [k0_part48_eq_skeleton]
  unfold app k0_part48_skel
  simp only [Prog.lift, Prog.bind_op, Prog.bind_ret, Prog.pure_eq_ret]
  refine st_part (fun _ => p41) ?_
  refine st_part (fun _ => p42) ?_
  refine st_part (fun _ => p43) ?_
  refine st_part (fun _ => p44) ?_
  refine st_part (fun _ => p45) ?_
  refine st_part (fun _ => p46) ?_
  refine st_part (fun _ => p47) ?_
  refine wt 19 ?_
  refine wt 21 ?_
  refine wt 23 ?_
  refine wt 25 ?_
  exact st_ret h

end Cert.KernelIdeal.Exchange

end
-- ==== Proof.Ideal.Body.lean ====
/-
Each device from its first transfers to the end of its part.
-/
module

public import proofs.«01_k».proof.Proof.Ideal.Dev0b
public import proofs.«01_k».proof.Proof.Ideal.Dev1
public import proofs.«01_k».proof.Proof.Ideal.Dev2
public import proofs.«01_k».proof.Proof.Ideal.Dev3

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {Kn : Dev nD × K → ℕ}

/-! ## Branches -/

section Branches
variable {c : Dev nD} {α : Type} {Q : α → sProp (MT nD τ sig Unit (Elt F) ℕ UU ℕ)} {S : sProp (MT nD τ sig Unit (Elt F) ℕ UU ℕ)}

theorem st_pos {p : Prop} [Decidable p] {t : p → Prog (TpuEff nD τ sig (Elt F) Λ₀ (c : Thread nD τ).2) α} {e : ¬p → Prog (TpuEff nD τ sig (Elt F) Λ₀ (c : Thread nD τ).2) α}
    (hp : p) (h : S ⊢ WP c (t hp) Q) : S ⊢ WP c (dite p t e) Q := by rwa [dif_pos hp]
theorem st_neg {p : Prop} [Decidable p] {t : p → Prog (TpuEff nD τ sig (Elt F) Λ₀ (c : Thread nD τ).2) α} {e : ¬p → Prog (TpuEff nD τ sig (Elt F) Λ₀ (c : Thread nD τ).2) α}
    (hp : ¬p) (h : S ⊢ WP c (e hp) Q) : S ⊢ WP c (dite p t e) Q := by rwa [dif_neg hp]

end Branches

/-! ## The end of a device's part -/

/-- The cells a device has waited for when its bands are done. -/
def doneW (c : Dev nD) : List K := (sent c).map keyS ++ ((if c = 0 then [15] else fin12.map keyR) ++ waitsR 6)
/-- The pieces it then holds. -/
def doneP (c : Dev nD) : List Res :=
  fin12.map (fun j => (c, Dt.val (.bc j.castSucc) 0)) ++ ((c, .val .acc 0) ::
    ((if c = 0 then [(c, Dt.val .tail 0), (c, .val .sliv 0)] else [(c, .any .tail), (c, .any .sliv)]) ++ (got c 6 ++
      ([(c, Dt.any (.bc 12)), (c, .val .sl 3), (c, .val .og 3), (c, .val (if c = 1 then .oRest else .o) 0)] ++ fixedP c))))
/-- The order in which it has stored its result. -/
def doneO (c : Dev nD) : List (Fin 13) := if c = 0 then outs0 13 else (((ord c).take 12).map Fin.castSucc).reverse ++ [12]
/-- Its own sendings of the exchanges and the sliver, in the order it waits for them, and what they return. -/
def sentK (c : Dev nD) (w : ℕ) : List K := [2, 8, 3, 9, 4, 10, 14].take w
def sentP (c : Dev nD) (w : ℕ) : List Res :=
  [(c, Dt.val .sl 4), (c, .val .og 4), (c, .val .sl 5), (c, .val .og 5), (c, .val .sl 6), (c, .val .og 6), (c, .val .oTail 0)].take w

variable (m Kn) in
/-- A device whose bands are done, `w` of its sendings of the exchanges waited for. -/
abbrev Z0 (c : Dev nD) (todo : List Pay) (w : ℕ) : sProp 𝕄 :=
  At m Kn c todo (sent c) (sentK c w ++ doneW c) (sentP c w ++ doneP c) (doneO c)

/-- The halves of the bands sent on come together again. -/
theorem rejoin (c : Dev nD) : ∀ l : List (Fin 12), lst (interp m) (l.map (fun j => (c, Dt.val (.bc j.castSucc) 1)) ++ l.map (fun j => (c, Dt.val (.bc j.castSucc) 2)))
    ⊢ lst (interp m) (l.map fun j => (c, Dt.val (.bc j.castSucc) 0))
  | [] => .rfl
  | j :: l => by
    have hj := share_join (F := F) (m := m) c (.bc j.castSucc) 0 1 2 ⟨_, rfl, rfl, rfl⟩
    have hl := rejoin c l
    have hp : ((j :: l).map (fun j => (c, Dt.val (.bc j.castSucc) 1)) ++ (j :: l).map (fun j => (c, Dt.val (.bc j.castSucc) 2))).Perm
        ([(c, Dt.val (.bc j.castSucc) 1), (c, Dt.val (.bc j.castSucc) 2)] ++
          (l.map (fun j => (c, Dt.val (.bc j.castSucc) 1)) ++ l.map (fun j => (c, Dt.val (.bc j.castSucc) 2)))) :=
      .cons _ List.perm_middle
    rw [lst_one] at hj
    rw [lst_perm _ hp, lst_append]
    show _ ⊢ iprop(interp m (c, Dt.val (.bc j.castSucc) 0) ∗ lst (interp m) (l.map fun j => (c, Dt.val (.bc j.castSucc) 0)))
    exact BI.BIClass.sep_mono hj hl

theorem p66_0 {v2 v66 v77 v104 v115 v142 v153 Q} (h : Z0 m Kn 0 (sigs 0 1) 3 ⊢ Q ⟨⟩) :
    B0 m Kn 12 12 13 7 12 [(0, .val .acc 0), (0, .val .tail 0)]
      ⊢ WP 0 (app (k0_part66 (F := F)) 0 v2 v66 v77 v104 v115 v142 v153 (wo m 0) (Scalar.extui (Scalar.cmpi .ne (word 0) 0#32))) Q := by
  rw [k0_part66_eq_skeleton]
  unfold app k0_part66_skel
  refine st_neg (by decide +kernel) ?_
  refine st_neg (by decide +kernel) ?_
  refine st_neg (by decide +kernel) ?_
  refine st_neg (by decide +kernel) ?_
  refine st_lift (wt 2 ?_)
  refine st_lift (wt 8 ?_)
  refine st_lift (wt 3 ?_)
  exact st_ret h

theorem p66_1 {v2 v66 v77 v104 v115 v142 v153 Q} (h : Z0 m Kn 1 (sigs 1 1) 3 ⊢ Q ⟨⟩) :
    At m Kn 1 (owedB 1) [] [0] (heldA 1 6) []
      ⊢ WP 1 (app (k0_part66 (F := F)) 1 v2 v66 v77 v104 v115 v142 v153 (wo m 1) (Scalar.extui (Scalar.cmpi .ne (word 1) 0#32))) Q := by
  rw [k0_part66_eq_skeleton]
  unfold app k0_part66_skel
  refine st_pos (by decide +kernel) ?_
  refine st_part (fun _ => p30 1 (by decide)) ?_
  refine st_part (fun _ => p31 1 (by decide)) ?_
  refine st_part (fun _ => p32 1 (by decide)) ?_
  refine st_lift (st_load_out fun _ => ?_)
  refine st_lift (st_store_out 12 rfl (out_head m 1 rfl) ?_)
  refine st_pos (by decide +kernel) ?_
  refine st_part (fun _ => p40) ?_
  refine st_lift (wt 26 ?_)
  refine st_neg (by decide +kernel) ?_
  refine st_neg (by decide +kernel) ?_
  refine st_conv (_ ++ _) _ (by decide +kernel) (rejoin 1 (sent 1)) ?_
  refine st_lift (wt 2 ?_)
  refine st_lift (wt 8 ?_)
  refine st_lift (wt 3 ?_)
  exact st_ret h

theorem p66_3 {v2 v66 v77 v104 v115 v142 v153 Q} (h : Z0 m Kn 3 (sigs 3 1) 3 ⊢ Q ⟨⟩) :
    At m Kn 3 (owedB 3) [] [0] (heldA 3 6) []
      ⊢ WP 3 (app (k0_part66 (F := F)) 3 v2 v66 v77 v104 v115 v142 v153 (wo m 3) (Scalar.extui (Scalar.cmpi .ne (word 3) 0#32))) Q := by
  rw [k0_part66_eq_skeleton]
  unfold app k0_part66_skel
  refine st_pos (by decide +kernel) ?_
  refine st_part (fun _ => p30 3 (by decide)) ?_
  refine st_part (fun _ => p31 3 (by decide)) ?_
  refine st_part (fun _ => p32 3 (by decide)) ?_
  refine st_lift (st_load_out fun _ => ?_)
  refine st_lift (st_store_out 12 rfl (out_head m 3 rfl) ?_)
  refine st_neg (by decide +kernel) ?_
  refine st_pos (by decide +kernel) ?_
  refine st_part (fun _ => p48) ?_
  refine st_lift (wt 27 ?_)
  refine st_neg (by decide +kernel) ?_
  refine st_conv (_ ++ _) _ (by decide +kernel) (rejoin 3 (sent 3)) ?_
  refine st_lift (wt 2 ?_)
  refine st_lift (wt 8 ?_)
  refine st_lift (wt 3 ?_)
  exact st_ret h

theorem p66_2 {v2 v66 v77 v104 v115 v142 v153 Q} (h : Z0 m Kn 2 (sigs 2 1) 3 ⊢ Q ⟨⟩) :
    At m Kn 2 (owedB 2) [] [0] (heldA 2 6) []
      ⊢ WP 2 (app (k0_part66 (F := F)) 2 v2 v66 v77 v104 v115 v142 v153 (wo m 2) (Scalar.extui (Scalar.cmpi .ne (word 2) 0#32))) Q := by
  rw [k0_part66_eq_skeleton]
  unfold app k0_part66_skel
  refine st_pos (by decide +kernel) ?_
  refine st_part (fun _ => p30 2 (by decide)) ?_
  refine st_part (fun _ => p31 2 (by decide)) ?_
  refine st_part (fun _ => p32 2 (by decide)) ?_
  refine st_lift (st_load_out fun _ => ?_)
  refine st_lift (st_store_out 12 rfl (out_head m 2 rfl) ?_)
  refine st_neg (by decide +kernel) ?_
  refine st_neg (by decide +kernel) ?_
  refine st_pos (by decide +kernel) ?_
  refine st_part (fun _ => p49) ?_
  refine st_part (fun _ => p50) ?_
  refine st_part (fun _ => p51) ?_
  refine st_part (fun _ => p52) ?_
  refine st_part (fun _ => p53) ?_
  refine st_part (fun _ => p54) ?_
  refine st_part (fun _ => p55) ?_
  refine st_part (fun _ => p56) ?_
  refine st_part (fun _ => p57) ?_
  refine st_part (fun _ => p58) ?_
  refine st_part (fun _ => p59) ?_
  refine st_conv (_ ++ _) _ (by decide +kernel) (rejoin 2 (sent 2)) ?_
  refine st_lift (wt 2 ?_)
  refine st_lift (wt 8 ?_)
  refine st_lift (wt 3 ?_)
  exact st_ret h

end Cert.KernelIdeal.Exchange

end
-- ==== Proof.Ideal.Whole.lean ====
/-
The body from its first signal to its last wait, and what a device then has: its cells closed at zero, its arrays
whole again, the result filled.
-/
module

public import proofs.«01_k».proof.Proof.Ideal.Body

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {Kn : Dev nD × K → ℕ}

/-! ## The last waits and the exit barrier -/

theorem p67 (c : Dev nD) {Q} (h : Z0 m Kn c [.sig (aaDst c 1) 1, .sig (aaDst c 2) 1] (if c = 1 then 7 else 6) ⊢ Q (Scalar.addi (word c) 2#32)) :
    Z0 m Kn c (sigs c 1) 3 ⊢ WP c (app (k0_part67 (F := F)) c (word c)) Q := by
  rw [k0_part67_eq_skeleton]
  unfold app k0_part67_skel
  obtain rfl | rfl | rfl | rfl := dev_cases c
  all_goals
    refine st_lift (wt 9 ?_)
    refine st_lift (wt 4 ?_)
    refine st_lift (wt 10 ?_)
  on_goal 2 =>
    refine st_pos (by decide +kernel) ?_
    refine st_lift (wt 14 ?_)
  on_goal 1 => refine st_neg (by decide +kernel) ?_
  on_goal 3 => refine st_neg (by decide +kernel) ?_
  on_goal 4 => refine st_neg (by decide +kernel) ?_
  all_goals
    refine st_sig (d := aaDst _ 0) (by decide +kernel) (key := 1) rfl rfl rfl (by decide +kernel) (by decide +kernel) ?_
    exact st_ret h

/-! ## The arrays whole again -/

/-- Four quarters of a piece make it whole. -/
theorem join4 (c : Dev nD) (a : A) : lst (interp m) [(c, .val a 3), (c, .val a 4), (c, .val a 5), (c, .val a 6)] ⊢ lst (interp m) [(c, .val a 0)] := by
  refine BIBase.Entails.trans ?_ (share_join c a 0 1 2 ⟨_, rfl, rfl, rfl⟩)
  show lst (interp m) ([(c, .val a 3), (c, .val a 4)] ++ [(c, .val a 5), (c, .val a 6)]) ⊢ lst (interp m) ([(c, .val a 1)] ++ [(c, .val a 2)])
  rw [lst_append, lst_append]
  exact BI.BIClass.sep_mono (share_join c a 1 3 4 ⟨_, rfl, rfl, rfl⟩) (share_join c a 2 5 6 ⟨_, rfl, rfl, rfl⟩)

theorem forgets (c : Dev nD) : ∀ l : List A, lst (interp m) (l.map fun a => (c, Dt.val a 0)) ⊢ lst (interp m) (l.map fun a => (c, Dt.any a))
  | [] => .rfl
  | a :: l => BI.BIClass.sep_mono (forget c a) (forgets c l)

/-- The scratch pieces that hold a known value at the end. -/
def known (c : Dev nD) : List A :=
  fin12.map (fun j => .bc j.castSucc) ++ (.acc :: .sl :: (if c = 0 then [.tail, .sliv] else []) ++
    (List.finRange 3).flatMap fun s => [.aaL s, .aaG s])

/-! ## The cells closed -/

theorem close (c : Dev nD) : ∀ ps : List K, (∀ k ∈ ps, payers c k = []) →
    iprop(recs m Kn ∗ lst (posn c) ps) ⊢ |={Set.univ}=> lst (zer (F := F) c) ps
  | [], _ => by
    iintro ⟨-, H⟩
    imodintro
    iexact H
  | k :: ps, h => by
    have ih := close c ps fun k' hk' => h k' (List.mem_cons_of_mem _ hk')
    show iprop(recs m Kn ∗ (atPos ER (cell c k) 0 ∅ 0 ∗ lst (posn c) ps)) ⊢ |={Set.univ}=> iprop(semVal (cell c k) 0 ∗ lst (zer c) ps)
    iintro ⟨#Hr, Hp, Hps⟩
    imod (Rounds.cell_close ER (Rd m) (Set.mem_univ (Kn (c, k))) (fun h => h) (R := 0) (duties_none m c k (h k List.mem_cons_self))) $$ [Hp] with Hz
    · isplitr; · iapply (recs_inv m Kn (c, k)); iexact Hr
      iexact Hp
    imod ih $$ [Hps] with Hzs
    · isplitr; · iexact Hr
      iexact Hps
    imodintro
    isplitl [Hz] <;> iassumption

variable (m) in
/-- What a device has at the end. -/
def Last (c : Dev nD) : sProp 𝕄 :=
  iprop((∃ W, owes (c : Thread nD τ) 0 W) ∗ lst (zer c) cells0 ∗ lst (interp m) (held0 c) ∗ ((c : Thread nD τ).loc cc0_stg5_0) ↦{fullShare} (xout m c))

theorem finish (c : Dev nD) {ps cs zs : List K} {ds : List Res} {outs : List (Fin 13)} (hp : ∀ k ∈ ps, payers c k = [])
    (hz : (ps ++ zs).Perm cells0) (hd : ds.Perm (held0 c)) (ho : ∀ j, j ∈ outs) : St m Kn c [] ps cs zs ds outs ⊢ |={Set.univ}=> Last m c := by
  unfold St Last outR
  rw [lst_perm _ hd]
  rw [← lst_perm _ hz, lst_append]
  iintro ⟨⟨#Hr, -⟩, HO, -, Hps, -, Hz, Hd, ⟨%f, %hf, Ho⟩⟩
  have hf' : f = xout m c := funext fun i => by
    obtain ⟨j, hj⟩ := rows_cover i
    exact hf j (ho j) i hj
  subst hf'
  imod (close c ps hp) $$ [Hps] with Hzs
  · isplitr; · iexact Hr
    iexact Hps
  imodintro
  isplitl [HO]; · iexact HO
  isplitl [Hz Hzs]; · isplitl [Hzs] <;> iassumption
  isplitl [Hd]; · iexact Hd
  iexact Ho

theorem st_end {c : Dev nD} {ps cs zs : List K} {ds : List Res} {outs : List (Fin 13)} (hp : ∀ k ∈ ps, payers c k = [])
    (hz : (ps ++ zs).Perm cells0) (hd : ds.Perm (held0 c)) (ho : ∀ j, j ∈ outs) : St m Kn c [] ps cs zs ds outs ⊢ WP c (.ret PUnit.unit) (fun _ => Last m c) := by
  show _ ⊢ wp frame (wpE (defs₀ (F := F)) 𝒱₀ (c : Thread nD τ) none) Set.univ (.ret PUnit.unit) _
  rw [wp_ret]
  exact finish c hp hz hd ho

/-- The exit barrier and the end. -/
theorem ending (c : Dev nD) {f : PUnit → Prog (TpuEff nD τ sig (Elt F) Λ₀ (c : Thread nD τ).2) PUnit} (hf : f ⟨⟩ = .ret ⟨⟩) :
    Z0 m Kn c [.sig (aaDst c 1) 1, .sig (aaDst c 2) 1] (if c = 1 then 7 else 6) ⊢
      WP c (.op (.semSignal ((⟨k0_dev48 c, k0_dev48_lt c⟩ : Dev nD) : Thread nD τ) exitS 1) fun _ =>
        .op (.semSignal ((⟨k0_dev49 c, k0_dev49_lt c⟩ : Dev nD) : Thread nD τ) exitS 1) fun _ => .op (.semWait exitS 3) f) (fun _ => Last m c) := by
  have js := join4 (m := m) c .sl
  have jo := join4 (m := m) c .og
  have jk := forgets (m := m) c (known c)
  obtain rfl | rfl | rfl | rfl := dev_cases c
  all_goals
    refine st_sig (d := aaDst _ 1) (by decide +kernel) (key := 1) rfl rfl rfl (by decide +kernel) (by decide +kernel) ?_
    refine st_sig (d := aaDst _ 2) (by decide +kernel) (key := 1) rfl rfl rfl (by decide +kernel) (by decide +kernel) ?_
    refine st_semWait 1 rfl rfl (by decide +kernel) (by decide +kernel) (by decide +kernel) (by decide +kernel) ?_
    rw [hf]
    refine st_conv _ _ (by decide +kernel) js ?_
    refine st_conv _ _ (by decide +kernel) jo ?_
    refine st_conv _ _ (by decide +kernel) jk ?_
  on_goal 2 => refine st_conv _ _ (by decide +kernel) (Entails.of_eq (o_split 1).symm) ?_
  all_goals exact st_end (by decide +kernel) (by decide +kernel) (by decide +kernel) (by decide +kernel)

theorem body (c : Dev nD) : St m Kn c (owed0 c) cells0 (creds0 c) [] (held0 c) [] ⊢ WP c (app (cc0__comm_body (F := F))) (fun _ => Last m c) := by
  rw [cc0__comm_body_eq_skeleton]
  unfold app cc0__comm_body_skel
  refine st_bind (p60 c fun _ _ => ?_)
  refine st_bind (p61 c fun _ _ _ _ => ?_)
  refine st_bind (p62 c fun _ _ _ _ _ => ?_)
  refine st_bind (p63 c fun _ _ => ?_)
  refine st_bind (p64 c fun _ _ _ => ?_)
  obtain rfl | rfl | rfl | rfl := dev_cases c
  · refine st_bind (p65_0 ?_)
    refine st_bind (p66_0 ?_)
    refine st_bind (p67 0 ?_)
    exact ending 0 rfl
  · refine st_bind (p65 1 (by decide) ?_)
    refine st_bind (p66_1 ?_)
    refine st_bind (p67 1 ?_)
    exact ending 1 rfl
  · refine st_bind (p65 2 (by decide) ?_)
    refine st_bind (p66_2 ?_)
    refine st_bind (p67 2 ?_)
    exact ending 2 rfl
  · refine st_bind (p65 3 (by decide) ?_)
    refine st_bind (p66_3 ?_)
    refine st_bind (p67 3 ?_)
    exact ending 3 rfl

end Cert.KernelIdeal.Exchange

end
-- ==== Proof.Ideal.Ghost.lean ====
/-
The launch's resources: every cell's invariant is made, positions, tokens and credit are dealt to the devices.
-/
module

public import proofs.«01_k».proof.Proof.Ideal.Whole

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Conjunctions over all indices as lists -/

theorem lst_univ {M : Type} [URA M] {n : ℕ} (Φ : Fin n → sProp M) : bigSep Finset.univ Φ = lst Φ (List.finRange n) := by
  rw [← bigSep_lst Φ (List.nodup_finRange n), List.toFinset_finRange]

theorem lst_map {M : Type} [URA M] {α β : Type} (Φ : β → sProp M) (g : α → β) : ∀ l : List α, lst Φ (l.map g) = lst (fun a => Φ (g a)) l
  | [] => rfl
  | a :: l => by show iprop(Φ (g a) ∗ lst Φ (l.map g)) = iprop(Φ (g a) ∗ lst _ l); rw [lst_map Φ g l]

/-! ## Cells and tokens as the launch mints them -/

theorem cell_inj : Function.Injective (fun ck : Dev nD × K => (cell ck.1 ck.2 : GSem nD τ sig)) := by
  rintro ⟨c, k⟩ ⟨c', k'⟩ h
  have h1 : c = c' := congrArg (fun g : GSem nD τ sig => g.1.1) h
  subst h1
  have h2 : csem k = csem k' := congrArg Prod.snd h
  have h3 := congrArg kOf h2
  rw [kOf_csem, kOf_csem] at h3
  rw [Option.some.inj h3]

def cellsF : Finset (GSem nD τ sig) := Finset.univ.map ⟨_, cell_inj⟩

/-- The tokens a payment takes: the cells and the payers. -/
def tokKeys (c : Dev nD) : Pay → List ((Dev nD × K) × Fin 4)
  | .sig d k => [((d, k), c)]
  | .snd k d k' => [((c, k), 0), ((d, k'), 0)]
def allToks : List ((Dev nD × K) × Fin 4) := (List.finRange 4).flatMap fun c => (owed0 c).flatMap (tokKeys c)
theorem allToks_nodup : allToks.Nodup := by decide +kernel

theorem tokCell_inj : Function.Injective (fun x : (Dev nD × K) × Fin 4 => ((cell x.1.1 x.1.2, 0, x.2) : GSem nD τ sig × ℕ × Fin 4)) := by
  rintro ⟨ck, p⟩ ⟨ck', p'⟩ h
  have h1 : ck = ck' := cell_inj (congrArg Prod.fst h)
  have h2 : p = p' := congrArg (fun x : GSem nD τ sig × ℕ × Fin 4 => x.2.2) h
  rw [h1, h2]

def toksF : Finset (GSem nD τ sig × ℕ × Fin 4) := allToks.toFinset.map ⟨_, tokCell_inj⟩

theorem tok_keys (c : Dev nD) (p : Pay) :
    lst (fun x : (Dev nD × K) × Fin 4 => (dutyTok ER (cell x.1.1 x.1.2) 0 x.2 : sProp 𝕄)) (tokKeys c p) = tok c p := by
  cases p with
  | sig d k => exact lst_one _ _
  | snd k d k' =>
    show iprop(dutyTok ER (cell c k) 0 0 ∗ lst _ [((d, k'), 0)]) = _
    rw [lst_one]; rfl

theorem toks_dealt : bigSep toksF (fun x => (dutyTok ER x.1 x.2.1 x.2.2 : sProp 𝕄)) = bigSep Finset.univ fun c : Dev nD => lst (tok c) (owed0 c) := by
  unfold toksF
  rw [bigSep_map]
  refine (bigSep_lst _ allToks_nodup).trans ?_
  unfold allToks
  rw [lst_flatMap, ← lst_univ]
  refine bigSep_congr fun c _ => ?_
  rw [lst_flatMap]
  exact congrArg (fun Φ => lst Φ (owed0 c)) (funext fun p => tok_keys c p)

def u₀ : UU := (initOf (Pipeline.cells cfgs cellOf_inj) (Pipeline.launchToks cfgs cellOf_inj), initOf cellsF toksF)

/-- What the launch deals device `c`. -/
def G (c : Dev nD) : sProp 𝕄 :=
  iprop((bigSep Finset.univ fun k : K => roundState ER (Rd m) (cell c k) 0)
    ∗ (bigSep Finset.univ fun k : K => iprop(atPos ER (cell c k) 0 ∅ 0 ∗ reached ER (cell c k) 0)) ∗ lst (tok c) (owed0 c))

/-- What a device starts with of it: all invariants, its positions, its tokens. -/
def G' (c : Dev nD) : sProp 𝕄 := iprop(∃ Kn, recs m Kn ∗ lst (posn c) cells0 ∗ lst (tok c) (owed0 c))

theorem fund_cells : BI.own (ER (initOf cellsF toksF)) ⊢ (|==> bigSep Finset.univ (G m) : sProp 𝕄) := by
  have hX (Φ : GSem nD τ sig → sProp 𝕄) : bigSep cellsF Φ = bigSep Finset.univ fun c : Dev nD => bigSep Finset.univ fun k : K => Φ (cell c k) := by
    unfold cellsF; rw [bigSep_map, bigSep_univ_prod]; rfl
  iintro HX
  imod (Rounds.fund ER (Rd m) cellsF toksF) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq toks_dealt) $$ Htok
  unfold G; simp only [bigSep_sep']
  isplitl [Hst']; · iexact Hst'
  isplitl [Hat' Hr']
  · isplitl [Hat'] <;> iassumption
  iexact Htok'

/-! ## Counters -/

/-- The kernel's own semaphores: all cells but the entry barrier, which is the launch's. -/
abbrev osem : Fin 39 → SemLoc sig := fun k => csem k.succ

theorem ownSemFacts : Pipeline.OwnSemFacts cfg0.spec osem := by decide +kernel

theorem unscoped_eq (c : Dev nD) : (unscopedSems0 c : sProp 𝕄) = zer c 0 := by
  unfold unscopedSems0
  rw [bigSep_eq_bigSepL_of_eq [SemLoc.reg barS] (by decide) (by decide)]
  rfl

theorem zeros_eq (c : Dev nD) :
    lst (zer (F := F) c) cells0 = iprop(unscopedSems0 c ∗ Pipeline.ownSems0 (Ix := Unit) (Name := ℕ) (U := UU) (Lvl := ℕ) (Val := Elt F) (τ := τ) osem c) := by
  have h : cells0 = 0 :: (List.finRange 39).map Fin.succ := by decide +kernel
  rw [h, unscoped_eq]
  show iprop(zer c 0 ∗ lst (zer c) _) = _
  rw [lst_map, ← lst_univ]
  rfl

/-! ## The invariants are made, the rest dealt -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : K => iprop(∃ κ : ℕ, cellInv ER (Rd m) κ (cell c k)))
          ∗ (bigSep Finset.univ fun k : K => iprop(atPos ER (cell c k) 0 ∅ 0 ∗ reached ER (cell c k) 0)) ∗ lst (tok c) (owed0 c)) := by
  unfold G
  iintro ⟨Hos, Hus, Hst, Hat, Htok⟩
  ihave Hv := (Entails.of_eq ((zeros_eq (F := F) c).symm.trans (lst_univ (zer (F := F) c)).symm)) $$ [Hos Hus]
  · isplitl [Hus] <;> iassumption
  imod (show iprop((bigSep Finset.univ (zer (F := F) c)) ∗ bigSep Finset.univ fun k : K => roundState ER (Rd m) (cell c k) 0)
      ⊢ (|={Set.univ}=> bigSep Finset.univ fun k : K => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k : K => iprop(∃ κ : ℕ, cellInv ER (Rd m) κ (cell c k)))
          ∗ (bigSep Finset.univ fun k : K => iprop(atPos ER (cell c k) 0 ∅ 0 ∗ reached ER (cell c k) 0)) ∗ lst (tok c) (owed0 c)) : sProp 𝕄)
      ⊢ bigSep Finset.univ (G' m) := by
  rw [bigSep_sep', bigSep_sep', ← bigSep_univ_prod (fun ck : Dev nD × K => iprop(∃ κ : ℕ, cellInv ER (Rd m) κ (cell ck.1 ck.2))),
    bigSep_congr (s := Finset.univ) (fun (c : Dev nD) _ => bigSep_sep' Finset.univ (fun k : K => (atPos ER (cell c k) 0 ∅ 0 : sProp 𝕄)) (fun k => reached ER (cell c k) 0)),
    bigSep_sep', ← bigSep_univ_prod (fun ck : Dev nD × K => (reached ER (cell ck.1 ck.2) 0 : sProp 𝕄))]
  iintro ⟨HI, ⟨Hat, HR⟩, Htok⟩
  ihave HK := (BI.bigSep_exists_pi Finset.univ (fun (ck : Dev nD × K) (κ : ℕ) => (cellInv ER (Rd m) κ (cell ck.1 ck.2) : sProp 𝕄))) $$ HI
  icases HK with ⟨%Kn, HI⟩
  ihave #Hrec := (show iprop(_ ∗ _) ⊢ recs m Kn from Entails.of_eq (bigSep_sep' Finset.univ (fun ck : Dev nD × K => (cellInv ER (Rd m) (Kn ck) (cell ck.1 ck.2) : sProp 𝕄))
    (fun ck => reached ER (cell ck.1 ck.2) 0)).symm) $$ [HI HR]
  · isplitl [HI] <;> iassumption
  have each : ∀ c ∈ (Finset.univ : Finset (Dev nD)), iprop(recs m Kn ∗ ((bigSep Finset.univ fun k : K => (atPos ER (cell c k) 0 ∅ 0 : sProp 𝕄)) ∗ lst (tok c) (owed0 c))) ⊢ G' m c := by
    intro c _
    rw [lst_univ]
    unfold G'
    iintro ⟨#Hr, Hp, Ht⟩
    iexists Kn
    isplitr; · iexact Hr
    isplitl [Hp]; · iexact Hp
    iexact Ht
  have both : iprop(recs m Kn ∗ bigSep Finset.univ fun c : Dev nD => iprop((bigSep Finset.univ fun k : K => (atPos ER (cell c k) 0 ∅ 0 : sProp 𝕄)) ∗ lst (tok c) (owed0 c)))
      ⊢ bigSep Finset.univ (G' m) :=
    (sep_mono_left (BI.bigSep_of_persistent Finset.univ (recs m Kn))).trans (by rw [← bigSep_sep']; exact bigSep_mono each)
  iapply both
  isplitr; · iexact Hrec
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What a list of payments owes a cell: its units, as often as the list names it. -/
theorem owedL_at (c : Dev nD) (k : K) : ∀ l : List Pay, owedL l (cell c k) () = l.countP (fun p => p.dst = c ∧ p.key = k) * amtK k
  | [] => by rw [List.countP_nil, Nat.zero_mul]; rfl
  | p :: l => by
    show owedL l (cell c k) () + tallyAt (cell p.dst p.key) () (amtK p.key) (cell c k) () = _
    rw [owedL_at c k l, tallyAt_apply, List.countP_cons, Nat.add_mul]
    congr 1
    by_cases h : p.dst = c ∧ p.key = k
    · obtain ⟨rfl, rfl⟩ := h
      rw [if_pos ⟨rfl, rfl⟩, if_pos (by simp), Nat.one_mul]
    · rw [if_neg fun h' => h (by have := @cell_inj (c, k) (p.dst, p.key) h'.1; exact ⟨(congrArg Prod.fst this).symm, (congrArg Prod.snd this).symm⟩), if_neg (by simpa using h), Nat.zero_mul]

theorem owed_count : ∀ c : Dev nD, ∀ k ∈ creds0 c, (∑ d : Dev nD, (owed0 d).countP (fun p => p.dst = c ∧ p.key = k)) = (payers c k).length := by decide +kernel
theorem creds0_nodup : ∀ c : Dev nD, (creds0 c).Nodup := by decide +kernel

theorem csem_inj : Function.Injective csem := fun k k' h => by
  have h3 := congrArg kOf h
  rw [kOf_csem, kOf_csem] at h3
  exact Option.some.inj h3

/-- What all devices owe at launch. -/
def owed (d : Dev nD) : CellTallies nD τ sig Unit := owedL (owed0 d)

theorem credit_at (c : Dev nD) (k : K) (hk : k ∈ creds0 c) :
    tallyOn (cell c k) (launchCredit (Pipeline.owing owed) 0 (cell c k)) = (tallyAt (cell c k) () (expectK c k) : CellTallies nD τ sig Unit) := by
  unfold tallyAt
  refine congrArg _ (Finsupp.ext fun u => ?_)
  cases u
  rw [Pipeline.launchCredit_owing, Finsupp.single_eq_same, Finset.sum_congr rfl fun d _ => show owed d (cell c k) () = _ from owedL_at c k (owed0 d), ← Finset.sum_mul, owed_count c k hk]
  rfl

theorem credits (c : Dev nD) : (Pipeline.launchCred owed c : sProp 𝕄) ⊢ lst (crd c) (creds0 c) := by
  unfold Pipeline.launchCred
  obtain ⟨S, hS⟩ : ∃ S : Finset (SemLoc sig), S = (creds0 c).toFinset.map ⟨csem, csem_inj⟩ := ⟨_, rfl⟩
  refine BIBase.Entails.trans (bigSep_subset (Finset.subset_univ S)) ?_
  rw [hS, bigSep_map, ← bigSep_lst _ (creds0_nodup c)]
  refine bigSep_mono fun k hk => ?_
  have e := credit_at c k (List.mem_toFinset.mp hk)
  unfold crd
  rw [← e]
  exact BI.Entails.refl _

end Cert.KernelIdeal.Exchange

end
-- ==== Proof.Ideal.Pieces.lean ====
/-
The arrays cut in the pieces the protocol names, and put together again.
-/
module

public import proofs.«01_k».proof.Proof.Ideal.Ghost

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## An array cut in disjoint pieces -/

theorem cut_pieces {n : ℕ} (ℓ : Loc nD τ sig) (S : Fin n → Finset (Idx ℓ)) (hd : ∀ t ∈ (Finset.univ : Finset (Fin n)), ∀ t' ∈ (Finset.univ : Finset (Fin n)), t ≠ t' → Disjoint (S t) (S t'))
    (hu : (Finset.univ : Finset (Fin n)).biUnion S = Finset.univ) :
    (iprop(∃ f : Buf (Elt F) ℓ, ℓ ↦{fullShare} f) : sProp 𝕄) ⊢ lst (fun t => iprop(∃ f : Buf (Elt F) ℓ, ℓ ↦[S t]{fullShare} f)) (List.finRange n) := by
  rw [← lst_univ]
  iintro ⟨%f, H⟩
  ihave H := (Entails.of_eq ((congrArg (fun I => (ℓ ↦[I]{fullShare} f : sProp 𝕄)) hu.symm).trans (pointsTo_biUnion Finset.univ S hd))) $$ H
  have hf : (bigSep Finset.univ fun t => (ℓ ↦[S t]{fullShare} f : sProp 𝕄)) ⊢ bigSep Finset.univ fun t => iprop(∃ f : Buf (Elt F) ℓ, ℓ ↦[S t]{fullShare} f) :=
    bigSep_mono fun t _ => show (ℓ ↦[S t]{fullShare} f : sProp 𝕄) ⊢ iprop(∃ f : Buf (Elt F) ℓ, ℓ ↦[S t]{fullShare} f) from by
      iintro H; iexists f; iexact H
  iapply hf
  iexact H

include m in
theorem join_pieces {n : ℕ} (ℓ : Loc nD τ sig) (S : Fin n → Finset (Idx ℓ)) (hd : ∀ t ∈ (Finset.univ : Finset (Fin n)), ∀ t' ∈ (Finset.univ : Finset (Fin n)), t ≠ t' → Disjoint (S t) (S t'))
    (hu : (Finset.univ : Finset (Fin n)).biUnion S = Finset.univ) :
    lst (fun t => iprop(∃ f : Buf (Elt F) ℓ, ℓ ↦[S t]{fullShare} f)) (List.finRange n) ⊢ (iprop(∃ f : Buf (Elt F) ℓ, ℓ ↦{fullShare} f) : sProp 𝕄) := by
  haveI : Nonempty (Buf (Elt F) ℓ) := ⟨m ℓ⟩
  rw [← lst_univ]
  iintro H
  ihave H := (BI.bigSep_exists_pi (Y := fun _ => Buf (Elt F) ℓ) Finset.univ (fun t f => (ℓ ↦[S t]{fullShare} f : sProp 𝕄))) $$ H
  icases H with ⟨%fs, H⟩
  ihave H := (pointsTo_biUnion_join Finset.univ S fs (m ℓ) hd) $$ H
  icases H with ⟨%g, -, H⟩
  rw [hu]
  iexists g
  iexact H

/-! ## The slots of the receive arrays and the bands -/

theorem mem_slotL (s : Fin 3) (i : S3x2048x8.Idx) : i ∈ (aaLS s).view.set ↔ (i 0).val = s.val := by
  have e : (aaLS s).view.set = (slotL s).set := (Memref.set_view_squeeze _ squeezes_S1x2048x8_S2048x8).trans (View.set_slice_whole _ _)
  rw [e, LoadRect.mem_set]
  constructor
  · intro h
    obtain ⟨k, hk, e⟩ := h 0
    have hk' : k < 1 := hk
    have e' : (i 0).val = s.val + 1 * k := e
    omega
  · intro h a
    fin_cases a
    · exact ⟨0, Nat.one_pos, show (i 0).val = s.val + 1 * 0 by omega⟩
    · exact ⟨(i 1).val, (i 1).isLt, show (i 1).val = 0 + 1 * (i 1).val by omega⟩
    · exact ⟨(i 2).val, (i 2).isLt, show (i 2).val = 0 + 1 * (i 2).val by omega⟩
theorem mem_slotG (s : Fin 3) (i : S3x32x1024.Idx) : i ∈ (aaGS s).view.set ↔ (i 0).val = s.val := by
  have e : (aaGS s).view.set = (slotG s).set := (Memref.set_view_squeeze _ squeezes_S1x32x1024_S32x1024).trans (View.set_slice_whole _ _)
  rw [e, LoadRect.mem_set]
  constructor
  · intro h
    obtain ⟨k, hk, e⟩ := h 0
    have hk' : k < 1 := hk
    have e' : (i 0).val = s.val + 1 * k := e
    omega
  · intro h a
    fin_cases a
    · exact ⟨0, Nat.one_pos, show (i 0).val = s.val + 1 * 0 by omega⟩
    · exact ⟨(i 1).val, (i 1).isLt, show (i 1).val = 0 + 1 * (i 1).val by omega⟩
    · exact ⟨(i 2).val, (i 2).isLt, show (i 2).val = 0 + 1 * (i 2).val by omega⟩

theorem slots_disj {I : Type} [DecidableEq I] {p : I → ℕ} {S : Fin 3 → Finset I} (h : ∀ s i, i ∈ S s ↔ p i = s.val) :
    ∀ t ∈ (Finset.univ : Finset (Fin 3)), ∀ t' ∈ (Finset.univ : Finset (Fin 3)), t ≠ t' → Disjoint (S t) (S t') := by
  intro t _ t' _ hn
  rw [Finset.disjoint_left]
  intro i h1 h2
  exact hn (Fin.ext (((h t i).mp h1).symm.trans ((h t' i).mp h2)))
theorem slots_cover {I : Type} [Fintype I] [DecidableEq I] {p : I → ℕ} {S : Fin 3 → Finset I} (h : ∀ s i, i ∈ S s ↔ p i = s.val) (hp : ∀ i, p i < 3) :
    (Finset.univ : Finset (Fin 3)).biUnion S = Finset.univ := by
  ext i
  simp only [Finset.mem_biUnion, Finset.mem_univ, true_and, iff_true]
  exact ⟨⟨p i, hp i⟩, (h _ i).mpr rfl⟩

theorem band_set (j : Fin 13) : (bcM.slice (band j) (fun _ => rfl) : Memref sig .tc .vmem _ .bf16).view.set = rows j := View.set_slice_whole _ _

/-! ## The scratch arrays -/

/-- A whole array at some contents. -/
abbrev some1 (c : Dev nD) (b : Ref sig .tc) : sProp 𝕄 := iprop(∃ f : Buf (Elt F) ((c : Thread nD τ).loc b), ((c : Thread nD τ).loc b) ↦{fullShare} f)

theorem any_whole (c : Dev nD) (a : A) (h : setOf a = Finset.univ) : interp m (c, .any a) = some1 c (refOf a) := by
  show iprop(∃ f : Buf (Elt F) ((c : Thread nD τ).loc (refOf a)), ((c : Thread nD τ).loc (refOf a)) ↦[setOf a]{fullShare} f) = _
  rw [h]

theorem aaL_eq (c : Dev nD) : some1 (F := F) c cc0_scratch1 ⊣⊢ lst (interp m) ((List.finRange 3).map fun s => (c, .any (.aaL s))) := by
  rw [lst_map]
  exact ⟨cut_pieces (F := F) ((c : Thread nD τ).loc cc0_scratch1) (fun s => (aaLS s).view.set) (slots_disj mem_slotL) (slots_cover mem_slotL fun i => (i 0).isLt),
    join_pieces m ((c : Thread nD τ).loc cc0_scratch1) (fun s => (aaLS s).view.set) (slots_disj mem_slotL) (slots_cover mem_slotL fun i => (i 0).isLt)⟩
theorem aaG_eq (c : Dev nD) : some1 (F := F) c cc0_scratch2 ⊣⊢ lst (interp m) ((List.finRange 3).map fun s => (c, .any (.aaG s))) := by
  rw [lst_map]
  exact ⟨cut_pieces (F := F) ((c : Thread nD τ).loc cc0_scratch2) (fun s => (aaGS s).view.set) (slots_disj mem_slotG) (slots_cover mem_slotG fun i => (i 0).isLt),
    join_pieces m ((c : Thread nD τ).loc cc0_scratch2) (fun s => (aaGS s).view.set) (slots_disj mem_slotG) (slots_cover mem_slotG fun i => (i 0).isLt)⟩
theorem bc_eq (c : Dev nD) : some1 (F := F) c cc0_scratch6 ⊣⊢ lst (interp m) ((List.finRange 13).map fun j => (c, .any (.bc j))) := by
  rw [lst_map]
  have hb : (fun j : Fin 13 => interp m (c, .any (.bc j)))
      = fun j => iprop(∃ f : Buf (Elt F) ((c : Thread nD τ).loc cc0_scratch6), ((c : Thread nD τ).loc cc0_scratch6) ↦[rows j]{fullShare} f) := by
    funext j
    show iprop(∃ f : Buf (Elt F) ((c : Thread nD τ).loc cc0_scratch6), ((c : Thread nD τ).loc cc0_scratch6) ↦[(bcM.slice (band j) (fun _ => rfl) : Memref sig .tc .vmem _ .bf16).view.set]{fullShare} f) = _
    rw [band_set]
  rw [hb]
  exact ⟨cut_pieces (F := F) ((c : Thread nD τ).loc cc0_scratch6) rows rows_disjoint rows_union, join_pieces m ((c : Thread nD τ).loc cc0_scratch6) rows rows_disjoint rows_union⟩

/-- The pieces of device `c`'s inputs, and of its scratch arrays. -/
def inP (c : Dev nD) : List Res := [(c, .val .o 0), (c, .val .og 0), (c, .val .l 0), (c, .val .lg 0), (c, .val .wo 0)]
def scrP (c : Dev nD) : List Res :=
  [(c, .any .sl), (c, .any .acc), (c, .any .sliv), (c, .any .tail)] ++ ((List.finRange 3).map (fun s => (c, Dt.any (.aaL s))) ++
    ((List.finRange 3).map (fun s => (c, Dt.any (.aaG s))) ++ (List.finRange 13).map fun j => (c, Dt.any (.bc j))))
theorem held_perm : ∀ c : Dev nD, (held0 c).Perm (inP c ++ scrP c) := by decide +kernel

theorem scr_eq (c : Dev nD) : (Pipeline.scopedRest (Ix := Unit) (Name := ℕ) (U := UU) (Lvl := ℕ) (Val := Elt F) cfg0.spec c : sProp 𝕄) ⊣⊢ lst (interp m) (scrP c) := by
  have e : lst (interp m) (scrP c) = iprop((some1 c cc0_scratch0 ∗ some1 c cc0_scratch3 ∗ some1 c cc0_scratch4 ∗ some1 c cc0_scratch5 ∗ emp)
      ∗ lst (interp m) ((List.finRange 3).map fun s => (c, .any (.aaL s))) ∗ lst (interp m) ((List.finRange 3).map fun s => (c, .any (.aaG s)))
      ∗ lst (interp m) ((List.finRange 13).map fun j => (c, .any (.bc j)))) := by
    unfold scrP
    rw [lst_append, lst_append, lst_append]
    show iprop((interp m (c, .any .sl) ∗ interp m (c, .any .acc) ∗ interp m (c, .any .sliv) ∗ interp m (c, .any .tail) ∗ emp) ∗ _) = _
    rw [any_whole m c .sl (View.set_whole _), any_whole m c .acc (View.set_whole _), any_whole m c .sliv (View.set_whole _), any_whole m c .tail (View.set_whole _)]
    rfl
  rw [e, scopedRest0_eq]
  constructor
  · iintro ⟨H0, H1, H2, H3, H4, H5, H6⟩
    isplitl [H0 H3 H4 H5]
    · isplitl [H0]; · iexact H0
      isplitl [H3]; · iexact H3
      isplitl [H4]; · iexact H4
      isplitl [H5]; · iexact H5
      iempintro
    isplitl [H1]; · iapply (aaL_eq m c).1; iexact H1
    isplitl [H2]; · iapply (aaG_eq m c).1; iexact H2
    iapply (bc_eq m c).1; iexact H6
  · iintro ⟨⟨H0, H3, H4, H5, -⟩, H1, H2, H6⟩
    isplitl [H0]; · iexact H0
    isplitl [H1]; · iapply (aaL_eq m c).2; iexact H1
    isplitl [H2]; · iapply (aaG_eq m c).2; iexact H2
    isplitl [H3]; · iexact H3
    isplitl [H4]; · iexact H4
    isplitl [H5]; · iexact H5
    iapply (bc_eq m c).2; iexact H6

/-- The inputs as staged. -/
theorem in_eq (c : Dev nD) : lst (interp m) (inP c) = iprop((((c : Thread nD τ).loc cc0_stg0_0) ↦{fullShare} (xo m c)) ∗ (((c : Thread nD τ).loc cc0_stg1_0) ↦{fullShare} (xog m c))
    ∗ (((c : Thread nD τ).loc cc0_stg2_0) ↦{fullShare} (xl m c)) ∗ (((c : Thread nD τ).loc cc0_stg3_0) ↦{fullShare} (xlg m c)) ∗ ((c : Thread nD τ).loc cc0_stg4_0) ↦{fullShare} (xwo m c)) := by
  have hv : ∀ a : A, setOf a = Finset.univ → interp m (c, .val a 0) = iprop(((c : Thread nD τ).loc (refOf a)) ↦{fullShare} (V m c a)) := by
    intro a h
    show iprop(((c : Thread nD τ).loc (refOf a)) ↦[setOf a]{fullShare} (V m c a)) = _
    rw [h]
  show iprop(interp m (c, .val .o 0) ∗ interp m (c, .val .og 0) ∗ interp m (c, .val .l 0) ∗ interp m (c, .val .lg 0) ∗ lst (interp m) [(c, .val .wo 0)]) = _
  rw [lst_one, hv .o (View.set_whole _), hv .og (View.set_whole _), hv .l (View.set_whole _), hv .lg (View.set_whole _), hv .wo (View.set_whole _)]
  rfl

end Cert.KernelIdeal.Exchange

end
-- ==== Proof.Ideal.Launch.lean ====
/-
The launch: from any memory the run ends with every device's result as the bands say, its inputs unchanged and all
counters at zero.
-/
module

public import proofs.«01_k».proof.Proof.Ideal.Pieces
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The machine at launch: the memory `m`, all counters at zero. -/
def s₀ : MemSt nD τ sig (Elt F) := ⟨m, fun _ => 0, ρ⟩

/-! ## The pipeline's proof data -/

/-- What device `c` has, beside its staged arrays, before the body and after it. -/
def start (c : Dev nD) : sProp 𝕄 := iprop(G' m c ∗ lst (crd c) (creds0 c) ∗ levAts L lv)
def Φ₀ (c : Dev nD) : sProp 𝕄 := iprop(start m c ∗ lst (interp m) (scrP c))
def Φ₁ (c : Dev nD) : sProp 𝕄 := iprop(lst (zer c) cells0 ∗ lst (interp m) (scrP c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xo m c
    | ⟨1, _⟩ => xog m c
    | ⟨2, _⟩ => xl m c
    | ⟨3, _⟩ => xlg m c
    | ⟨4, _⟩ => xwo m c
    | ⟨5, _⟩ => xout m c
  Φ t := match t with
    | ⟨0, _⟩ => Φ₀ m c
    | ⟨_ + 1, _⟩ => Φ₁ m c
  q _ := fullShare
  owed t := match t with
    | ⟨0, _⟩ => owed c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staged array at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

def bodyPost (c : Dev nD) : sProp 𝕄 :=
  iprop(Φ₁ m c ∗ (dats m ρ 0 c).owesAt () t0_0.succ ∗ stg c cc0_stg0_0 (xo m c) ∗ stg c cc0_stg1_0 (xog m c) ∗ stg c cc0_stg2_0 (xl m c)
    ∗ stg c cc0_stg3_0 (xlg m c) ∗ stg c cc0_stg4_0 (xwo m c) ∗ stg c cc0_stg5_0 (xout m c))

set_option maxRecDepth 4000 in
/-- What the pipeline hands the body is the protocol's first state. -/
theorem pre_state (c : Dev nD) : bodyPre m ρ c ⊢ iprop(∃ Kn, St m Kn c (owed0 c) cells0 (creds0 c) [] (held0 c) []) := by
  unfold bodyPre Φ₀ start G'
  iintro ⟨⟨⟨⟨%Kn, #Hr, Hp, Ht⟩, Hc, Hl⟩, Hs⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = xo m c := by rw [h0]; unfold Dat.before; rw [if_pos (fetch0_0 t0_0)]; rfl
  have e1 : g1 = xog m c := by rw [h1]; unfold Dat.before; rw [if_pos (fetch0_1 t0_0)]; rfl
  have e2 : g2 = xl m c := by rw [h2]; unfold Dat.before; rw [if_pos (fetch0_2 t0_0)]; rfl
  have e3 : g3 = xlg m c := by rw [h3]; unfold Dat.before; rw [if_pos (fetch0_3 t0_0)]; rfl
  have e4 : g4 = xwo m c := by rw [h4]; unfold Dat.before; rw [if_pos (fetch0_4 t0_0)]; rfl
  subst e0 e1 e2 e3 e4
  unfold Dat.owesAt Pipeline.owesWithin
  icases Ho with ⟨%W, %hW, HO⟩
  iexists Kn
  unfold St outR
  rw [lst_perm _ (held_perm c), lst_append, in_eq]
  isplitl [Hl]; · isplitr <;> iassumption
  isplitl [HO]; · iexists W; iexact HO
  isplitl [Ht]; · iexact Ht
  isplitl [Hp]; · iexact Hp
  isplitl [Hc]; · iexact Hc
  isplitr; · unfold lst; iempintro
  isplitl [H0 H1 H2 H3 H4 Hs]
  · isplitr [Hs]
    · isplitl [H0]; · iexact H0
      isplitl [H1]; · iexact H1
      isplitl [H2]; · iexact H2
      isplitl [H3]; · iexact H3
      iexact H4
    iexact Hs
  iexists g5
  isplitr; · ipureintro; exact fun j hj => absurd hj List.not_mem_nil
  iexact H5

set_option maxRecDepth 4000 in
/-- What the protocol ends with is what the pipeline takes back. -/
theorem last_post (c : Dev nD) : Last m c ⊢ bodyPost m ρ c := by
  unfold Last bodyPost Φ₁
  rw [lst_perm _ (held_perm c), lst_append, in_eq]
  iintro ⟨⟨%W, HO⟩, Hz, ⟨⟨H0, H1, H2, H3, H4⟩, Hs⟩, H5⟩
  isplitl [Hz Hs]; · isplitl [Hz] <;> iassumption
  isplitl [HO]
  · unfold Dat.owesAt Pipeline.owesWithin
    iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

theorem body_sound (c : Dev nD) : bodyPre m ρ c ⊢ WP c (app (cc0__comm_body (F := F))) (fun _ => bodyPost m ρ c) := by
  refine BIBase.Entails.trans (pre_state m ρ c) ?_
  iintro ⟨%Kn, H⟩
  iapply (BIBase.Entails.trans (body (m := m) (Kn := Kn) c) (wp_mono _ _ _ fun _ => last_post m ρ c))
  iexact H

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact body_sound m ρ c

/-! ## The side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ G' m c)
      ⊢ |={Set.univ}=> iprop(start m c ∗ emp) := by
  iintro ⟨-, Hlev, Hcr, -, HG⟩
  ihave Hc := (credits (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scr_eq m c).1
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl]
  unfold Φ₁
  rw [zeros_eq]
  iintro ⟨⟨Hu, Ho⟩, Hs⟩
  isplitl [Hu]; · iexact Hu
  isplitl [Ho]; · iexact Ho
  iapply (scr_eq m c).2
  iexact Hs

/-- A wait for a staging transfer is below everything owed. -/
theorem stage_wait (c : Dev nD) (q : DmaSem sig) (hq : q.val < 6) (t : Fin (cfg0.N + 1)) :
    (levAts L lv : sProp 𝕄) ⊢ MayWait (c : Thread nD τ) (.dma q) () ((dats m ρ 0 c).owed t) := by
  have h0 : lv ((c : Thread nD τ), SemLoc.dma q) () = 0 := by
    unfold lv
    have : kOf (SemLoc.dma q) = none := by
      show (if h : 6 ≤ q.val then some (⟨(q.val - 4) % 40, Nat.mod_lt _ (by decide)⟩ : K) else none) = none
      exact dif_neg (by omega)
    rw [this]
  have hall : ∀ (c : Dev nD), ∀ p ∈ owed0 c, 0 < lvK p.dst p.key := by decide +kernel
  rcases t with ⟨_ | _, ht⟩
  · exact MayOwe.of_cut (L := L) (lev := lv) 0
      (fun p hp => by rw [Finset.mem_singleton.mp hp, L_tc]; exact Finset.mem_singleton_self _)
      (fun g u hg => by obtain ⟨p, _, rfl⟩ := owedL_pos (l := owed0 c) hg; rw [L_tc]; exact Finset.mem_singleton_self _)
      (fun p hp => by rw [Finset.mem_singleton.mp hp]; exact le_of_eq h0)
      (fun g u hg => by obtain ⟨p, hp, rfl⟩ := owedL_pos (l := owed0 c) hg; rw [lv_cell]; exact hall c p hp)
  · show _ ⊢ MayWait (c : Thread nD τ) (.dma q) () 0
    rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    stage_wait m ρ c _ (by fin_cases w <;> fin_cases s <;> decide) t

/-! ## The run -/

/-- Window `w`'s array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution ends, every device's arrays as computed and all
    counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input array after the run holds what it held. -/
theorem finalA_in (c : Dev nD) (w : Fin cfg0.W) (hw : w ≠ (5 : Fin 6)) : finalA m ρ c w = m ((cfg0.win w).arr.view.loc (c : Thread nD τ)) :=
  (dats (F := F) m ρ 0 c).arrAt_in w (by revert w; decide) _

end Cert.KernelIdeal.Exchange

end
-- ==== Proof.Value.Payloads.lean ====
/-
The bands the kernel computes, read at a row and a column.
-/
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.KernelIdeal.Band

open Cert.KernelIdeal Cert.KernelIdeal.Gen Idealize.ShloMosaic

/-- Feature `t` of head `h`. -/
abbrev ft (h : Fin 8) (t : Fin 128) : Fin 1024 := ⟨h.val * 128 + t.val, by have := h.isLt; have := t.isLt; omega⟩

/-- Head `h` of one row: its numerators `n` over the head's denominator, times column `k` of the projection. -/
def head (n : Fin 1024 → EReal) (d : Fin 8 → EReal) (w : FVec Ideal S1024x1024 .bf16) (k : Fin 1024) (h : Fin 8) : EReal :=
  ∑ t : Fin 128, Ideal.div (n (ft h t)) (d h) * w (ix2 (ft h t) k)

/-- One row of the result at column `k`: its heads added. -/
def row (n : Fin 1024 → EReal) (d : Fin 8 → EReal) (w : FVec Ideal S1024x1024 .bf16) (k : Fin 1024) : EReal := ∑ h : Fin 8, head n d w k h

/-! Each band, read at one of its rows and a column, is `row` of that row. -/

theorem mid_apply (w : FVec Ideal S1024x1024 .bf16) (x : Vec Ideal S176x1024 .bf16) (l : Vec Ideal S176x8 .f32) (r : Fin 176) (k : Fin 1024) :
    k0_pay6 w (k0_pay1 x) (k0_pay2 l) (k0_pay3 w x l) (k0_pay4 x) (k0_pay5 l) (ix2 r k)
      = row (fun t => x (ix2 r t)) (fun h => l (ix2 r h)) w k := by
  pointwise [k0_pay6, k0_pay1, k0_pay2, k0_pay3, k0_pay4, k0_pay5]
  simp only [row, head, Fin.sum_univ_eight, ft]
  rfl

theorem midH_apply (w : FVec Ideal S1024x1024 .bf16) (x : Vec Ideal S176x1024 .bf16) (l : Vec Ideal S176x8 .f32) (r : Fin 176) (k : Fin 1024) :
    k0_pay7 w (k0_pay1 x) (k0_pay2 l) (k0_pay3 w x l) (k0_pay4 x) (k0_pay5 l) (ix2 r k)
      = row (fun t => x (ix2 r t)) (fun h => l (ix2 r h)) w k := by
  refine Eq.trans ?_ (mid_apply w x l r k)
  pointwise [k0_pay7]

theorem low_apply (w : FVec Ideal S1024x1024 .bf16) (x : Vec Ideal S128x1024 .bf16) (l : Vec Ideal S128x8 .f32) (r : Fin 128) (k : Fin 1024) :
    k0_pay82 w (k0_pay77 x) (k0_pay78 l) (k0_pay79 w x l) (k0_pay80 x) (k0_pay81 l) (ix2 r k)
      = row (fun t => x (ix2 r t)) (fun h => l (ix2 r h)) w k := by
  pointwise [k0_pay82, k0_pay77, k0_pay78, k0_pay79, k0_pay80, k0_pay81]
  simp only [row, head, Fin.sum_univ_eight, ft]
  rfl

theorem lowH_apply (w : FVec Ideal S1024x1024 .bf16) (x : Vec Ideal S128x1024 .bf16) (l : Vec Ideal S128x8 .f32) (r : Fin 128) (k : Fin 1024) :
    k0_pay83 w (k0_pay77 x) (k0_pay78 l) (k0_pay79 w x l) (k0_pay80 x) (k0_pay81 l) (ix2 r k)
      = row (fun t => x (ix2 r t)) (fun h => l (ix2 r h)) w k := by
  refine Eq.trans ?_ (low_apply w x l r k)
  pointwise [k0_pay83]

theorem last_apply (w : FVec Ideal S1024x1024 .bf16) (x : Vec Ideal S128x1024 .f32) (l : Vec Ideal S128x8 .f32) (r : Fin 128) (k : Fin 1024) :
    k0_pay88 w x l (k0_pay86 w x l) (k0_pay87 x l) (ix2 r k) = row (fun t => x (ix2 r t)) (fun h => l (ix2 r h)) w k := by
  pointwise [k0_pay88, k0_pay86, k0_pay87]
  simp only [row, head, Fin.sum_univ_eight, ft]
  rfl

theorem lastH_apply (w : FVec Ideal S1024x1024 .bf16) (x : Vec Ideal S128x1024 .f32) (l : Vec Ideal S128x8 .f32) (r : Fin 128) (k : Fin 1024) :
    k0_pay89 w x l (k0_pay86 w x l) (k0_pay87 x l) (ix2 r k) = row (fun t => x (ix2 r t)) (fun h => l (ix2 r h)) w k := by
  refine Eq.trans ?_ (last_apply w x l r k)
  pointwise [k0_pay89]

theorem top_apply (w : FVec Ideal S1024x1024 .bf16) (x : FVec Ideal S32x1024 .f32) (l : Vec Ideal S32x8 .f32) (r : Fin 32) (k : Fin 1024) :
    k0_pay137 w x l (k0_pay96 w x l) (k0_pay97 x l) (ix2 r k) = row (fun t => x (ix2 r t)) (fun h => l (ix2 r h)) w k := by
  pointwise [k0_pay137, k0_pay96, k0_pay97]
  simp only [row, head, Fin.sum_univ_eight, ft]
  rfl

theorem tail_apply (x y : Vec Ideal S128x1024 .bf16) (r : Fin 128) (t : Fin 1024) : k0_pay85 x y (ix2 r t) = (x (ix2 r t) + y (ix2 r t) : EReal) := by
  pointwise [k0_pay85]

theorem acc_apply (a : Vec Ideal S2048x8 .f32) (b0 b1 b2 : Vec Ideal S1x2048x8 .f32) (r : Fin 2048) (h : Fin 8) :
    k0_pay94 a b0 b1 b2 (ix2 r h) = (a (ix2 r h) + b0 (ix3 0 r h) + b1 (ix3 0 r h) + b2 (ix3 0 r h) : EReal) := by
  pointwise [k0_pay94]

theorem num_apply (a : Vec Ideal S32x1024 .bf16) (b0 b1 b2 : Vec Ideal S1x32x1024 .bf16) (r : Fin 32) (t : Fin 1024) :
    k0_pay95 a b0 b1 b2 (ix2 r t) = (a (ix2 r t) + b0 (ix3 0 r t) + b1 (ix3 0 r t) + b2 (ix3 0 r t) : EReal) := by
  pointwise [k0_pay95]

theorem top_den (x : Vec Ideal S32x8 .f32) (r : Fin 32) (h : Fin 8) : k0_pay134 x (ix2 r h) = x (ix2 r h) := by
  pointwise [k0_pay134]

theorem rest_den (x : Vec Ideal S2016x8 .f32) (r : Fin 2016) (h : Fin 8) : k0_pay135 x (ix2 r h) = x (ix2 r h) := by
  pointwise [k0_pay135]

theorem proj (x : Vec Ideal S1024x1024 .bf16) : k0_pay136 x = x := by
  funext i
  idx_vars i
  pointwise [k0_pay136]

/-- A sum over the features is the sum over the heads of the sums over each head's features. -/
theorem sum_heads (f : Fin 1024 → EReal) : ∑ q : Fin 1024, f q = ∑ h : Fin 8, ∑ t : Fin 128, f (ft h t) := by
  rw [← Fintype.sum_prod_type', ← (finProdFinEquiv (m := 8) (n := 128)).sum_comp]
  refine Finset.sum_congr rfl fun p _ => congrArg f (Fin.ext ?_)
  show p.2.val + 128 * p.1.val = p.1.val * 128 + p.2.val
  omega

/-- One row of the result, as one sum over the features. -/
theorem row_eq (n : Fin 1024 → EReal) (d : Fin 8 → EReal) (w : FVec Ideal S1024x1024 .bf16) (k : Fin 1024) :
    row n d w k = ∑ q : Fin 1024, Ideal.div (n q) (d ⟨q.val / 128, by have := q.isLt; omega⟩) * w (ix2 q k) := by
  rw [sum_heads]
  refine Finset.sum_congr rfl fun h _ => Finset.sum_congr rfl fun t _ => ?_
  have e : (⟨(ft h t).val / 128, by have := (ft h t).isLt; omega⟩ : Fin 8) = h :=
    Fin.ext (show (h.val * 128 + t.val) / 128 = h.val by have := t.isLt; omega)
  rw [e]

end Cert.KernelIdeal.Band

end
-- ==== Proof.Value.Arrays.lean ====
/-
What the kernel reads, entry by entry, in terms of the arguments on the devices.
-/
module

public import proofs.«01_k».proof.Proof.Ideal.Launch
public import proofs.«01_k».proof.Proof.Value.Payloads
public import Idealize.ShloMosaic.Lib.ViewIndex

@[expose] public section

set_option maxRecDepth 16384

noncomputable section

namespace Cert.KernelIdeal.Band

open Cert.KernelIdeal Cert.KernelIdeal.Gen Cert.KernelIdeal.Exchange
open Idealize.ShloMosaic Idealize.ShloMosaic.TcCoe Idealize.SL.Sem

variable (m : (ℓ : Loc nD τ sig) → Buf (Elt Ideal) ℓ)

/-- Two positions of a rectangle with the same row and the same column are one. -/
theorem idx_ext {a b : Nat} {i j : Shape.Idx ⟨2, ![a, b]⟩} (h0 : (i 0).val = (j 0).val) (h1 : (i 1).val = (j 1).val) : i = j := by
  funext k
  refine Fin.ext ?_
  match k with
  | ⟨0, _⟩ => exact h0
  | ⟨1, _⟩ => exact h1

/-! ## The arguments on device `c` -/

abbrev aO (c : Dev nD) : FVec Ideal S2048x1024 .bf16 := m ((c : Thread nD τ).loc main_arg0)
abbrev aOg (c : Dev nD) : FVec Ideal S32x1024 .bf16 := m ((c : Thread nD τ).loc main_arg1)
abbrev aL (c : Dev nD) : FVec Ideal S2048x8 .f32 := m ((c : Thread nD τ).loc main_arg2)
abbrev aLg (c : Dev nD) : FVec Ideal S32x8 .f32 := m ((c : Thread nD τ).loc main_arg3)
abbrev aW (c : Dev nD) : FVec Ideal S1024x1024 .bf16 := m ((c : Thread nD τ).loc main_arg4)

theorem xo_eq (c : Dev nD) : xo m c = aO m c :=
  Memref.read_access_unit_zero (Elt Ideal) main_arg0 (funext fun a => by fin_cases a <;> decide) (fun a => by fin_cases a <;> decide) _
theorem xog_eq (c : Dev nD) : xog m c = aOg m c :=
  Memref.read_access_unit_zero (Elt Ideal) main_arg1 (funext fun a => by fin_cases a <;> decide) (fun a => by fin_cases a <;> decide) _
theorem xl_eq (c : Dev nD) : xl m c = aL m c :=
  Memref.read_access_unit_zero (Elt Ideal) main_arg2 (funext fun a => by fin_cases a <;> decide) (fun a => by fin_cases a <;> decide) _
theorem xlg_eq (c : Dev nD) : xlg m c = aLg m c :=
  Memref.read_access_unit_zero (Elt Ideal) main_arg3 (funext fun a => by fin_cases a <;> decide) (fun a => by fin_cases a <;> decide) _
theorem xwo_eq (c : Dev nD) : xwo m c = aW m c :=
  Memref.read_access_unit_zero (Elt Ideal) main_arg4 (funext fun a => by fin_cases a <;> decide) (fun a => by fin_cases a <;> decide) _

theorem wo_eq (c : Dev nD) : wo m c = aW m c := by
  unfold wo
  rw [proj, xwo_eq]
  exact Memref.readAt_unit_zero (Elt Ideal) cc0_stg4_0 (funext fun a => by fin_cases a <;> rfl) inb_S1024x1024_S1024x1024_0_0 _

/-! ## The result array -/

/-- The result array after the run is what the body left in its staging buffer. -/
theorem finalA_out (ρ : Dev nD → PrngReg) (c : Dev nD) : finalA m ρ c (5 : Fin 6) = xout m c := by
  refine Eq.trans (Memref.read_access_unit_zero (Elt Ideal) main_v1 (off := fun a => (win0_5.index (0 : Fin 1)) a * main_v1.ty.shape.size a) (funext fun a => by fin_cases a <;> decide)
    (fun a => by fin_cases a <;> decide) _).symm ?_
  show (win0_5.blk (0 : Fin 1)).view.read (Elt Ideal) (finalA m ρ c (5 : Fin 6)) = xout m c
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-! ## Rows of the staged arrays -/

theorem rdO_apply (j : Fin 10) (r : Fin 176) (t : Fin 1024) :
    rdO m j (ix2 r t) = aO m 0 (ix2 ⟨32 + 176 * j.val + r.val, by have := j.isLt; have := r.isLt; omega⟩ t) := by
  rw [← xo_eq]
  refine congrArg (xo m 0) (idx_ext ?_ ?_)
  · show 32 + 176 * j.val + 1 * r.val = 32 + 176 * j.val + r.val; omega
  · show 0 + 1 * t.val = t.val; omega

theorem rdLm_apply (j : Fin 10) (r : Fin 176) (h : Fin 8) :
    rdLm m j (ix2 r h) = aL m 0 (ix2 ⟨32 + 176 * j.val + r.val, by have := j.isLt; have := r.isLt; omega⟩ h) := by
  rw [← xl_eq]
  refine congrArg (xl m 0) (idx_ext ?_ ?_)
  · show 32 + 176 * j.val + 1 * r.val = 32 + 176 * j.val + r.val; omega
  · show 0 + 1 * h.val = h.val; omega

theorem rdO10_apply (r : Fin 128) (t : Fin 1024) : rdO10 m (ix2 r t) = aO m 0 (ix2 ⟨1792 + r.val, by have := r.isLt; omega⟩ t) := by
  rw [← xo_eq]
  refine congrArg (xo m 0) (idx_ext ?_ ?_)
  · show 1792 + 1 * r.val = 1792 + r.val; omega
  · show 0 + 1 * t.val = t.val; omega

theorem rdL10_apply (r : Fin 128) (h : Fin 8) : rdL10 m (ix2 r h) = aL m 0 (ix2 ⟨1792 + r.val, by have := r.isLt; omega⟩ h) := by
  rw [← xl_eq]
  refine congrArg (xl m 0) (idx_ext ?_ ?_)
  · show 1792 + 1 * r.val = 1792 + r.val; omega
  · show 0 + 1 * h.val = h.val; omega

theorem tail_rows (c : Dev nD) (r : Fin 128) (t : Fin 1024) :
    oTailM.view.read (Elt Ideal) (xo m c) (ix2 r t) = aO m c (ix2 ⟨1920 + r.val, by have := r.isLt; omega⟩ t) := by
  rw [← xo_eq]
  refine congrArg (xo m c) (idx_ext ?_ ?_)
  · show 1920 + 1 * r.val = 1920 + r.val; omega
  · show 0 + 1 * t.val = t.val; omega

/-! ## The denominators a device sends, and what lands in a slot -/

theorem xsl_head (c : Dev nD) (r : Fin 32) (h : Fin 8) : xsl m c (ix2 ⟨r.val, by have := r.isLt; omega⟩ h) = aLg m c (ix2 r h) := by
  have hr := r.isLt
  unfold xsl
  rw [View.write_of_not_mem]
  · have e : (ix2 (⟨r.val, by omega⟩ : Fin 2048) h : S2048x8.Idx) = (slM.access headL).emb (ix2 r h) :=
      idx_ext (show r.val = 0 + 1 * r.val by omega) (show h.val = 0 + 1 * h.val by omega)
    rw [e, View.write_emb_of_mem _ _ (Finset.mem_univ _)]
    refine (top_den _ r h).trans ?_
    rw [xlg_eq]
    exact congrFun (Memref.readAt_unit_zero (Elt Ideal) cc0_stg3_0 (funext fun a => by fin_cases a <;> rfl) inb_S32x8_S32x8_0_0 _) _
  · intro hm
    rw [View.setOn_univ] at hm
    obtain ⟨x, -, hx⟩ := Finset.mem_map.mp hm
    have := congrArg (fun i : S2048x8.Idx => (i 0).val) hx
    have h2 : 32 + 1 * (x 0).val = r.val := this
    omega

theorem xsl_below (c : Dev nD) (r : Fin 2016) (h : Fin 8) :
    xsl m c (ix2 ⟨32 + r.val, by have := r.isLt; omega⟩ h) = aL m c (ix2 ⟨32 + r.val, by have := r.isLt; omega⟩ h) := by
  have hr := r.isLt
  have e : (ix2 (⟨32 + r.val, by omega⟩ : Fin 2048) h : S2048x8.Idx) = (slM.access restL).emb (ix2 r h) :=
    idx_ext (show 32 + r.val = 32 + 1 * r.val by omega) (show h.val = 0 + 1 * h.val by omega)
  unfold xsl
  conv_lhs => rw [e, View.write_emb_of_mem _ _ (Finset.mem_univ _)]
  refine (rest_den _ r h).trans ?_
  rw [← xl_eq]
  refine congrArg (xl m c) (idx_ext ?_ ?_)
  · show 32 + 1 * r.val = 32 + r.val; omega
  · show 0 + 1 * h.val = h.val; omega

theorem xsl_rest (c : Dev nD) (r : Fin 2048) (hr : 32 ≤ r.val) (h : Fin 8) : xsl m c (ix2 r h) = aL m c (ix2 r h) := by
  have hr' := r.isLt
  have e : r = ⟨32 + (r.val - 32), by omega⟩ := Fin.ext (show r.val = 32 + (r.val - 32) by omega)
  rw [e]
  exact xsl_below m c ⟨r.val - 32, by omega⟩ h

theorem rdL_apply (c : Dev nD) (s : Fin 3) (r : Fin 2048) (h : Fin 8) : rdL m c s (ix3 0 r h) = xsl m (src c s) (ix2 r h) := by
  have e := View.read_write_reshape (Val := Elt Ideal) (aaLM.view.slice (slotL s)) squeezes_S1x2048x8_S2048x8.numel_eq (m ((c : Thread nD τ).loc cc0_scratch1))
    (slM.view.read (Elt Ideal) (xsl m (src c s))) (ix2 r h)
  have e2 : Shape.reshapeEquiv squeezes_S1x2048x8_S2048x8.numel_eq (ix2 r h : S2048x8.Idx) = (ix3 0 r h : S1x2048x8.Idx) := by pointwise
  rw [e2] at e
  exact e

theorem rdG_apply (c : Dev nD) (s : Fin 3) (r : Fin 32) (t : Fin 1024) : rdG m c s (ix3 0 r t) = aOg m (src c s) (ix2 r t) := by
  have e := View.read_write_reshape (Val := Elt Ideal) (aaGM.view.slice (slotG s)) squeezes_S1x32x1024_S32x1024.numel_eq (m ((c : Thread nD τ).loc cc0_scratch2))
    (ogM.view.read (Elt Ideal) (xog m (src c s))) (ix2 r t)
  have e2 : Shape.reshapeEquiv squeezes_S1x32x1024_S32x1024.numel_eq (ix2 r t : S32x1024.Idx) = (ix3 0 r t : S1x32x1024.Idx) := by pointwise
  rw [e2] at e
  rw [← xog_eq]
  exact e

/-! ## Sums over the devices -/

/-- A device's own term and those of the three slots, in slot order, are the sum over the devices. -/
theorem sum_slots (f : Dev nD → EReal) (c : Dev nD) : f c + f (src c 0) + f (src c 1) + f (src c 2) = ∑ d : Dev nD, f d := by
  have e : ∀ c : Dev nD, f c + f (src c 0) + f (src c 1) + f (src c 2) = f 0 + f 1 + f 2 + f 3 := by
    intro c
    fin_cases c
    · rfl
    · show f 1 + f 2 + f 3 + f 0 = _; ac_rfl
    · show f 2 + f 3 + f 0 + f 1 = _; ac_rfl
    · show f 3 + f 0 + f 1 + f 2 = _; ac_rfl
  rw [e]
  exact (Fin.sum_univ_four f).symm

theorem xacc_apply (c : Dev nD) (r : Fin 2048) (h : Fin 8) : xacc m c (ix2 r h) = (∑ d : Dev nD, xsl m d (ix2 r h) : EReal) := by
  unfold xacc
  rw [acc_apply, rdL_apply, rdL_apply, rdL_apply, ← sum_slots (fun d => xsl m d (ix2 r h)) c]
  have e : rdSl m c = xsl m c := Memref.readAt_unit_zero (Elt Ideal) cc0_scratch0 (funext fun a => by fin_cases a <;> rfl) inb_S2048x8_S2048x8_0_0 _
  rw [e]

/-! ## The result, row by row -/

theorem head_num (c : Dev nD) (r : Fin 32) (t : Fin 1024) :
    k0_pay95 (rdOg m c) (rdG m c 0) (rdG m c 1) (rdG m c 2) (ix2 r t) = (∑ d : Dev nD, aOg m d (ix2 r t) : EReal) := by
  rw [num_apply, rdG_apply, rdG_apply, rdG_apply, ← sum_slots (fun d => aOg m d (ix2 r t)) c]
  have e : rdOg m c = aOg m c := (Memref.readAt_unit_zero (Elt Ideal) cc0_stg1_0 (funext fun a => by fin_cases a <;> rfl) inb_S32x1024_S32x1024_0_0 _).trans (xog_eq m c)
  rw [e]

theorem head_den (c : Dev nD) (r : Fin 32) (h : Fin 8) :
    accM.view.readAt (Elt Ideal) headL.toLoadRect (xacc m c) (ix2 r h) = (∑ d : Dev nD, aLg m d (ix2 r h) : EReal) := by
  have e : accM.view.readAt (Elt Ideal) headL.toLoadRect (xacc m c) (ix2 r h) = xacc m c (ix2 ⟨r.val, by have := r.isLt; omega⟩ h) := by
    refine congrArg (xacc m c) (idx_ext ?_ ?_)
    · show 0 + 1 * r.val = r.val; omega
    · show 0 + 1 * h.val = h.val; omega
  rw [e, xacc_apply]
  exact Finset.sum_congr rfl fun d _ => xsl_head m d r h

theorem tail_num (r : Fin 128) (t : Fin 1024) :
    rdT m (ix2 r t) = (aO m 0 (ix2 ⟨1920 + r.val, by have := r.isLt; omega⟩ t) + aO m 1 (ix2 ⟨1920 + r.val, by have := r.isLt; omega⟩ t) : EReal) := by
  have e : rdT m = xtail m := Memref.readAt_unit_zero (Elt Ideal) cc0_scratch5 (funext fun a => by fin_cases a <;> rfl) inb_S128x1024_S128x1024_0_0 _
  rw [e]
  unfold xtail
  rw [tail_apply]
  refine congrArg₂ (fun x y : EReal => x + y) (tail_rows m 0 r t) (Eq.trans ?_ (tail_rows m 1 r t))
  exact congrFun (Memref.readAt_unit_zero (Elt Ideal) cc0_scratch4 (funext fun a => by fin_cases a <;> rfl) inb_S128x1024_S128x1024_0_0 _) _

theorem tail_den (r : Fin 128) (h : Fin 8) :
    rdAT m (ix2 r h) = (∑ d : Dev nD, aL m d (ix2 ⟨1920 + r.val, by have := r.isLt; omega⟩ h) : EReal) := by
  have e : rdAT m (ix2 r h) = xacc m 0 (ix2 ⟨1920 + r.val, by have := r.isLt; omega⟩ h) := by
    refine congrArg (xacc m 0) (idx_ext ?_ ?_)
    · show 1920 + 1 * r.val = 1920 + r.val; omega
    · show 0 + 1 * h.val = h.val; omega
  rw [e, xacc_apply]
  exact Finset.sum_congr rfl fun d _ => xsl_rest m d _ (show 32 ≤ 1920 + r.val by omega) h

/-- The numerators of row `r` of the result. -/
def nums (r : Fin 2048) (t : Fin 1024) : EReal :=
  if h : r.val < 32 then ∑ d : Dev nD, aOg m d (ix2 ⟨r.val, h⟩ t)
  else if r.val < 1920 then aO m 0 (ix2 r t) else aO m 0 (ix2 r t) + aO m 1 (ix2 r t)

/-- The denominators of row `r` of the result. -/
def dens (r : Fin 2048) (k : Fin 8) : EReal :=
  if h : r.val < 32 then ∑ d : Dev nD, aLg m d (ix2 ⟨r.val, h⟩ k)
  else if r.val < 1920 then aL m 0 (ix2 r k) else ∑ d : Dev nD, aL m d (ix2 r k)

/-- A row of the result. -/
abbrev res (c : Dev nD) (r : Fin 2048) (k : Fin 1024) : EReal := row (nums m r) (dens m r) (aW m c) k

theorem row_congr {n n' : Fin 1024 → EReal} {d d' : Fin 8 → EReal} {w w' : FVec Ideal S1024x1024 .bf16} (hn : ∀ t, n t = n' t) (hd : ∀ h, d h = d' h)
    (hw : w = w') (k : Fin 1024) : row n d w k = row n' d' w' k := by
  rw [funext hn, funext hd, hw]

theorem head_row (c : Dev nD) (r : Fin 2048) (hr : r.val < 32) (k : Fin 1024) : headV m c (ix2 ⟨r.val, hr⟩ k) = res m c r k := by
  unfold headV
  refine (top_apply _ _ _ ⟨r.val, hr⟩ k).trans (row_congr (fun t => ?_) (fun h => ?_) (wo_eq m c) k)
  · unfold nums; rw [dif_pos hr]; exact head_num m c ⟨r.val, hr⟩ t
  · unfold dens; rw [dif_pos hr]; exact head_den m c ⟨r.val, hr⟩ h

/-- The numerators and denominators of a middle row are device 0's. -/
theorem nums_mid (r : Fin 2048) (h1 : 32 ≤ r.val) (h2 : r.val < 1920) (t : Fin 1024) : aO m 0 (ix2 r t) = nums m r t := by
  unfold nums; rw [dif_neg (by omega), if_pos h2]
theorem dens_mid (r : Fin 2048) (h1 : 32 ≤ r.val) (h2 : r.val < 1920) (k : Fin 8) : aL m 0 (ix2 r k) = dens m r k := by
  unfold dens; rw [dif_neg (by omega), if_pos h2]

/-- Reading a row of the middle bands. -/
theorem mid_row {v : Fin 10 → Fin 176 → EReal} (r : Fin 2048) (h1 : 32 ≤ r.val) (h2 : r.val < 1792) {f : Fin 2048 → EReal}
    (hv : ∀ (j : Fin 10) (q : Fin 176), v j q = f ⟨32 + 176 * j.val + q.val, by have := j.isLt; have := q.isLt; omega⟩) :
    v (bandOf r.val) ⟨(r.val - 32) % 176, Nat.mod_lt _ (by decide)⟩ = f r := by
  refine (hv _ _).trans (congrArg f (Fin.ext ?_))
  show 32 + 176 * ((r.val - 32) / 176 % 10) + (r.val - 32) % 176 = r.val
  omega

theorem mid_res (j : Fin 10) (q : Fin 176) (k : Fin 1024) :
    row (fun t => rdO m j (ix2 q t)) (fun h => rdLm m j (ix2 q h)) (wo m 0) k
      = res m 0 ⟨32 + 176 * j.val + q.val, by have := j.isLt; have := q.isLt; omega⟩ k := by
  have hj := j.isLt; have hq := q.isLt
  refine row_congr (fun t => ?_) (fun h => ?_) (wo_eq m 0) k
  · rw [rdO_apply]; exact nums_mid m _ (show 32 ≤ 32 + 176 * j.val + q.val by omega) (show 32 + 176 * j.val + q.val < 1920 by omega) t
  · rw [rdLm_apply]; exact dens_mid m _ (show 32 ≤ 32 + 176 * j.val + q.val by omega) (show 32 + 176 * j.val + q.val < 1920 by omega) h

theorem low_res (q : Fin 128) (k : Fin 1024) :
    row (fun t => rdO10 m (ix2 q t)) (fun h => rdL10 m (ix2 q h)) (wo m 0) k = res m 0 ⟨1792 + q.val, by have := q.isLt; omega⟩ k := by
  have hq := q.isLt
  refine row_congr (fun t => ?_) (fun h => ?_) (wo_eq m 0) k
  · rw [rdO10_apply]; exact nums_mid m _ (show 32 ≤ 1792 + q.val by omega) (show 1792 + q.val < 1920 by omega) t
  · rw [rdL10_apply]; exact dens_mid m _ (show 32 ≤ 1792 + q.val by omega) (show 1792 + q.val < 1920 by omega) h

theorem last_res (q : Fin 128) (k : Fin 1024) :
    row (fun t => rdT m (ix2 q t)) (fun h => rdAT m (ix2 q h)) (wo m 0) k = res m 0 ⟨1920 + q.val, by have := q.isLt; omega⟩ k := by
  refine row_congr (fun t => ?_) (fun h => ?_) (wo_eq m 0) k
  · rw [tail_num]; unfold nums
    rw [dif_neg (show ¬ 1920 + q.val < 32 by omega), if_neg (show ¬ 1920 + q.val < 1920 by omega)]
  · rw [tail_den]; unfold dens
    rw [dif_neg (show ¬ 1920 + q.val < 32 by omega), if_neg (show ¬ 1920 + q.val < 1920 by omega)]

/-- Reading a row of the two bands of 128 rows. -/
theorem end_row {v : Fin 128 → EReal} (r : Fin 2048) (b : ℕ) (hb : b + 128 ≤ 2048) (h1 : b ≤ r.val) (h2 : r.val < b + 128) {f : Fin 2048 → EReal}
    (hv : ∀ q : Fin 128, v q = f ⟨b + q.val, by have := q.isLt; omega⟩) :
    v ⟨(r.val - b) % 128, Nat.mod_lt _ (by decide)⟩ = f r := by
  refine (hv _).trans (congrArg f (Fin.ext ?_))
  show b + (r.val - b) % 128 = r.val
  omega

/-! The entry of a value at a row number taken modulo its rows, as an entry at two coordinates. -/

theorem at32_row (v : Vec Ideal S32x1024 .f32) (r : ℕ) (h : r < 32) (k : Fin 1024) : at32 v r k = v (ix2 ⟨r, h⟩ k) :=
  congrArg v (idx_ext (show r % 32 = r from Nat.mod_eq_of_lt h) rfl)
theorem at176_row {e : EltTy} (v : Vec Ideal S176x1024 e) (r : ℕ) (k : Fin 1024) : at176 v r k = v (ix2 ⟨r % 176, Nat.mod_lt _ (by decide)⟩ k) :=
  congrArg v (idx_ext rfl rfl)
theorem at128_row {e : EltTy} (v : Vec Ideal S128x1024 e) (r : ℕ) (k : Fin 1024) : at128 v r k = v (ix2 ⟨r % 128, Nat.mod_lt _ (by decide)⟩ k) :=
  congrArg v (idx_ext rfl rfl)

/-- The broadcast array below the head rows. -/
theorem xbc_row (r : Fin 2048) (hr : 32 ≤ r.val) (k : Fin 1024) : xbc m (ix2 r k) = res m 0 r k := by
  have hr' := r.isLt
  show ((if r.val < 1792 then at176 (F := Ideal) (e := .bf16) (midH m (bandOf r.val)) (r.val - 32) k
    else if r.val < 1920 then at128 (F := Ideal) (e := .bf16) (lowH m) (r.val - 1792) k
    else at128 (F := Ideal) (e := .bf16) (lastH m) (r.val - 1920) k) : EReal) = _
  by_cases h1 : r.val < 1792
  · rw [if_pos h1]
    refine (at176_row _ _ k).trans ?_
    exact mid_row (v := fun j q => midH m j (ix2 q k)) r hr h1 (f := fun r => res m 0 r k) fun j q => (midH_apply _ _ _ q k).trans (mid_res m j q k)
  rw [if_neg h1]
  by_cases h2 : r.val < 1920
  · rw [if_pos h2]
    refine (at128_row _ _ k).trans ?_
    exact end_row (v := fun q => lowH m (ix2 q k)) r 1792 (by decide) (by omega) (by omega) (f := fun r => res m 0 r k)
      fun q => (lowH_apply _ _ _ q k).trans (low_res m q k)
  · rw [if_neg h2]
    refine (at128_row _ _ k).trans ?_
    exact end_row (v := fun q => lastH m (ix2 q k)) r 1920 (by decide) (by omega) (by omega) (f := fun r => res m 0 r k)
      fun q => (lastH_apply _ _ _ q k).trans (last_res m q k)

/-- The rows below the head rows that device 0 computes. -/
theorem own_row (r : Fin 2048) (hr : 32 ≤ r.val) (k : Fin 1024) :
    ((if r.val < 1792 then at176 (F := Ideal) (e := .f32) (mid m (bandOf r.val)) (r.val - 32) k
      else if r.val < 1920 then at128 (F := Ideal) (e := .f32) (low m) (r.val - 1792) k
      else at128 (F := Ideal) (e := .f32) (lastV m) (r.val - 1920) k) : EReal) = res m 0 r k := by
  have hr' := r.isLt
  by_cases h1 : r.val < 1792
  · rw [if_pos h1]
    refine (at176_row _ _ k).trans ?_
    exact mid_row (v := fun j q => mid m j (ix2 q k)) r hr h1 (f := fun r => res m 0 r k) fun j q => (mid_apply _ _ _ q k).trans (mid_res m j q k)
  rw [if_neg h1]
  by_cases h2 : r.val < 1920
  · rw [if_pos h2]
    refine (at128_row _ _ k).trans ?_
    exact end_row (v := fun q => low m (ix2 q k)) r 1792 (by decide) (by omega) (by omega) (f := fun r => res m 0 r k)
      fun q => (low_apply _ _ _ q k).trans (low_res m q k)
  · rw [if_neg h2]
    refine (at128_row _ _ k).trans ?_
    exact end_row (v := fun q => lastV m (ix2 q k)) r 1920 (by decide) (by omega) (by omega) (f := fun r => res m 0 r k)
      fun q => (last_apply _ _ _ q k).trans (last_res m q k)

/-- The result on every device, where the projection is the same on all. -/
theorem xout_row (c : Dev nD) (hw : aW m c = aW m 0) (r : Fin 2048) (k : Fin 1024) : xout m c (ix2 r k) = res m 0 r k := by
  show ((if r.val < 32 then at32 (F := Ideal) (e := .f32) (headV m c) r.val k
    else if c = 0 then
      (if r.val < 1792 then at176 (F := Ideal) (e := .f32) (mid m (bandOf r.val)) (r.val - 32) k
        else if r.val < 1920 then at128 (F := Ideal) (e := .f32) (low m) (r.val - 1792) k
        else at128 (F := Ideal) (e := .f32) (lastV m) (r.val - 1920) k)
    else xbc m (ix2 r k)) : EReal) = _
  by_cases h0 : r.val < 32
  · rw [if_pos h0]
    refine (at32_row _ r.val h0 k).trans ((head_row m c r h0 k).trans ?_)
    unfold res; rw [hw]
  rw [if_neg h0]
  by_cases hc : c = 0
  · rw [if_pos hc]; exact own_row m r (by omega) k
  · rw [if_neg hc]; exact xbc_row m r (by omega) k

end Cert.KernelIdeal.Band

end
-- ==== Proof.Value.Reference.lean ====
/-
The reference's result, read at a row and a column.
-/
module

public import proofs.«01_k».proof.Proof.Gen.ReferenceIdeal
public import Idealize.ShloMosaic.Lib.Pointwise

@[expose] public section

set_option maxRecDepth 16384

noncomputable section

namespace Cert.ReferenceIdeal.Value

open Cert.ReferenceIdeal Cert.ReferenceIdeal.Gen Idealize.ShloMosaic

/-- The reference's last operations: numerators `N` over denominators `D`, projected. -/
def proj (N : FVec Ideal S2048x1024 .f32) (D : FVec Ideal S2048x8 .f32) (W : FVec Ideal S1024x1024 .bf16) : FVec Ideal S2048x1024 .f32 :=
  Host.dotGeneral dot_S2048x1024_S1024x1024_S2048x1024_1_0_0_1_n_n none
    (shapeCast S2048x1024 (Host.divf (shapeCast S2048x8x128 N shapeCasts_S2048x1024_S2048x8x128)
      (broadcastInDim S2048x8x128 ![0, 1, 2] bcast_S2048x8x1_S2048x8x128_0_1_2 (broadcastInDim S2048x8x1 ![0, 1] bcast_S2048x8_S2048x8x1_0_1 D)))
      shapeCasts_S2048x8x128_S2048x1024)
    (extf .f32 W bitsLt_bf16_f32)

theorem proj_apply (N : FVec Ideal S2048x1024 .f32) (D : FVec Ideal S2048x8 .f32) (W : FVec Ideal S1024x1024 .bf16) (r : Fin 2048) (k : Fin 1024) :
    proj N D W (ix2 r k) = ∑ q : Fin 1024, Ideal.div (N (ix2 r q)) (D (ix2 r ⟨q.val / 128, by have := q.isLt; omega⟩)) * W (ix2 q k) := by
  pointwise [proj]

/-- The numerators: the head rows summed over the blocks, the middle rows block 0's, the last rows blocks 0 and 1 added. -/
def num (o : FVec Ideal S8192x1024 .bf16) (og : FVec Ideal S128x1024 .bf16) : FVec Ideal S2048x1024 .f32 :=
  concatenate S2048x1024 0
    [⟨S32x1024, Host.reduceAdd (shapeCast S4x32x1024 (extf .f32 og bitsLt_bf16_f32) shapeCasts_S128x1024_S4x32x1024) (constant S_ .f32 0x00000000#32) reducesTo_S4x32x1024_S32x1024_d0 h_S_⟩,
     ⟨S1888x1024, shapeCast S1888x1024 (extractStridedSlice S1x1888x1024 ![0, 32, 0] (shapeCast S4x2048x1024 (extf .f32 o bitsLt_bf16_f32) shapeCasts_S8192x1024_S4x2048x1024) slices_S4x2048x1024_S1x1888x1024_0_32_0) shapeCasts_S1x1888x1024_S1888x1024⟩,
     ⟨S128x1024, addf (shapeCast S128x1024 (extractStridedSlice S1x128x1024 ![0, 1920, 0] (shapeCast S4x2048x1024 (extf .f32 o bitsLt_bf16_f32) shapeCasts_S8192x1024_S4x2048x1024) slices_S4x2048x1024_S1x128x1024_0_1920_0) shapeCasts_S1x128x1024_S128x1024)
       (shapeCast S128x1024 (extractStridedSlice S1x128x1024 ![1, 1920, 0] (shapeCast S4x2048x1024 (extf .f32 o bitsLt_bf16_f32) shapeCasts_S8192x1024_S4x2048x1024) slices_S4x2048x1024_S1x128x1024_1_1920_0) shapeCasts_S1x128x1024_S128x1024)⟩]
    concatenates_S32x1024_S1888x1024_S128x1024_S2048x1024_d0

/-- The denominators: the head rows and the last rows summed over the blocks, the middle rows block 0's. -/
def den (l : FVec Ideal S8192x8 .f32) (lg : FVec Ideal S128x8 .f32) : FVec Ideal S2048x8 .f32 :=
  concatenate S2048x8 0
    [⟨S32x8, Host.reduceAdd (shapeCast S4x32x8 lg shapeCasts_S128x8_S4x32x8) (constant S_ .f32 0x00000000#32) reducesTo_S4x32x8_S32x8_d0 h_S_⟩,
     ⟨S1888x8, shapeCast S1888x8 (extractStridedSlice S1x1888x8 ![0, 32, 0] (shapeCast S4x2048x8 l shapeCasts_S8192x8_S4x2048x8) slices_S4x2048x8_S1x1888x8_0_32_0) shapeCasts_S1x1888x8_S1888x8⟩,
     ⟨S128x8, Host.reduceAdd (extractStridedSlice S4x128x8 ![0, 1920, 0] (shapeCast S4x2048x8 l shapeCasts_S8192x8_S4x2048x8) slices_S4x2048x8_S4x128x8_0_1920_0) (constant S_ .f32 0x00000000#32) reducesTo_S4x128x8_S128x8_d0 h_S_⟩]
    concatenates_S32x8_S1888x8_S128x8_S2048x8_d0

theorem num_apply (o : FVec Ideal S8192x1024 .bf16) (og : FVec Ideal S128x1024 .bf16) (r : Fin 2048) (t : Fin 1024) :
    num o og (ix2 r t) =
      (if h : r.val < 32 then ∑ s : Fin 4, og (ix2 ⟨s.val * 32 + r.val, by have := s.isLt; omega⟩ t)
       else if r.val < 1920 then o (ix2 ⟨r.val, by have := r.isLt; omega⟩ t)
       else o (ix2 ⟨r.val, by have := r.isLt; omega⟩ t) + o (ix2 ⟨2048 + r.val, by have := r.isLt; omega⟩ t) : EReal) := by
  pointwise [num]
  by_cases h1 : r.val < 32
  · rw [dif_pos h1, dif_pos h1]
  rw [dif_neg h1, dif_neg h1]
  by_cases h2 : r.val < 1920
  · rw [dif_pos (by omega), if_pos h2]
    exact congrArg (fun q => o (ix2 q t)) (Fin.ext (show 32 + (r.val - 32) = r.val by omega))
  · rw [dif_neg (by omega), if_neg h2]
    exact congrArg₂ (fun q q' => (o (ix2 q t) + o (ix2 q' t) : EReal)) (Fin.ext (show 1920 + (r.val - 32 - 1888) = r.val by omega))
      (Fin.ext (show 2048 + (1920 + (r.val - 32 - 1888)) = 2048 + r.val by omega))

theorem den_apply (l : FVec Ideal S8192x8 .f32) (lg : FVec Ideal S128x8 .f32) (r : Fin 2048) (h : Fin 8) :
    den l lg (ix2 r h) =
      (if hr : r.val < 32 then ∑ s : Fin 4, lg (ix2 ⟨s.val * 32 + r.val, by have := s.isLt; omega⟩ h)
       else if r.val < 1920 then l (ix2 ⟨r.val, by have := r.isLt; omega⟩ h)
       else ∑ s : Fin 4, l (ix2 ⟨s.val * 2048 + r.val, by have := s.isLt; have := r.isLt; omega⟩ h) : EReal) := by
  pointwise [den]
  by_cases h1 : r.val < 32
  · rw [dif_pos h1, dif_pos h1]
  rw [dif_neg h1, dif_neg h1]
  by_cases h2 : r.val < 1920
  · rw [dif_pos (by omega), if_pos h2]
    exact congrArg (fun q => l (ix2 q h)) (Fin.ext (show 32 + (r.val - 32) = r.val by omega))
  · rw [dif_neg (by omega), if_neg h2]
    exact Finset.sum_congr rfl fun s _ => congrArg (fun q => l (ix2 q h)) (Fin.ext (show s.val * 2048 + (1920 + (r.val - 32 - 1888)) = s.val * 2048 + r.val by omega))

end Cert.ReferenceIdeal.Value

end
-- ==== Proof.Value.Result.lean ====
/-
The kernel's result is the reference's, where each device holds its block of the reference's arguments.
-/
module

public import proofs.«01_k».proof.Proof.Value.Arrays
public import proofs.«01_k».proof.Proof.Value.Reference
public import Idealize.ShloMosaic.Lib.LayoutAt

@[expose] public section

set_option maxRecDepth 16384

noncomputable section

namespace Cert.KernelIdeal.Band

open Cert.KernelIdeal Cert.KernelIdeal.Gen Cert.KernelIdeal.Exchange
open Idealize.ShloMosaic Idealize.ShloMosaic.TcCoe Idealize.SL.Sem

/-- Entry `(r, t)` of block `c` of an array of four blocks of `n` rows is the array's entry in row `c * n + r`. -/
theorem block_at {n N k : ℕ} {α : Type} (c : Fin 4) (v : (⟨2, ![N, k]⟩ : Shape).Idx → α) (h : Layout.Tiles ⟨2, ![n, k]⟩ ⟨2, ![N, k]⟩ 0 4)
    (r : Fin n) (t : Fin k) (hb : c.val * n + r.val < N) :
    Layout.block ⟨2, ![n, k]⟩ ⟨2, ![N, k]⟩ 0 4 c v h (ix2 r t) = v (ix2 ⟨c.val * n + r.val, hb⟩ t) := by
  rw [Layout.block_apply]
  exact congrArg v (idx_ext (h.idx_val_self c _ (0 : Fin 2) rfl) (h.idx_val_of_ne c _ (1 : Fin 2) Nat.one_ne_zero))

section
variable (m : (ℓ : Loc nD τ sig) → Buf (Elt Ideal) ℓ)
variable (o : FVec Ideal ⟨2, ![8192, 1024]⟩ .bf16) (og : FVec Ideal ⟨2, ![128, 1024]⟩ .bf16)
variable (l : FVec Ideal ⟨2, ![8192, 8]⟩ .f32) (lg : FVec Ideal ⟨2, ![128, 8]⟩ .f32) (w : FVec Ideal ⟨2, ![1024, 1024]⟩ .bf16)

theorem nums_eq (ho : ∀ c, aO m c = Layout.block ⟨2, ![2048, 1024]⟩ ⟨2, ![8192, 1024]⟩ 0 4 c o) (hog : ∀ c, aOg m c = Layout.block ⟨2, ![32, 1024]⟩ ⟨2, ![128, 1024]⟩ 0 4 c og)
    (r : Fin 2048) (t : Fin 1024) : nums m r t = Cert.ReferenceIdeal.Value.num o og (ix2 r t) := by
  have hr := r.isLt
  rw [Cert.ReferenceIdeal.Value.num_apply]
  unfold nums
  by_cases h1 : r.val < 32
  · rw [dif_pos h1, dif_pos h1]
    refine Finset.sum_congr rfl fun d _ => ?_
    rw [hog d]
    exact block_at d og _ ⟨r.val, h1⟩ t _
  rw [dif_neg h1, dif_neg h1]
  have e0 : aO m 0 (ix2 r t) = o (ix2 ⟨r.val, by omega⟩ t) := by
    rw [ho 0]
    refine (block_at 0 o _ r t (by show 0 * 2048 + r.val < 8192; omega)).trans (congrArg (fun q => o (ix2 q t)) (Fin.ext ?_))
    show 0 * 2048 + r.val = r.val; omega
  have e1 : aO m 1 (ix2 r t) = o (ix2 ⟨2048 + r.val, by omega⟩ t) := by
    rw [ho 1]
    refine (block_at 1 o _ r t (by show 1 * 2048 + r.val < 8192; omega)).trans (congrArg (fun q => o (ix2 q t)) (Fin.ext ?_))
    show 1 * 2048 + r.val = 2048 + r.val; omega
  rw [e0, e1]

theorem dens_eq (hl : ∀ c, aL m c = Layout.block ⟨2, ![2048, 8]⟩ ⟨2, ![8192, 8]⟩ 0 4 c l) (hlg : ∀ c, aLg m c = Layout.block ⟨2, ![32, 8]⟩ ⟨2, ![128, 8]⟩ 0 4 c lg)
    (r : Fin 2048) (h : Fin 8) : dens m r h = Cert.ReferenceIdeal.Value.den l lg (ix2 r h) := by
  have hr := r.isLt
  rw [Cert.ReferenceIdeal.Value.den_apply]
  unfold dens
  by_cases h1 : r.val < 32
  · rw [dif_pos h1, dif_pos h1]
    refine Finset.sum_congr rfl fun d _ => ?_
    rw [hlg d]
    exact block_at d lg _ ⟨r.val, h1⟩ h _
  rw [dif_neg h1, dif_neg h1]
  by_cases h2 : r.val < 1920
  · rw [if_pos h2, if_pos h2, hl 0]
    refine (block_at 0 l _ r h (by show 0 * 2048 + r.val < 8192; omega)).trans (congrArg (fun q => l (ix2 q h)) (Fin.ext ?_))
    show 0 * 2048 + r.val = r.val; omega
  · rw [if_neg h2, if_neg h2]
    refine Finset.sum_congr rfl fun d _ => ?_
    rw [hl d]
    exact block_at d l _ r h _

/-- On every device the kernel's result is the reference's. -/
theorem xout_eq (ho : ∀ c, aO m c = Layout.block ⟨2, ![2048, 1024]⟩ ⟨2, ![8192, 1024]⟩ 0 4 c o) (hog : ∀ c, aOg m c = Layout.block ⟨2, ![32, 1024]⟩ ⟨2, ![128, 1024]⟩ 0 4 c og)
    (hl : ∀ c, aL m c = Layout.block ⟨2, ![2048, 8]⟩ ⟨2, ![8192, 8]⟩ 0 4 c l) (hlg : ∀ c, aLg m c = Layout.block ⟨2, ![32, 8]⟩ ⟨2, ![128, 8]⟩ 0 4 c lg)
    (hw : ∀ c, aW m c = w) (c : Dev nD) :
    xout m c = Cert.ReferenceIdeal.Value.proj (Cert.ReferenceIdeal.Value.num o og) (Cert.ReferenceIdeal.Value.den l lg) w := by
  funext i
  obtain ⟨r, k, rfl⟩ : ∃ (r : Fin 2048) (k : Fin 1024), i = ix2 r k := ⟨i 0, i 1, idx_ext rfl rfl⟩
  refine (xout_row m c ((hw c).trans (hw 0).symm) r k).trans ?_
  refine (row_congr (nums_eq m o og ho hog r) (dens_eq m l lg hl hlg r) (hw 0) k).trans ?_
  exact (row_eq _ _ w k).trans (Cert.ReferenceIdeal.Value.proj_apply _ _ w r k).symm

end

end Cert.KernelIdeal.Band

end
-- ==== Proof.Calls.Query.lean ====
/-
The query call: the rows times the projection, the kernel's and the reference's.
-/
module

public import proofs.«01_k».proof.Proof.Gen.QueryIdeal.Value
public import proofs.«01_k».proof.Proof.Gen.QueryReferenceIdeal.Run
public import Idealize.ShloMosaic.Lib.Pointwise

@[expose] public section

set_option maxRecDepth 16384

noncomputable section

namespace Cert.QueryIdeal.Call

open Cert.QueryIdeal Cert.QueryIdeal.Gen Idealize.ShloMosaic

/-- The rows `x` times the projection `w`. -/
def prod (x : FVec Ideal S2048x1024 .bf16) (w : FVec Ideal S1024x1024 .bf16) : FVec Ideal S2048x1024 .bf16 :=
  fun i => (∑ t : Fin 1024, x (ix2 (i 0) t) * w (ix2 t (i 1)) : EReal)

theorem kernel_eq (x : FVec Ideal S2048x1024 .bf16) (w : FVec Ideal S1024x1024 .bf16) : Value.G2 (F := Ideal) x w = prod x w := by
  show k0_pay1 (F := Ideal) x w = prod x w
  funext i
  idx_vars i
  pointwise [k0_pay1]
  rfl

end Cert.QueryIdeal.Call

namespace Cert.QueryReferenceIdeal.Call

open Cert.QueryReferenceIdeal Cert.QueryReferenceIdeal.Gen Idealize.ShloMosaic

theorem reference_eq (x : FVec Ideal S2048x1024 .bf16) (w : FVec Ideal S1024x1024 .bf16) :
    truncf (F := Ideal) .bf16 (Host.dotGeneral dot_S2048x1024_S1024x1024_S2048x1024_1_0_0_1_n_n none (extf .f32 x bitsLt_bf16_f32) (extf .f32 w bitsLt_bf16_f32))
      bitsLt_bf16_f32 = Cert.QueryIdeal.Call.prod x w := by
  funext i
  idx_vars i
  pointwise []
  rfl

end Cert.QueryReferenceIdeal.Call

end
-- ==== Proof.Calls.Global.lean ====
/-
The call on the first rows: every key, head by head.
-/
module

public import proofs.«01_k».proof.Proof.Gen.GlobalIdeal.Value
public import proofs.«01_k».proof.Proof.Gen.GlobalReferenceIdeal.Run
public import Idealize.ShloMosaic.Lib.Pointwise

@[expose] public section

set_option maxRecDepth 16384

noncomputable section

namespace Cert.GlobalIdeal.Call

open Cert.GlobalIdeal Cert.GlobalIdeal.Gen Idealize.ShloMosaic

/-- Feature `t` of head `h`. -/
abbrev ft (h : Fin 8) (t : Fin 128) : Fin 1024 := ⟨h.val * 128 + t.val, by have := h.isLt; have := t.isLt; omega⟩

/-- The weight of key `j` in row `r` of one head. -/
def weight (q : FVec Ideal S32x128 .bf16) (k : FVec Ideal S2048x128 .bf16) (r : Fin 32) (j : Fin 2048) : EReal :=
  Ideal.exp ((∑ t : Fin 128, q (ix2 r t) * k (ix2 j t)) * Ideal.ofBits .f32 0x3DB504F3#32)

theorem weight_apply (q : FVec Ideal S32x128 .bf16) (k : FVec Ideal S2048x128 .bf16) (r : Fin 32) (j : Fin 2048) :
    k0_pay1 (F := Ideal) q k (ix2 r j) = weight q k r j := by
  pointwise [k0_pay1]
  rfl

theorem num_apply (q : FVec Ideal S32x128 .bf16) (k v : FVec Ideal S2048x128 .bf16) (r : Fin 32) (t : Fin 128) :
    k0_pay2 (F := Ideal) q k v (ix2 r t) = ∑ j : Fin 2048, weight q k r j * v (ix2 j t) := by
  pointwise [k0_pay2, k0_pay1]
  rfl

/-- The columns of head `h`. -/
def cols {n : Nat} (h : Fin 8) (a : FVec Ideal ⟨2, ![n, 1024]⟩ .bf16) : FVec Ideal ⟨2, ![n, 128]⟩ .bf16 := fun i => a (ix2 (i 0) (ft h (i 1)))

/-- The head of a feature. -/
abbrev hd (t : Fin 1024) : Fin 8 := ⟨t.val / 128, by have := t.isLt; omega⟩

/-- The numerators. -/
def num (q : FVec Ideal S32x1024 .bf16) (k v : FVec Ideal S2048x1024 .bf16) : FVec Ideal S32x1024 .bf16 := fun i =>
  (∑ j : Fin 2048, weight (cols (hd (i 1)) q) (cols (hd (i 1)) k) (i 0) j * v (ix2 j (i 1)) : EReal)

/-- The denominators. -/
def den (q : FVec Ideal S32x1024 .bf16) (k : FVec Ideal S2048x1024 .bf16) : FVec Ideal S32x8 .f32 := fun i =>
  (∑ j : Fin 2048, weight (cols (i 1) q) (cols (i 1) k) (i 0) j : EReal)

theorem ld_cols {n : Nat} (h : Fin 8) (a : FVec Ideal ⟨2, ![n, 1024]⟩ .bf16) (off : Fin 2 → Nat) (inb) (h0 : off 0 = 0) (h1 : off 1 = h.val * 128) :
    View.ld (Val := Elt Ideal) (e' := .bf16) a (Rect.unit (s := ⟨2, ![n, 1024]⟩) off ![n, 128] inb) = cols h a := by
  funext x
  refine congrArg a (funext fun b => Fin.ext ?_)
  match b with
  | ⟨0, _⟩ => show off 0 + 1 * (x 0).val = (x 0).val; omega
  | ⟨1, _⟩ => show off 1 + 1 * (x 1).val = h.val * 128 + (x 1).val; omega

theorem piece (q : FVec Ideal S32x1024 .bf16) (k v : FVec Ideal S2048x1024 .bf16) (h : Fin 8) (off : Fin 2 → Nat) (inb) (inb')
    (h0 : off 0 = 0) (h1 : off 1 = h.val * 128) (x : S32x128.Idx) :
    k0_pay2 (F := Ideal) (View.ld (Val := Elt Ideal) (e' := .bf16) q (Rect.unit (s := S32x1024) off S32x128.size inb))
      (View.ld (Val := Elt Ideal) (e' := .bf16) k (Rect.unit (s := S2048x1024) off S2048x128.size inb'))
      (View.ld (Val := Elt Ideal) (e' := .bf16) v (Rect.unit (s := S2048x1024) off S2048x128.size inb')) x
      = num q k v ((Rect.unit (s := S32x1024) off S32x128.size inb).emb x) := by
  rw [show View.ld (Val := Elt Ideal) (e' := .bf16) q (Rect.unit (s := S32x1024) off S32x128.size inb) = cols h q from ld_cols h q off inb h0 h1,
    show View.ld (Val := Elt Ideal) (e' := .bf16) k (Rect.unit (s := S2048x1024) off S2048x128.size inb') = cols h k from ld_cols h k off inb' h0 h1,
    show View.ld (Val := Elt Ideal) (e' := .bf16) v (Rect.unit (s := S2048x1024) off S2048x128.size inb') = cols h v from ld_cols h v off inb' h0 h1]
  obtain ⟨r, t, rfl⟩ : ∃ (r : Fin 32) (t : Fin 128), x = ix2 r t := ⟨x 0, x 1, funext fun a => by match a with | ⟨0, _⟩ => rfl | ⟨1, _⟩ => rfl⟩
  rw [num_apply]
  have e : (Rect.unit (s := S32x1024) off S32x128.size inb).emb (ix2 r t) = ix2 r (ft h t) := funext fun b => Fin.ext (by
    match b with
    | ⟨0, _⟩ => show off 0 + 1 * r.val = r.val; omega
    | ⟨1, _⟩ => show off 1 + 1 * t.val = h.val * 128 + t.val; omega)
  rw [e]
  show _ = ∑ j : Fin 2048, weight (cols (hd (ft h t)) q) (cols (hd (ft h t)) k) r j * v (ix2 j (ft h t))
  rw [show hd (ft h t) = h from Fin.ext (show (h.val * 128 + t.val) / 128 = h.val by have := t.isLt; omega)]
  rfl

theorem num_eq (q : FVec Ideal S32x1024 .bf16) (k v : FVec Ideal S2048x1024 .bf16) : Value.G3 (F := Ideal) q k v = num q k v := by
  funext y
  refine View.canon_apply_of_pieces (Val := Elt Ideal) (e := .bf16) (num q k v) _ ?_ y (cover0_3 _ _ _ _ _ _ _ _ y)
  intro p hp x
  simp only [List.mem_cons, List.not_mem_nil, or_false] at hp
  rcases hp with rfl | rfl | rfl | rfl | rfl | rfl | rfl | rfl
  · exact piece q k v 7 _ _ _ rfl rfl x
  · exact piece q k v 6 _ _ _ rfl rfl x
  · exact piece q k v 5 _ _ _ rfl rfl x
  · exact piece q k v 4 _ _ _ rfl rfl x
  · exact piece q k v 3 _ _ _ rfl rfl x
  · exact piece q k v 2 _ _ _ rfl rfl x
  · exact piece q k v 1 _ _ _ rfl rfl x
  · exact piece q k v 0 _ _ _ rfl rfl x

theorem den_apply (q : FVec Ideal S32x1024 .bf16) (k : FVec Ideal S2048x1024 .bf16) (r : Fin 32) (h : Fin 8) :
    k0_pay3 (F := Ideal) (k0_pay6 (cols 0 q) (cols 0 k)) (k0_pay6 (cols 1 q) (cols 1 k)) (k0_pay6 (cols 2 q) (cols 2 k)) (k0_pay6 (cols 3 q) (cols 3 k))
      (k0_pay6 (cols 4 q) (cols 4 k)) (k0_pay6 (cols 5 q) (cols 5 k)) (k0_pay1 (cols 6 q) (cols 6 k)) (cols 7 q) (cols 7 k) (ix2 r h)
      = ∑ j : Fin 2048, weight (cols h q) (cols h k) r j := by
  fin_cases h <;> · pointwise [k0_pay3, k0_pay6, k0_pay4, k0_pay1]; rfl

theorem den_eq (q : FVec Ideal S32x1024 .bf16) (k v : FVec Ideal S2048x1024 .bf16) : Value.G4 (F := Ideal) q k v = den q k := by
  have eq (h : Fin 8) (off : Fin 2 → Nat) (inb) (h0 : off 0 = 0) (h1 : off 1 = h.val * 128) :
      View.ld (Val := Elt Ideal) (e' := .bf16) q (Rect.unit (s := S32x1024) off S32x128.size inb) = cols h q := ld_cols h q off inb h0 h1
  have ek (h : Fin 8) (off : Fin 2 → Nat) (inb) (h0 : off 0 = 0) (h1 : off 1 = h.val * 128) :
      View.ld (Val := Elt Ideal) (e' := .bf16) k (Rect.unit (s := S2048x1024) off S2048x128.size inb) = cols h k := ld_cols h k off inb h0 h1
  unfold Value.G4
  rw [eq 0 ![0, 0] _ rfl rfl, ek 0 ![0, 0] _ rfl rfl, eq 1 ![0, 128] _ rfl rfl, ek 1 ![0, 128] _ rfl rfl, eq 2 ![0, 256] _ rfl rfl, ek 2 ![0, 256] _ rfl rfl,
    eq 3 ![0, 384] _ rfl rfl, ek 3 ![0, 384] _ rfl rfl, eq 4 ![0, 512] _ rfl rfl, ek 4 ![0, 512] _ rfl rfl, eq 5 ![0, 640] _ rfl rfl, ek 5 ![0, 640] _ rfl rfl,
    eq 6 ![0, 768] _ rfl rfl, ek 6 ![0, 768] _ rfl rfl, eq 7 ![0, 896] _ rfl rfl, ek 7 ![0, 896] _ rfl rfl]
  funext i
  obtain ⟨r, h, rfl⟩ : ∃ (r : Fin 32) (h : Fin 8), i = ix2 r h := ⟨i 0, i 1, funext fun a => by match a with | ⟨0, _⟩ => rfl | ⟨1, _⟩ => rfl⟩
  exact den_apply q k r h

end Cert.GlobalIdeal.Call

namespace Cert.GlobalReferenceIdeal.Call

open Cert.GlobalReferenceIdeal Cert.GlobalReferenceIdeal.Gen Idealize.ShloMosaic

/-- The weights. -/
def expo (q : FVec Ideal S32x1024 .bf16) (k : FVec Ideal S2048x1024 .bf16) : FVec Ideal S8x32x2048 .f32 :=
  Host.exp (mulf (Host.dotGeneral dot_S32x8x128_S2048x8x128_S8x32x2048_2_2_0_0_1_1 none (shapeCast _ (extf .f32 q bitsLt_bf16_f32) shapeCasts_S32x1024_S32x8x128) (shapeCast _ (extf .f32 k bitsLt_bf16_f32) shapeCasts_S2048x1024_S2048x8x128)) (broadcastInDim S8x32x2048 ![] bcast_S_S8x32x2048 (constant S_ .f32 0x3DB504F3#32)))

open Cert.GlobalIdeal.Call in
theorem expo_apply (q : FVec Ideal S32x1024 .bf16) (k : FVec Ideal S2048x1024 .bf16) (h : Fin 8) (r : Fin 32) (j : Fin 2048) :
    expo q k (ix3 h r j) = weight (cols h q) (cols h k) r j := by
  pointwise [expo]
  rfl

open Cert.GlobalIdeal.Call in
theorem num_eq (q : FVec Ideal S32x1024 .bf16) (k v : FVec Ideal S2048x1024 .bf16) :
    truncf .bf16 (shapeCast _ (transpose S32x8x128 [2, 0, 1] (Host.dotGeneral dot_S2048x8x128_S8x32x2048_S8x128x32_0_2_2_1_1_0 none (shapeCast _ (extf .f32 v bitsLt_bf16_f32) shapeCasts_S2048x1024_S2048x8x128) (expo q k)) transposes_S8x128x32_S32x8x128_2_0_1) shapeCasts_S32x8x128_S32x1024) bitsLt_bf16_f32
      = num q k v := by
  funext i
  idx_vars i
  pointwise []
  exact Finset.sum_congr rfl fun j _ => (mul_comm (v (ix2 j i1) : EReal) _).trans (congrArg (· * (v (ix2 j i1) : EReal)) (expo_apply q k _ i0 j))

open Cert.GlobalIdeal.Call in
theorem den_eq (q : FVec Ideal S32x1024 .bf16) (k : FVec Ideal S2048x1024 .bf16) :
    transpose S32x8 [1, 0] (Host.reduceAdd (expo q k) (constant S_ .f32 0x00000000#32) reducesTo_S8x32x2048_S8x32_d2 h_S_) transposes_S8x32_S32x8_1_0 = den q k := by
  funext i
  idx_vars i
  pointwise []
  exact Finset.sum_congr rfl fun j _ => expo_apply q k i1 i0 j

end Cert.GlobalReferenceIdeal.Call

end
-- ==== Proof.Calls.Window.lean ====
/-
Which keys a query of the local call meets: those near it, and the first ones. As words, and as a sum over a window of keys and the
first keys.
-/
module

public import Idealize.ShloMosaic.Lib.Pointwise
public import Idealize.ShloMosaic.Lib.WordCmp

@[expose] public section

noncomputable section

namespace Cert.Window

open Idealize.ShloMosaic

/-- At most 128 apart. -/
abbrev near (x y : Nat) : Prop := x ≤ y + 128 ∧ y ≤ x + 128

/-- The query at `x` meets the key at `y`. -/
abbrev meets (x y : Nat) : Prop := near x y ∨ y < 32

theorem absi_sub (x y : Nat) (hx : x < 16384) (hy : y < 16384) :
    IntOp.absi (IntOp.subi (BitVec.ofNat 32 x) (BitVec.ofNat 32 y)) = BitVec.ofNat 32 (if y ≤ x then x - y else y - x) := by
  unfold IntOp.absi IntOp.subi
  split_ifs with h1 h2 h2
  · rw [BitVec.msb_eq_decide] at h1
    have := of_decide_eq_true h1
    rw [BitVec.toNat_sub, BitVec.toNat_ofNat, BitVec.toNat_ofNat] at this
    omega
  · apply BitVec.eq_of_toNat_eq
    rw [BitVec.toNat_neg, BitVec.toNat_sub, BitVec.toNat_ofNat, BitVec.toNat_ofNat, BitVec.toNat_ofNat]
    omega
  · apply BitVec.eq_of_toNat_eq
    rw [BitVec.toNat_sub, BitVec.toNat_ofNat, BitVec.toNat_ofNat, BitVec.toNat_ofNat]
    omega
  · exfalso
    apply h1
    rw [BitVec.msb_eq_decide]
    apply decide_eq_true
    rw [BitVec.toNat_sub, BitVec.toNat_ofNat, BitVec.toNat_ofNat]
    omega

theorem near_word (x y : Nat) (hx : x < 16384) (hy : y < 16384) :
    IntOp.cmpi .sle (IntOp.absi (IntOp.subi (BitVec.ofNat 32 x) (BitVec.ofNat 32 y))) 128#32 = 1#1 ↔ near x y := by
  rw [absi_sub x y hx hy, show (128#32 : BitVec 32) = BitVec.ofNat 32 128 from rfl, WordCmp.cmpi_sle_ofNat_eq_one_iff (by split_ifs <;> omega) (by omega)]
  unfold near
  split_ifs <;> omega

theorem first_word (y : Nat) (hy : y < 16384) : IntOp.cmpi .slt (BitVec.ofNat 32 y) 32#32 = 1#1 ↔ y < 32 := by
  rw [show (32#32 : BitVec 32) = BitVec.ofNat 32 32 from rfl, WordCmp.cmpi_slt_ofNat_eq_one_iff (by omega) (by omega)]

theorem later_word (y : Nat) (hy : y < 16384) : IntOp.cmpi .sge (BitVec.ofNat 32 y) 32#32 = 1#1 ↔ 32 ≤ y := by
  rw [show (32#32 : BitVec 32) = BitVec.ofNat 32 32 from rfl, show IntOp.cmpi .sge (BitVec.ofNat 32 y) (BitVec.ofNat 32 32) = IntOp.cmpi .sle (BitVec.ofNat 32 32) (BitVec.ofNat 32 y) from rfl,
    WordCmp.cmpi_sle_ofNat_eq_one_iff (by omega) (by omega)]

theorem and_one : ∀ a b : BitVec 1, IntOp.andi a b = 1#1 ↔ a = 1#1 ∧ b = 1#1 := by decide

theorem or_one : ∀ a b : BitVec 1, IntOp.ori a b = 1#1 ↔ a = 1#1 ∨ b = 1#1 := by decide

/-- The keys met are the window's near ones past the first, and the first ones. -/
theorem sum_window (f : Fin 2048 → EReal) (x s w : Nat) (hw : w + 512 ≤ 2048)
    (hc : ∀ j : Fin 2048, near x (s + j.val) → 32 ≤ s + j.val → w ≤ j.val ∧ j.val < w + 512) :
    (∑ k : Fin 512, if near x (s + (w + k.val)) ∧ 32 ≤ s + (w + k.val) then f ⟨w + k.val, by have := k.isLt; omega⟩ else 0)
      + (∑ g : Fin 128, if s + g.val < 32 then f ⟨g.val, by have := g.isLt; omega⟩ else 0)
      = ∑ j : Fin 2048, if meets x (s + j.val) then f j else 0 := by
  rw [Fintype.sum_of_injective (fun k : Fin 512 => (⟨w + k.val, by have := k.isLt; omega⟩ : Fin 2048)) (fun a b h => Fin.ext (by have : _ = _ := Fin.val_eq_of_eq h; dsimp only at this; omega)) _
      (fun j : Fin 2048 => if near x (s + j.val) ∧ 32 ≤ s + j.val then f j else 0) (fun j hj => if_neg fun h => hj ?_) (fun k => rfl),
    Fintype.sum_of_injective (fun g : Fin 128 => (⟨g.val, by have := g.isLt; omega⟩ : Fin 2048)) (fun a b h => Fin.ext (by have : _ = _ := Fin.val_eq_of_eq h; dsimp only at this; omega)) _
      (fun j : Fin 2048 => if s + j.val < 32 then f j else 0) (fun j hj => if_neg fun h => hj ⟨⟨j.val, by omega⟩, rfl⟩) (fun g => rfl),
    ← Finset.sum_add_distrib]
  · refine Finset.sum_congr rfl fun j _ => ?_
    by_cases h : s + j.val < 32
    · rw [if_neg (fun h' => by omega), if_pos h, if_pos (Or.inr h), zero_add]
    · by_cases h' : near x (s + j.val)
      · rw [if_pos ⟨h', by omega⟩, if_neg h, if_pos (Or.inl h'), add_zero]
      · rw [if_neg (fun h'' => h' h''.1), if_neg h, if_neg (fun h'' => h''.elim h' h), add_zero]
  · obtain ⟨h1, h2⟩ := hc j h.1 h.2
    exact ⟨⟨j.val - w, by omega⟩, Fin.ext (by show w + (j.val - w) = j.val; omega)⟩

/-- Feature `t` of head `h`. -/
abbrev ft (h : Fin 8) (t : Fin 128) : Fin 1024 := ⟨h.val * 128 + t.val, by have := h.isLt; have := t.isLt; omega⟩

/-- The head of a feature. -/
abbrev hd (t : Fin 1024) : Fin 8 := ⟨t.val / 128, by have := t.isLt; omega⟩

/-- The weight of a key in one head. -/
def weight (a b : Fin 1024 → EReal) (h : Fin 8) : EReal :=
  Ideal.exp ((∑ d : Fin 128, a (ft h d) * b (ft h d)) * Ideal.ofBits .f32 0x3DB504F3#32)

/-- Row `j` of an array. -/
abbrev row {n : Nat} {e : FTy} (a : FVec Ideal ⟨2, ![n, 1024]⟩ e) (j : Fin n) : Fin 1024 → EReal := fun d => a (ix2 j d)

/-- The numerator of the query `a` at `x` among the keys from `s` on, at feature `t`. -/
def rnum (x s : Nat) (a : Fin 1024 → EReal) (k v : FVec Ideal ⟨2, ![2048, 1024]⟩ .bf16) (t : Fin 1024) : EReal :=
  ∑ j : Fin 2048, if meets x (s + j.val) then weight a (row k j) (hd t) * row v j t else 0

/-- Its denominator in head `h`. -/
def rden (x s : Nat) (a : Fin 1024 → EReal) (k : FVec Ideal ⟨2, ![2048, 1024]⟩ .bf16) (h : Fin 8) : EReal :=
  ∑ j : Fin 2048, if meets x (s + j.val) then weight a (row k j) h else 0

/-- The numerators of the queries `q` over the keys of shard `c`. -/
def num (c : Nat) (q k v : FVec Ideal ⟨2, ![2048, 1024]⟩ .bf16) : FVec Ideal ⟨2, ![2048, 1024]⟩ .bf16 := fun i =>
  rnum (i 0).val (c * 2048) (row q (i 0)) k v (i 1)

/-- The denominators. -/
def den (c : Nat) (q k : FVec Ideal ⟨2, ![2048, 1024]⟩ .bf16) : FVec Ideal ⟨2, ![2048, 8]⟩ .f32 := fun i =>
  rden (i 0).val (c * 2048) (row q (i 0)) k (i 1)

end Cert.Window

end
-- ==== Proof.Calls.LocalBlock.lean ====
/-
One block of the local call: what its stores leave.
-/
module

public import proofs.«01_k».proof.Proof.Gen.LocalIdeal.Value
public import proofs.«01_k».proof.Proof.Calls.Window

@[expose] public section

set_option maxRecDepth 16384

noncomputable section

namespace Cert.LocalIdeal.Call

open Cert.LocalIdeal Cert.LocalIdeal.Gen Cert.Window Idealize.ShloMosaic

/-- The window's first key, as the device computes its position. -/
theorem word_eq : ∀ (i : grid0.Coords) (c : Dev nD),
    Scalar.addi (Scalar.muli (Scalar.remsi (Scalar.divsi (Dev.word c) 1#32) 4#32) 2048#32) (Scalar.minsi 1536#32 (Scalar.maxsi 0#32 (Scalar.subi (Scalar.subi (Scalar.muli (BitVec.ofNat 32 (i 0).val) 256#32) 128#32) (Scalar.muli (Scalar.remsi (Scalar.divsi (Dev.word c) 1#32) 4#32) 2048#32)))) = BitVec.ofNat 32 (c.val * 2048 + k0_off1 i c 0) := by decide +kernel

/-- The shard's first key. -/
theorem base_eq : ∀ c : Dev nD, Scalar.muli (Scalar.remsi (Scalar.divsi (Dev.word c) 1#32) 4#32) 2048#32 = BitVec.ofNat 32 (c.val * 2048) := by decide +kernel

/-- The block's first row. -/
theorem rows_eq : ∀ i : grid0.Coords, Scalar.muli (BitVec.ofNat 32 (i 0).val) 256#32 = BitVec.ofNat 32 ((i 0).val * 256) := by decide +kernel

/-- The window starts 128 before the block's rows, or at either end of the shard. -/
theorem start_eq : ∀ (i : grid0.Coords) (c : Dev nD), (k0_off1 i c 0 = 0 ∧ (i 0).val * 256 ≤ c.val * 2048 + 128) ∨
    (k0_off1 i c 0 = 1536 ∧ c.val * 2048 + 1536 + 128 ≤ (i 0).val * 256) ∨ c.val * 2048 + k0_off1 i c 0 + 128 = (i 0).val * 256 := by decide +kernel

theorem start_le : ∀ (i : grid0.Coords) (c : Dev nD), k0_off1 i c 0 + 512 ≤ 2048 := by decide +kernel

theorem rows_lt (i : grid0.Coords) : (i 0).val < 8 := (i 0).isLt

theorem near_apply (i : grid0.Coords) (c : Dev nD) (r : Fin 256) (k : Fin 512) :
    k0_pay4 i c (ix2 r k) = 1#1 ↔ near ((i 0).val * 256 + r.val) (c.val * 2048 + (k0_off1 i c 0 + k.val)) ∧ 32 ≤ c.val * 2048 + (k0_off1 i c 0 + k.val) := by
  have hc : c.val < 4 := c.isLt
  have hi := rows_lt i
  have hs := start_le i c
  have hr := r.isLt
  have hk := k.isLt
  rw [← near_word _ _ (by omega) (by omega), ← later_word _ (by omega), ← and_one]
  pointwise [k0_pay4]
  rw [word_eq, rows_eq]
  unfold IntOp.addi
  rw [← BitVec.ofNat_add, ← BitVec.ofNat_add, Nat.add_assoc]

theorem first_apply (c : Dev nD) (r : Fin 256) (g : Fin 128) : k0_pay5 c (ix2 r g) = 1#1 ↔ c.val * 2048 + g.val < 32 := by
  have hc : c.val < 4 := c.isLt
  have hg := g.isLt
  rw [← first_word _ (by omega)]
  pointwise [k0_pay5]
  rw [base_eq]
  unfold IntOp.addi
  rw [← BitVec.ofNat_add]

/-- The columns of head `h` of the rows from `s` on. -/
def cols {n n' : Nat} (s : Nat) (hs : s + n' ≤ n) (h : Fin 8) (a : FVec Ideal ⟨2, ![n, 1024]⟩ .bf16) : FVec Ideal ⟨2, ![n', 128]⟩ .bf16 := fun i =>
  a (ix2 ⟨s + (i 0).val, by have : (i 0).val < n' := (i 0).isLt; omega⟩ (ft h (i 1)))

theorem ld_cols {n n' : Nat} (s : Nat) (hs : s + n' ≤ n) (h : Fin 8) (a : FVec Ideal ⟨2, ![n, 1024]⟩ .bf16) (off : Fin 2 → Nat) (inb) (h0 : off 0 = s) (h1 : off 1 = h.val * 128) :
    View.ld (Val := Elt Ideal) (e' := .bf16) a (Rect.unit (s := ⟨2, ![n, 1024]⟩) off ![n', 128] inb) = cols s hs h a := by
  funext x
  refine congrArg a (funext fun b => Fin.ext ?_)
  match b with
  | ⟨0, _⟩ => show off 0 + 1 * (x 0).val = s + (x 0).val; omega
  | ⟨1, _⟩ => show off 1 + 1 * (x 1).val = h.val * 128 + (x 1).val; omega

/-- A weight as the payloads compute it. -/
def wt {n : Nat} (q : FVec Ideal S256x128 .bf16) (k : FVec Ideal ⟨2, ![n, 128]⟩ .bf16) (r : Fin 256) (j : Fin n) : EReal :=
  Ideal.exp ((∑ d : Fin 128, q (ix2 r d) * k (ix2 j d)) * Ideal.ofBits .f32 0x3DB504F3#32)

theorem wt_cols {n n' : Nat} (s : Nat) (hs : s + n' ≤ n) (h : Fin 8) (q : FVec Ideal S256x1024 .bf16) (k : FVec Ideal ⟨2, ![n, 1024]⟩ .bf16) (r : Fin 256) (j : Fin n') :
    wt (cols 0 (Nat.le_refl _) h q) (cols s hs h k) r j = weight (row q r) (row k ⟨s + j.val, by have := j.isLt; omega⟩) h := by
  unfold wt weight cols row
  refine congrArg (fun a => Ideal.exp (a * Ideal.ofBits .f32 0x3DB504F3#32)) (Finset.sum_congr rfl fun d _ => ?_)
  refine congrArg (fun z : Fin 256 => (q (ix2 z (ft h d)) : EReal) * _) (Fin.ext ?_)
  show 0 + r.val = r.val
  omega

theorem num_apply (mw : IVec S256x512 1) (mg : IVec S256x128 1) (q : FVec Ideal S256x128 .bf16) (kw vw : FVec Ideal S512x128 .bf16) (kg vg : FVec Ideal S128x128 .bf16)
    (r : Fin 256) (t : Fin 128) :
    k0_pay2 (F := Ideal) mg (k0_pay66 vw) (k0_pay67 vg) (k0_pay68 mw q kw) (k0_pay69 q kg) (ix2 r t)
      = (∑ k : Fin 512, if mw (ix2 r k) = 1#1 then wt q kw r k * vw (ix2 k t) else 0) + ∑ g : Fin 128, if mg (ix2 r g) = 1#1 then wt q kg r g * vg (ix2 g t) else 0 := by
  pointwise [k0_pay2, k0_pay66, k0_pay67, k0_pay68, k0_pay69, k0_pay65, k0_pay1]
  rfl

theorem den_apply (mw : IVec S256x512 1) (mg : IVec S256x128 1) (q : FVec Ideal S256x128 .bf16) (kw : FVec Ideal S512x128 .bf16) (kg : FVec Ideal S128x128 .bf16) (r : Fin 256) :
    k0_pay12 (F := Ideal) mw mg (k0_pay6 q) (k0_pay7 kw) kg (ix2 r 0)
      = (∑ k : Fin 512, if mw (ix2 r k) = 1#1 then wt q kw r k else 0) + ∑ g : Fin 128, if mg (ix2 r g) = 1#1 then wt q kg r g else 0 := by
  pointwise [k0_pay12, k0_pay9, k0_pay10, k0_pay6, k0_pay7]
  rfl

/-- Over the shard's keys: the two sums of a payload are one. -/
theorem sum_block (i : grid0.Coords) (c : Dev nD) (r : Fin 256) (f : Fin 2048 → EReal) (fw : Fin 512 → EReal) (fg : Fin 128 → EReal)
    (hw : ∀ k : Fin 512, fw k = f ⟨k0_off1 i c 0 + k.val, by have := k.isLt; have := start_le i c; omega⟩)
    (hg : ∀ g : Fin 128, fg g = f ⟨g.val, by have := g.isLt; omega⟩) :
    (∑ k : Fin 512, if k0_pay4 i c (ix2 r k) = 1#1 then fw k else 0) + (∑ g : Fin 128, if k0_pay5 c (ix2 r g) = 1#1 then fg g else 0)
      = ∑ j : Fin 2048, if meets ((i 0).val * 256 + r.val) (c.val * 2048 + j.val) then f j else 0 := by
  rw [← sum_window f _ _ (k0_off1 i c 0) (start_le i c) (fun j h h' => by
    have := start_eq i c
    have := r.isLt
    have := j.isLt
    obtain ⟨h1, h2⟩ := h
    omega)]
  exact congrArg₂ (· + ·) (Finset.sum_congr rfl fun k _ => by rw [hw k]; exact if_congr (near_apply i c r k) rfl rfl)
    (Finset.sum_congr rfl fun g _ => by rw [hg g]; exact if_congr (first_apply c r g) rfl rfl)

/-- The block's numerators. -/
def bnum (i : grid0.Coords) (c : Dev nD) (x0 : FVec Ideal S256x1024 .bf16) (x1 x2 : FVec Ideal S2048x1024 .bf16) : FVec Ideal S256x1024 .bf16 := fun y =>
  rnum ((i 0).val * 256 + (y 0).val) (c.val * 2048) (row x0 (y 0)) x1 x2 (y 1)

section
variable (mw : IVec S256x512 1) (mg : IVec S256x128 1) (q : FVec Ideal S256x128 .bf16) (kw vw : FVec Ideal S512x128 .bf16) (kg vg : FVec Ideal S128x128 .bf16)

/-- What the last head's store writes, at any operands. -/
abbrev pay : FVec Ideal S256x128 .bf16 := k0_pay2 mg (k0_pay66 vw) (k0_pay67 vg) (k0_pay68 mw q kw) (k0_pay69 q kg)

/-! The other heads' stores write the same. -/

theorem head0 : k0_pay11 mw mg (k0_pay6 q) (k0_pay7 kw) (k0_pay8 vw) kg vg = pay mw mg q kw vw kg vg := rfl
theorem head1 : k0_pay19 mw mg (k0_pay13 q) (k0_pay14 kw) (k0_pay15 vw) (k0_pay16 kg) vg = pay mw mg q kw vw kg vg := rfl
theorem head2 : k0_pay27 mw mg (k0_pay21 q) (k0_pay22 kw) (k0_pay23 vw) (k0_pay24 kg) vg = pay mw mg q kw vw kg vg := rfl
theorem head3 : k0_pay36 mw mg (k0_pay29 q) (k0_pay30 vw) (k0_pay31 kg) (k0_pay32 vg) (k0_pay33 q kw) = pay mw mg q kw vw kg vg := rfl
theorem head4 : k0_pay45 mw mg (k0_pay38 q) (k0_pay39 vw) (k0_pay40 kg) (k0_pay41 vg) (k0_pay42 q kw) = pay mw mg q kw vw kg vg := rfl
theorem head5 : k0_pay55 mw mg (k0_pay47 q) (k0_pay48 vw) (k0_pay49 kg) (k0_pay50 vg) (k0_pay51 q kw) k0_pay52 = pay mw mg q kw vw kg vg := rfl
theorem head6 : k0_pay63 mg (k0_pay58 vw) (k0_pay59 vg) (k0_pay60 mw q kw) (k0_pay61 q kg) = pay mw mg q kw vw kg vg := rfl

/-- The first head's row sums, at any operands. -/
abbrev sums : FVec Ideal S256x1 .f32 := k0_pay12 mw mg (k0_pay6 q) (k0_pay7 kw) kg

/-! The other heads' row sums are the same. -/

theorem sums1 : k0_pay20 mw mg (k0_pay13 q) (k0_pay14 kw) (k0_pay16 kg) = sums mw mg q kw kg := rfl
theorem sums2 : k0_pay28 mw mg (k0_pay21 q) (k0_pay22 kw) (k0_pay24 kg) = sums mw mg q kw kg := rfl
theorem sums3 : k0_pay37 mw mg (k0_pay29 q) (k0_pay31 kg) (k0_pay33 q kw) = sums mw mg q kw kg := rfl
theorem sums4 : k0_pay46 mw mg (k0_pay38 q) (k0_pay40 kg) (k0_pay42 q kw) = sums mw mg q kw kg := rfl
theorem sums5 : k0_pay56 mw mg (k0_pay47 q) (k0_pay49 kg) (k0_pay51 q kw) k0_pay52 = sums mw mg q kw kg := rfl
theorem sums6 : k0_pay64 mg (k0_pay60 mw q kw) (k0_pay61 q kg) = sums mw mg q kw kg := rfl

end

theorem piece (i : grid0.Coords) (c : Dev nD) (x0 : FVec Ideal S256x1024 .bf16) (x1 x2 : FVec Ideal S2048x1024 .bf16) (h : Fin 8) (off offw : Fin 2 → Nat) (inb) (inbw) (inbg)
    (h0 : off 0 = 0) (h1 : off 1 = h.val * 128) (hw0 : offw 0 = k0_off1 i c 0) (hw1 : offw 1 = h.val * 128) (x : S256x128.Idx) :
    pay (k0_pay4 i c) (k0_pay5 c) (View.ld (Val := Elt Ideal) (e' := .bf16) x0 (Rect.unit (s := S256x1024) off S256x128.size inb))
      (View.ld (Val := Elt Ideal) (e' := .bf16) x1 (Rect.unit (s := S2048x1024) offw S512x128.size inbw))
      (View.ld (Val := Elt Ideal) (e' := .bf16) x2 (Rect.unit (s := S2048x1024) offw S512x128.size inbw))
      (View.ld (Val := Elt Ideal) (e' := .bf16) x1 (Rect.unit (s := S2048x1024) off S128x128.size inbg))
      (View.ld (Val := Elt Ideal) (e' := .bf16) x2 (Rect.unit (s := S2048x1024) off S128x128.size inbg)) x
      = bnum i c x0 x1 x2 ((Rect.unit (s := S256x1024) off S256x128.size inb).emb x) := by
  have w (a : FVec Ideal S2048x1024 .bf16) : View.ld (Val := Elt Ideal) (e' := .bf16) a (Rect.unit (s := S2048x1024) offw S512x128.size inbw) = cols _ (start_le i c) h a :=
    ld_cols _ (start_le i c) h a offw inbw hw0 hw1
  have g (a : FVec Ideal S2048x1024 .bf16) : View.ld (Val := Elt Ideal) (e' := .bf16) a (Rect.unit (s := S2048x1024) off S128x128.size inbg) = cols 0 (by decide) h a :=
    ld_cols 0 (by decide) h a off inbg h0 h1
  have q : View.ld (Val := Elt Ideal) (e' := .bf16) x0 (Rect.unit (s := S256x1024) off S256x128.size inb) = cols 0 (Nat.le_refl 256) h x0 :=
    ld_cols 0 (Nat.le_refl 256) h x0 off inb h0 h1
  rw [w, w, g, g, q]
  obtain ⟨r, t, rfl⟩ : ∃ (r : Fin 256) (t : Fin 128), x = ix2 r t := ⟨x 0, x 1, funext fun a => by match a with | ⟨0, _⟩ => rfl | ⟨1, _⟩ => rfl⟩
  have e : (Rect.unit (s := S256x1024) off S256x128.size inb).emb (ix2 r t) = ix2 r (ft h t) := funext fun b => Fin.ext (by
    match b with
    | ⟨0, _⟩ => show off 0 + 1 * r.val = r.val; omega
    | ⟨1, _⟩ => show off 1 + 1 * t.val = h.val * 128 + t.val; omega)
  have ht : hd (ft h t) = h := Fin.ext (show (h.val * 128 + t.val) / 128 = h.val by have := t.isLt; omega)
  rw [pay, num_apply, e]
  refine (sum_block i c r (fun j => weight (row x0 r) (row x1 j) h * row x2 j (ft h t)) _ _ (fun k => ?_) (fun g => ?_)).trans ?_
  · exact congrArg₂ (fun a b : EReal => a * b) (wt_cols _ _ h x0 x1 r k) rfl
  · refine congrArg₂ (fun a b : EReal => a * b) ((wt_cols _ _ h x0 x1 r g).trans (congrArg (fun z => weight (row x0 r) (row x1 z) h) (Fin.ext (Nat.zero_add _))))
      (congrArg (fun z => row x2 z (ft h t)) (Fin.ext (Nat.zero_add _)))
  · show _ = rnum _ _ (row x0 r) x1 x2 (ft h t)
    unfold rnum
    rw [ht]
    rfl

/-- The window's first row as the loads take it. -/
abbrev start (i : grid0.Coords) (c : Dev nD) : Nat :=
  BitVec.toNat (Scalar.indexCast (Scalar.minsi 1536#32 (Scalar.maxsi 0#32 (Scalar.subi (Scalar.subi (Scalar.muli (BitVec.ofNat 32 (i 0).val) 256#32) 128#32) (Scalar.muli (Scalar.remsi (Scalar.divsi (Dev.word c) 1#32) 4#32) 2048#32)))))

theorem start_word (i : grid0.Coords) (c : Dev nD) : start i c = k0_off1 i c 0 := by
  unfold k0_off1
  rfl

theorem out3_eq (c : Dev nD) (i : grid0.Coords) (a1 : Memref sig .tc .vmem S256x1024 .bf16) (h1 : a1.IsWhole) (a2 : Memref sig .tc .vmem S2048x1024 .bf16) (h2 : a2.IsWhole)
    (a3 : Memref sig .tc .vmem S2048x1024 .bf16) (h3 : a3.IsWhole) (a4 : Memref sig .tc .vmem S256x1024 .bf16) (h4 : a4.IsWhole) (a5 : Memref sig .tc .vmem S256x8 .f32) (h5 : a5.IsWhole)
    (x0 : FVec Ideal S256x1024 .bf16) (x1 x2 : FVec Ideal S2048x1024 .bf16) (y : S256x1024.Idx) :
    out0_A_3 (F := Ideal) c i a1 h1 a2 h2 a3 h3 a4 h4 a5 h5 x0 x1 x2 y = bnum i c x0 x1 x2 y := by
  unfold out0_A_3
  rw [View.read_writes_eq_canon _ _ _ (cover0_A_3 (F := Ideal) c i a1 h1 a2 h2 a3 h3 a4 h4 a5 h5 x0 x1 x2)]
  unfold kernelRun0_A
  dsimp only
  sl_unfold_words
  simp only [View.readAt_eq_ld, h1.read_unread, h2.read_unread, h3.read_unread]
  refine View.canon_apply_of_pieces (Val := Elt Ideal) (e := .bf16) (bnum i c x0 x1 x2) _ ?_ y ?_
  · intro p hp x
    simp only [List.mem_cons, List.not_mem_nil, or_false] at hp
    rcases hp with rfl | rfl | rfl | rfl | rfl | rfl | rfl | rfl
    · exact piece i c x0 x1 x2 7 _ _ _ _ _ rfl rfl (start_word i c) rfl x
    · exact (congrFun (head6 _ _ _ _ _ _ _) x).trans (piece i c x0 x1 x2 6 _ _ _ _ _ rfl rfl (start_word i c) rfl x)
    · exact (congrFun (head5 _ _ _ _ _ _ _) x).trans (piece i c x0 x1 x2 5 _ _ _ _ _ rfl rfl (start_word i c) rfl x)
    · exact (congrFun (head4 _ _ _ _ _ _ _) x).trans (piece i c x0 x1 x2 4 _ _ _ _ _ rfl rfl (start_word i c) rfl x)
    · exact (congrFun (head3 _ _ _ _ _ _ _) x).trans (piece i c x0 x1 x2 3 _ _ _ _ _ rfl rfl (start_word i c) rfl x)
    · exact (congrFun (head2 _ _ _ _ _ _ _) x).trans (piece i c x0 x1 x2 2 _ _ _ _ _ rfl rfl (start_word i c) rfl x)
    · exact (congrFun (head1 _ _ _ _ _ _ _) x).trans (piece i c x0 x1 x2 1 _ _ _ _ _ rfl rfl (start_word i c) rfl x)
    · exact (congrFun (head0 _ _ _ _ _ _ _) x).trans (piece i c x0 x1 x2 0 _ _ _ _ _ rfl rfl (start_word i c) rfl x)
  · refine View.cover_of_tiledL (s := S256x1024) _ ![256, 128] ?_ y
    rfl

theorem den_block (mw : IVec S256x512 1) (mg : IVec S256x128 1) (q : Fin 8 → FVec Ideal S256x128 .bf16) (kw : Fin 8 → FVec Ideal S512x128 .bf16) (kg : Fin 8 → FVec Ideal S128x128 .bf16)
    (r : Fin 256) (h : Fin 8) :
    k0_pay3 (F := Ideal) mg (k0_pay12 mw mg (k0_pay6 (q 0)) (k0_pay7 (kw 0)) (kg 0)) (k0_pay20 mw mg (k0_pay13 (q 1)) (k0_pay14 (kw 1)) (k0_pay16 (kg 1)))
      (k0_pay28 mw mg (k0_pay21 (q 2)) (k0_pay22 (kw 2)) (k0_pay24 (kg 2))) (k0_pay37 mw mg (k0_pay29 (q 3)) (k0_pay31 (kg 3)) (k0_pay33 (q 3) (kw 3)))
      (k0_pay46 mw mg (k0_pay38 (q 4)) (k0_pay40 (kg 4)) (k0_pay42 (q 4) (kw 4))) (k0_pay56 mw mg (k0_pay47 (q 5)) (k0_pay49 (kg 5)) (k0_pay51 (q 5) (kw 5)) k0_pay52)
      (k0_pay64 mg (k0_pay60 mw (q 6) (kw 6)) (k0_pay61 (q 6) (kg 6))) (k0_pay68 mw (q 7) (kw 7)) (k0_pay69 (q 7) (kg 7)) (ix2 r h)
      = (∑ k : Fin 512, if mw (ix2 r k) = 1#1 then wt (q h) (kw h) r k else 0) + ∑ g : Fin 128, if mg (ix2 r g) = 1#1 then wt (q h) (kg h) r g else 0 := by
  fin_cases h
  · pointwise [k0_pay3]; exact den_apply mw mg (q 0) (kw 0) (kg 0) r
  · pointwise [k0_pay3]; exact (congrFun (sums1 mw mg (q 1) (kw 1) (kg 1)) _).trans (den_apply mw mg (q 1) (kw 1) (kg 1) r)
  · pointwise [k0_pay3]; exact (congrFun (sums2 mw mg (q 2) (kw 2) (kg 2)) _).trans (den_apply mw mg (q 2) (kw 2) (kg 2) r)
  · pointwise [k0_pay3]; exact (congrFun (sums3 mw mg (q 3) (kw 3) (kg 3)) _).trans (den_apply mw mg (q 3) (kw 3) (kg 3) r)
  · pointwise [k0_pay3]; exact (congrFun (sums4 mw mg (q 4) (kw 4) (kg 4)) _).trans (den_apply mw mg (q 4) (kw 4) (kg 4) r)
  · pointwise [k0_pay3]; exact (congrFun (sums5 mw mg (q 5) (kw 5) (kg 5)) _).trans (den_apply mw mg (q 5) (kw 5) (kg 5) r)
  · pointwise [k0_pay3]; exact (congrFun (sums6 mw mg (q 6) (kw 6) (kg 6)) _).trans (den_apply mw mg (q 6) (kw 6) (kg 6) r)
  · pointwise [k0_pay3, k0_pay68, k0_pay69, k0_pay65, k0_pay1]; rfl

/-- The block's denominators. -/
def bden (i : grid0.Coords) (c : Dev nD) (x0 : FVec Ideal S256x1024 .bf16) (x1 : FVec Ideal S2048x1024 .bf16) : FVec Ideal S256x8 .f32 := fun y =>
  rden ((i 0).val * 256 + (y 0).val) (c.val * 2048) (row x0 (y 0)) x1 (y 1)

theorem inb_head {n n' : Nat} (s : Nat) (hs : s + n' ≤ n) (h : Fin 8) :
    ∀ a, (![s, h.val * 128] : Fin 2 → Nat) a + (![n', 128] : Fin 2 → Nat) a ≤ (⟨2, ![n, 1024]⟩ : Shape).size a := fun a => by
  have := h.isLt
  match a with
  | ⟨0, _⟩ => exact hs
  | ⟨1, _⟩ => show h.val * 128 + 128 ≤ 1024; omega

/-- The load of head `h`'s columns of the rows from `s` on. -/
abbrev hld {n n' : Nat} (s : Nat) (hs : s + n' ≤ n) (a : FVec Ideal ⟨2, ![n, 1024]⟩ .bf16) (h : Fin 8) : FVec Ideal ⟨2, ![n', 128]⟩ .bf16 :=
  View.ld (Val := Elt Ideal) (e' := .bf16) a (Rect.unit (s := ⟨2, ![n, 1024]⟩) ![s, h.val * 128] ![n', 128] (inb_head s hs h))

theorem start_inb (i : grid0.Coords) (c : Dev nD) : start i c + 512 ≤ 2048 := by rw [start_word]; exact start_le i c

theorem rows (i : grid0.Coords) (c : Dev nD) (x0 : FVec Ideal S256x1024 .bf16) (x1 : FVec Ideal S2048x1024 .bf16) (r : Fin 256) (h : Fin 8) :
    (∑ k : Fin 512, if k0_pay4 i c (ix2 r k) = 1#1 then wt (hld 0 (Nat.le_refl 256) x0 h) (hld (start i c) (start_inb i c) x1 h) r k else 0)
      + (∑ g : Fin 128, if k0_pay5 c (ix2 r g) = 1#1 then wt (hld 0 (Nat.le_refl 256) x0 h) (hld (n' := 128) 0 (by decide) x1 h) r g else 0)
      = bden i c x0 x1 (ix2 r h) := by
  have q : hld 0 (Nat.le_refl 256) x0 h = cols 0 (Nat.le_refl 256) h x0 := ld_cols (n := 256) (n' := 256) 0 (Nat.le_refl 256) h x0 _ _ rfl rfl
  have w : hld (start i c) (start_inb i c) x1 h = cols _ (start_le i c) h x1 := ld_cols _ (start_le i c) h x1 _ _ (start_word i c) rfl
  have g : hld (n' := 128) 0 (by decide) x1 h = cols 0 (by decide) h x1 := ld_cols 0 (by decide) h x1 _ _ rfl rfl
  rw [q, w, g]
  exact sum_block i c r (fun j => weight (row x0 r) (row x1 j) h) _ _ (fun k => wt_cols _ _ h x0 x1 r k)
    (fun g => (wt_cols _ _ h x0 x1 r g).trans (congrArg (fun z => weight (row x0 r) (row x1 z) h) (Fin.ext (Nat.zero_add _))))

theorem out4_eq (c : Dev nD) (i : grid0.Coords) (a1 : Memref sig .tc .vmem S256x1024 .bf16) (h1 : a1.IsWhole) (a2 : Memref sig .tc .vmem S2048x1024 .bf16) (h2 : a2.IsWhole)
    (a3 : Memref sig .tc .vmem S2048x1024 .bf16) (h3 : a3.IsWhole) (a4 : Memref sig .tc .vmem S256x1024 .bf16) (h4 : a4.IsWhole) (a5 : Memref sig .tc .vmem S256x8 .f32) (h5 : a5.IsWhole)
    (x0 : FVec Ideal S256x1024 .bf16) (x1 x2 : FVec Ideal S2048x1024 .bf16) (y : S256x8.Idx) :
    out0_A_4 (F := Ideal) c i a1 h1 a2 h2 a3 h3 a4 h4 a5 h5 x0 x1 x2 y = bden i c x0 x1 y := by
  obtain ⟨r, h, rfl⟩ : ∃ (r : Fin 256) (h : Fin 8), y = ix2 r h := ⟨y 0, y 1, funext fun a => by match a with | ⟨0, _⟩ => rfl | ⟨1, _⟩ => rfl⟩
  unfold out0_A_4
  rw [View.read_writes_eq_canon _ _ _ (cover0_A_4 (F := Ideal) c i a1 h1 a2 h2 a3 h3 a4 h4 a5 h5 x0 x1 x2)]
  unfold kernelRun0_A
  dsimp only
  sl_unfold_words
  simp only [View.readAt_eq_ld, h1.read_unread, h2.read_unread]
  rw [View.canon_unit_zero (funext fun a => by match a with | ⟨0, _⟩ => rfl | ⟨1, _⟩ => rfl)]
  exact (den_block (k0_pay4 i c) (k0_pay5 c) (hld 0 (Nat.le_refl 256) x0) (hld (start i c) (start_inb i c) x1) (hld (n' := 128) 0 (by decide) x1) r h).trans (rows i c x0 x1 r h)

end Cert.LocalIdeal.Call

end
-- ==== Proof.Calls.LocalArray.lean ====
/-
The local call's arrays after the run.
-/
module

public import proofs.«01_k».proof.Proof.Calls.LocalBlock

@[expose] public section

set_option maxRecDepth 16384

noncomputable section

namespace Cert.LocalIdeal.Call

open Cert.LocalIdeal Cert.LocalIdeal.Gen Cert.LocalIdeal.Value Cert.Window Idealize.ShloMosaic Idealize.ShloMosaic.TcCoe

variable (m : (ℓ : Loc nD τ sig) → Buf (Elt Ideal) ℓ)

theorem index_rows : ∀ t : Fin cfg0.N, win0_0.index t (0 : Fin 2) = (grid0.coords t 0).val ∧ win0_0.index t (1 : Fin 2) = 0
    ∧ win0_3.index t (0 : Fin 2) = (grid0.coords t 0).val ∧ win0_3.index t (1 : Fin 2) = 0
    ∧ win0_4.index t (0 : Fin 2) = (grid0.coords t 0).val ∧ win0_4.index t (1 : Fin 2) = 0 :=
  (by decide +kernel : ∀ t : Fin grid0.N, _)

theorem index_whole : ∀ t : Fin cfg0.N, win0_1.index t (0 : Fin 2) = 0 ∧ win0_1.index t (1 : Fin 2) = 0 ∧ win0_2.index t (0 : Fin 2) = 0 ∧ win0_2.index t (1 : Fin 2) = 0 :=
  (by decide +kernel : ∀ t : Fin grid0.N, _)

theorem flush3 : ∀ t : Fin cfg0.N, (cfg0.win 3).flush t = true := (by decide +kernel : ∀ t : Fin grid0.N, win0_3.flush t = true)
theorem flush4 : ∀ t : Fin cfg0.N, (cfg0.win 4).flush t = true := (by decide +kernel : ∀ t : Fin grid0.N, win0_4.flush t = true)

/-- The point whose block has row `x`. -/
theorem point_of : ∀ n : Fin 8, ∃ t : Fin cfg0.N, (grid0.coords t 0).val = n.val :=
  (by decide +kernel : ∀ n : Fin 8, ∃ t : Fin grid0.N, (grid0.coords t 0).val = n.val)

theorem emb3 (t : Fin cfg0.N) (r : Fin 256) (k : Fin 1024) :
    ((cfg0.win 3).blk t).view.emb (ix2 r k) = ix2 (⟨(grid0.coords t 0).val * 256 + r.val, by have := rows_lt (grid0.coords t); have := r.isLt; omega⟩ : Fin 2048) k := by
  obtain ⟨-, -, e0, e1, -⟩ := index_rows t
  funext a; apply Fin.ext
  match a with
  | ⟨0, _⟩ => show win0_3.index t (0 : Fin 2) * 256 + 1 * r.val = (grid0.coords t 0).val * 256 + r.val; omega
  | ⟨1, _⟩ => show win0_3.index t (1 : Fin 2) * 1024 + 1 * k.val = k.val; omega

theorem emb4 (t : Fin cfg0.N) (r : Fin 256) (k : Fin 8) :
    ((cfg0.win 4).blk t).view.emb (ix2 r k) = ix2 (⟨(grid0.coords t 0).val * 256 + r.val, by have := rows_lt (grid0.coords t); have := r.isLt; omega⟩ : Fin 2048) k := by
  obtain ⟨-, -, -, -, e0, e1⟩ := index_rows t
  funext a; apply Fin.ext
  match a with
  | ⟨0, _⟩ => show win0_4.index t (0 : Fin 2) * 256 + 1 * r.val = (grid0.coords t 0).val * 256 + r.val; omega
  | ⟨1, _⟩ => show win0_4.index t (1 : Fin 2) * 8 + 1 * k.val = k.val; omega

theorem iblk0_row (c : Dev nD) (t : Fin cfg0.N) (r : Fin 256) :
    row (n := 256) (e := .bf16) (iblk m c 0 t) r = row (n := 2048) (e := .bf16) (m ((c : Thread nD τ).loc main_arg0)) ⟨(grid0.coords t 0).val * 256 + r.val, by have := rows_lt (grid0.coords t); have := r.isLt; omega⟩ := by
  obtain ⟨e0, e1, -⟩ := index_rows t
  funext k
  show m ((c : Thread nD τ).loc main_arg0) (((cfg0.win 0).blk t).view.emb (ix2 r k)) = _
  refine congrArg _ (funext fun a => Fin.ext ?_)
  match a with
  | ⟨0, _⟩ => show win0_0.index t (0 : Fin 2) * 256 + 1 * r.val = (grid0.coords t 0).val * 256 + r.val; omega
  | ⟨1, _⟩ => show win0_0.index t (1 : Fin 2) * 1024 + 1 * k.val = k.val; omega

theorem iblk1_eq (c : Dev nD) (t : Fin cfg0.N) : iblk m c 1 t = m ((c : Thread nD τ).loc main_arg1) := by
  obtain ⟨e0, e1, -⟩ := index_whole t
  funext j
  show m ((c : Thread nD τ).loc main_arg1) (((cfg0.win 1).blk t).view.emb j) = m ((c : Thread nD τ).loc main_arg1) j
  refine congrArg _ (funext fun a => Fin.ext ?_)
  match a with
  | ⟨0, _⟩ => show win0_1.index t (0 : Fin 2) * 2048 + 1 * (j 0).val = (j 0).val; omega
  | ⟨1, _⟩ => show win0_1.index t (1 : Fin 2) * 1024 + 1 * (j 1).val = (j 1).val; omega

theorem iblk2_eq (c : Dev nD) (t : Fin cfg0.N) : iblk m c 2 t = m ((c : Thread nD τ).loc main_arg2) := by
  obtain ⟨-, -, e0, e1⟩ := index_whole t
  funext j
  show m ((c : Thread nD τ).loc main_arg2) (((cfg0.win 2).blk t).view.emb j) = m ((c : Thread nD τ).loc main_arg2) j
  refine congrArg _ (funext fun a => Fin.ext ?_)
  match a with
  | ⟨0, _⟩ => show win0_2.index t (0 : Fin 2) * 2048 + 1 * (j 0).val = (j 0).val; omega
  | ⟨1, _⟩ => show win0_2.index t (1 : Fin 2) * 1024 + 1 * (j 1).val = (j 1).val; omega

theorem final3 (c : Dev nD) : (dats m 0 c).arrAt 3 cfg0.N
    = num c.val (m ((c : Thread nD τ).loc main_arg0)) (m ((c : Thread nD τ).loc main_arg1)) (m ((c : Thread nD τ).loc main_arg2)) := by
  refine (dats m 0 c).arrAt_eq_of_cover 3 _ (fun t _ => ?_) (fun i => ?_)
  · rw [flushed3_A]
    funext j
    obtain ⟨r, k, rfl⟩ : ∃ (r : Fin 256) (k : Fin 1024), j = ix2 r k := ⟨j 0, j 1, funext fun a => by match a with | ⟨0, _⟩ => rfl | ⟨1, _⟩ => rfl⟩
    refine (out3_eq _ _ _ _ _ _ _ _ _ _ _ _ _ _ _ (ix2 r k)).trans ?_
    show rnum ((grid0.coords t 0).val * 256 + r.val) (c.val * 2048) (row (n := 256) (e := .bf16) (iblk m c 0 t) r) (iblk m c 1 t) (iblk m c 2 t) k
      = num c.val _ _ _ (((cfg0.win 3).blk t).view.emb (ix2 r k))
    rw [emb3, iblk0_row, iblk1_eq, iblk2_eq]
    rfl
  · obtain ⟨x, k, rfl⟩ : ∃ (x : Fin 2048) (k : Fin 1024), i = ix2 x k := ⟨i 0, i 1, funext fun a => by match a with | ⟨0, _⟩ => rfl | ⟨1, _⟩ => rfl⟩
    obtain ⟨t, ht⟩ := point_of ⟨x.val / 256, by have := x.isLt; omega⟩
    have ht : (grid0.coords t 0).val = x.val / 256 := ht
    refine ⟨t, flush3 t, ?_⟩
    have h := ((cfg0.win 3).blk t).view.emb_mem_set (ix2 (⟨x.val % 256, by omega⟩ : Fin 256) k)
    rw [emb3] at h
    rwa [show (⟨(grid0.coords t 0).val * 256 + x.val % 256, by have := x.isLt; omega⟩ : Fin 2048) = x from Fin.ext (by show (grid0.coords t 0).val * 256 + x.val % 256 = x.val; omega)] at h

theorem final4 (c : Dev nD) : (dats m 0 c).arrAt 4 cfg0.N
    = den c.val (m ((c : Thread nD τ).loc main_arg0)) (m ((c : Thread nD τ).loc main_arg1)) := by
  refine (dats m 0 c).arrAt_eq_of_cover 4 _ (fun t _ => ?_) (fun i => ?_)
  · rw [flushed4_A]
    funext j
    obtain ⟨r, k, rfl⟩ : ∃ (r : Fin 256) (k : Fin 8), j = ix2 r k := ⟨j 0, j 1, funext fun a => by match a with | ⟨0, _⟩ => rfl | ⟨1, _⟩ => rfl⟩
    refine (out4_eq _ _ _ _ _ _ _ _ _ _ _ _ _ _ _ (ix2 r k)).trans ?_
    show rden ((grid0.coords t 0).val * 256 + r.val) (c.val * 2048) (row (n := 256) (e := .bf16) (iblk m c 0 t) r) (iblk m c 1 t) k
      = den c.val _ _ (((cfg0.win 4).blk t).view.emb (ix2 r k))
    rw [emb4, iblk0_row, iblk1_eq]
    rfl
  · obtain ⟨x, k, rfl⟩ : ∃ (x : Fin 2048) (k : Fin 8), i = ix2 x k := ⟨i 0, i 1, funext fun a => by match a with | ⟨0, _⟩ => rfl | ⟨1, _⟩ => rfl⟩
    obtain ⟨t, ht⟩ := point_of ⟨x.val / 256, by have := x.isLt; omega⟩
    have ht : (grid0.coords t 0).val = x.val / 256 := ht
    refine ⟨t, flush4 t, ?_⟩
    have h := ((cfg0.win 4).blk t).view.emb_mem_set (ix2 (⟨x.val % 256, by omega⟩ : Fin 256) k)
    rw [emb4] at h
    rwa [show (⟨(grid0.coords t 0).val * 256 + x.val % 256, by have := x.isLt; omega⟩ : Fin 2048) = x from Fin.ext (by show (grid0.coords t 0).val * 256 + x.val % 256 = x.val; omega)] at h

end Cert.LocalIdeal.Call

end
-- ==== Proof.Calls.LocalReference.lean ====
/-
The local call's reference at a row and a column.
-/
module

public import proofs.«01_k».proof.Proof.Gen.LocalReferenceIdeal.Run
public import proofs.«01_k».proof.Proof.Calls.Window
public import proofs.«01_k».proof.Proof.Value.Result

@[expose] public section

set_option maxRecDepth 16384

noncomputable section

namespace Cert.LocalReferenceIdeal.Call

open Cert.LocalReferenceIdeal Cert.LocalReferenceIdeal.Gen Cert.Window Idealize.ShloMosaic

/-- Which keys a query meets. -/
def mask : IVec S4x2048x2048 1 :=
  ori (cmpi .sle (absi (subi (broadcastInDim S4x2048x2048 ![0, 1, 2] bcast_S1x2048x1_S4x2048x2048_0_1_2 (broadcastInDim S1x2048x1 ![1] bcast_S2048_S1x2048x1_1 (iotaInDim S2048 32 0))) (broadcastInDim S4x2048x2048 ![0, 1, 2] bcast_S4x1x2048_S4x2048x2048_0_1_2 (shapeCast _ (iotaInDim S8192 32 0) shapeCasts_S8192_S4x1x2048)))) (broadcastInDim S4x2048x2048 ![] bcast_S_S4x2048x2048 (constantI S_ 32 128#32))) (broadcastInDim S4x2048x2048 ![0, 1, 2] bcast_S4x1x2048_S4x2048x2048_0_1_2 (cmpi .slt (shapeCast _ (iotaInDim S8192 32 0) shapeCasts_S8192_S4x1x2048) (broadcastInDim S4x1x2048 ![] bcast_S_S4x1x2048 (constantI S_ 32 32#32))))

/-- The weights. -/
def expo (q : FVec Ideal S2048x1024 .bf16) (k : FVec Ideal S8192x1024 .bf16) : FVec Ideal S4x8x2048x2048 .f32 :=
  Host.exp (mulf (transpose S4x8x2048x2048 [1, 0, 3, 2] (Host.dotGeneral dot_S4x2048x8x128_S2048x8x128_S8x4x2048x2048_3_2_01_0_2_1 none (shapeCast _ (extf .f32 k bitsLt_bf16_f32) shapeCasts_S8192x1024_S4x2048x8x128) (shapeCast _ (extf .f32 q bitsLt_bf16_f32) shapeCasts_S2048x1024_S2048x8x128)) transposes_S8x4x2048x2048_S4x8x2048x2048_1_0_3_2) (broadcastInDim S4x8x2048x2048 ![] bcast_S_S4x8x2048x2048 (constant S_ .f32 0x3DB504F3#32)))

/-- The weights of the keys met. -/
def met (q : FVec Ideal S2048x1024 .bf16) (k : FVec Ideal S8192x1024 .bf16) : FVec Ideal S4x8x2048x2048 .f32 :=
  select (broadcastInDim S4x8x2048x2048 ![0, 1, 2, 3] bcast_S4x1x2048x2048_S4x8x2048x2048_0_1_2_3 (broadcastInDim S4x1x2048x2048 ![0, 2, 3] bcast_S4x2048x2048_S4x1x2048x2048_0_2_3 mask))
    (expo q k) (broadcastInDim S4x8x2048x2048 ![] bcast_S_S4x8x2048x2048 (id (constant S_ .f32 0x00000000#32)))

theorem mask_apply (c : Fin 4) (i j : Fin 2048) : mask (ix3 c i j) = 1#1 ↔ meets i.val (c.val * 2048 + j.val) := by
  have := c.isLt
  have := i.isLt
  have := j.isLt
  unfold meets
  rw [← near_word _ _ (by omega) (by omega), ← first_word _ (by omega), ← or_one]
  pointwise [mask]

/-- Row `j` of shard `c`. -/
abbrev at_ (c : Fin 4) (j : Fin 2048) : Fin 8192 := ⟨c.val * 2048 + j.val, by have := c.isLt; have := j.isLt; omega⟩

theorem expo_apply (q : FVec Ideal S2048x1024 .bf16) (k : FVec Ideal S8192x1024 .bf16) (c : Fin 4) (h : Fin 8) (i j : Fin 2048) :
    expo q k (ix4 c h i j) = weight (row q i) (row k (at_ c j)) h := by
  pointwise [expo]
  exact congrArg (fun a => Ideal.exp (a * Ideal.ofBits .f32 0x3DB504F3#32)) (Finset.sum_congr rfl fun d _ => mul_comm _ _)

theorem met_apply (q : FVec Ideal S2048x1024 .bf16) (k : FVec Ideal S8192x1024 .bf16) (c : Fin 4) (h : Fin 8) (i j : Fin 2048) :
    met q k (ix4 c h i j) = if meets i.val (c.val * 2048 + j.val) then weight (row q i) (row k (at_ c j)) h else 0 := by
  rw [← expo_apply]
  refine Eq.trans ?_ (if_congr (mask_apply c i j) rfl rfl)
  pointwise [met]
  refine congrArg (fun z : EReal => if mask (ix3 c i j) = 1#1 then expo q k (ix4 c h i j) else z) ?_
  show constant (F := Ideal) S_ .f32 0x00000000#32 ix0 = 0
  pointwise []

theorem shard_eq (c : Fin 4) (i : Fin 2048) (h) : (⟨(c.val * 2048 + i.val) / 2048, h⟩ : Fin 4) = c :=
  Fin.ext (by show (c.val * 2048 + i.val) / 2048 = c.val; have := i.isLt; omega)

theorem row_eq (c : Fin 4) (i : Fin 2048) (h) : (⟨(c.val * 2048 + i.val) % 2048, h⟩ : Fin 2048) = i :=
  Fin.ext (by show (c.val * 2048 + i.val) % 2048 = i.val; have := i.isLt; omega)

/-- The numerators, shard upon shard. -/
def nums (q : FVec Ideal S2048x1024 .bf16) (k v : FVec Ideal S8192x1024 .bf16) : FVec Ideal S8192x1024 .bf16 :=
  truncf .bf16 (shapeCast S8192x1024 (transpose S4x2048x8x128 [0, 3, 1, 2] (Host.dotGeneral dot_S4x2048x8x128_S4x8x2048x2048_S4x8x128x2048_1_3_3_2_02_01 none (shapeCast _ (extf .f32 v bitsLt_bf16_f32) shapeCasts_S8192x1024_S4x2048x8x128) (met q k)) transposes_S4x8x128x2048_S4x2048x8x128_0_3_1_2) shapeCasts_S4x2048x8x128_S8192x1024) bitsLt_bf16_f32

/-- The denominators. -/
def dens (q : FVec Ideal S2048x1024 .bf16) (k : FVec Ideal S8192x1024 .bf16) : FVec Ideal S8192x8 .f32 :=
  shapeCast S8192x8 (transpose S4x2048x8 [0, 2, 1] (Host.reduceAdd (met q k) (constant S_ .f32 0x00000000#32) reducesTo_S4x8x2048x2048_S4x8x2048_d3 h_S_) transposes_S4x8x2048_S4x2048x8_0_2_1) shapeCasts_S4x2048x8_S8192x8

theorem num_apply (q : FVec Ideal S2048x1024 .bf16) (k v : FVec Ideal S8192x1024 .bf16) (c : Fin 4) (i : Fin 2048) (t : Fin 1024) :
    nums q k v (ix2 (at_ c i) t)
      = ∑ j : Fin 2048, if meets i.val (c.val * 2048 + j.val) then weight (row q i) (row k (at_ c j)) (hd t) * row v (at_ c j) t else 0 := by
  pointwise [nums]
  refine Finset.sum_congr rfl fun j _ => ?_
  have hv : (⟨(c.val * 2048 + i.val) / 2048 * 2048 + j.val, by have := c.isLt; have := i.isLt; have := j.isLt; omega⟩ : Fin 8192) = at_ c j :=
    Fin.ext (by show (c.val * 2048 + i.val) / 2048 * 2048 + j.val = c.val * 2048 + j.val; have := i.isLt; omega)
  rw [hv, shard_eq, row_eq, met_apply]
  split_ifs with h
  · exact mul_comm _ _
  · exact mul_zero _

theorem den_apply (q : FVec Ideal S2048x1024 .bf16) (k : FVec Ideal S8192x1024 .bf16) (c : Fin 4) (i : Fin 2048) (h : Fin 8) :
    dens q k (ix2 (at_ c i) h)
      = ∑ j : Fin 2048, if meets i.val (c.val * 2048 + j.val) then weight (row q i) (row k (at_ c j)) h else 0 := by
  pointwise [dens]
  refine Finset.sum_congr rfl fun j _ => ?_
  rw [shard_eq, row_eq, met_apply]

theorem row_block (k : FVec Ideal S8192x1024 .bf16) (c : Fin 4) (j : Fin 2048) :
    row (n := 2048) (e := .bf16) (Layout.block ⟨2, ![2048, 1024]⟩ ⟨2, ![8192, 1024]⟩ 0 4 c k) j = row k (at_ c j) :=
  funext fun d => Cert.KernelIdeal.Band.block_at c k _ j d (at_ c j).isLt

/-- Each shard's numerators are its block of all. -/
theorem num_block (q : FVec Ideal S2048x1024 .bf16) (k v : FVec Ideal S8192x1024 .bf16) (c : Fin 4) :
    num c.val q (Layout.block ⟨2, ![2048, 1024]⟩ ⟨2, ![8192, 1024]⟩ 0 4 c k) (Layout.block ⟨2, ![2048, 1024]⟩ ⟨2, ![8192, 1024]⟩ 0 4 c v)
      = Layout.block ⟨2, ![2048, 1024]⟩ ⟨2, ![8192, 1024]⟩ 0 4 c (nums q k v) := by
  funext y
  obtain ⟨i, t, rfl⟩ : ∃ (i : Fin 2048) (t : Fin 1024), y = ix2 i t := ⟨y 0, y 1, funext fun a => by match a with | ⟨0, _⟩ => rfl | ⟨1, _⟩ => rfl⟩
  refine Eq.trans ?_ ((num_apply q k v c i t).symm.trans (Cert.KernelIdeal.Band.block_at c (nums q k v) _ i t (at_ c i).isLt).symm)
  show rnum i.val (c.val * 2048) (row q i) _ _ t = _
  unfold rnum
  exact Finset.sum_congr rfl fun j _ => by rw [row_block, row_block]

/-- Each shard's denominators are its block of all. -/
theorem den_block (q : FVec Ideal S2048x1024 .bf16) (k : FVec Ideal S8192x1024 .bf16) (c : Fin 4) :
    den c.val q (Layout.block ⟨2, ![2048, 1024]⟩ ⟨2, ![8192, 1024]⟩ 0 4 c k) = Layout.block ⟨2, ![2048, 8]⟩ ⟨2, ![8192, 8]⟩ 0 4 c (dens q k) := by
  funext y
  obtain ⟨i, h, rfl⟩ : ∃ (i : Fin 2048) (h : Fin 8), y = ix2 i h := ⟨y 0, y 1, funext fun a => by match a with | ⟨0, _⟩ => rfl | ⟨1, _⟩ => rfl⟩
  refine Eq.trans ?_ ((den_apply q k c i h).symm.trans (Cert.KernelIdeal.Band.block_at c (dens q k) _ i h (at_ c i).isLt).symm)
  show rden i.val (c.val * 2048) (row q i) _ h = _
  unfold rden
  exact Finset.sum_congr rfl fun j _ => by rw [row_block]

end Cert.LocalReferenceIdeal.Call

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryIdeal.Value
public import proofs.«01_k».proof.Proof.Gen.Global
public import proofs.«01_k».proof.Proof.Gen.Global.Skeleton
public import proofs.«01_k».proof.Proof.Gen.Global.Launch
public import proofs.«01_k».proof.Proof.Gen.Global.Points
public import proofs.«01_k».proof.Proof.Gen.Global.Frame
public import proofs.«01_k».proof.Proof.Gen.GlobalIdeal
public import proofs.«01_k».proof.Proof.Gen.GlobalIdeal.Skeleton
public import proofs.«01_k».proof.Proof.Gen.GlobalIdeal.Launch
public import proofs.«01_k».proof.Proof.Gen.GlobalIdeal.Points
public import proofs.«01_k».proof.Proof.Gen.GlobalIdeal.Frame
public import proofs.«01_k».proof.Proof.Gen.GlobalIdeal.Value
public import proofs.«01_k».proof.Proof.Gen.Local
public import proofs.«01_k».proof.Proof.Gen.Local.Skeleton
public import proofs.«01_k».proof.Proof.Gen.Local.Launch
public import proofs.«01_k».proof.Proof.Gen.Local.Points
public import proofs.«01_k».proof.Proof.Gen.Local.Frame
public import proofs.«01_k».proof.Proof.Gen.LocalIdeal
public import proofs.«01_k».proof.Proof.Gen.LocalIdeal.Skeleton
public import proofs.«01_k».proof.Proof.Gen.LocalIdeal.Launch
public import proofs.«01_k».proof.Proof.Gen.LocalIdeal.Points
public import proofs.«01_k».proof.Proof.Gen.LocalIdeal.Frame
public import proofs.«01_k».proof.Proof.Gen.LocalIdeal.Value
public import proofs.«01_k».proof.Proof.Gen.QueryReferenceIdeal
public import proofs.«01_k».proof.Proof.Gen.QueryReferenceIdeal.Run
public import proofs.«01_k».proof.Proof.Gen.GlobalReferenceIdeal
public import proofs.«01_k».proof.Proof.Gen.GlobalReferenceIdeal.Run
public import proofs.«01_k».proof.Proof.Gen.LocalReferenceIdeal
public import proofs.«01_k».proof.Proof.Gen.LocalReferenceIdeal.Run
public import proofs.«01_k».proof.Proof.Ideal.Launch
public import proofs.«01_k».proof.Proof.Bits.Launch
public import proofs.«01_k».proof.Proof.Value.Result
public import proofs.«01_k».proof.Proof.Calls.Query
public import proofs.«01_k».proof.Proof.Calls.Global
public import proofs.«01_k».proof.Proof.Calls.LocalArray
public import proofs.«01_k».proof.Proof.Calls.LocalReference
public import Idealize.ShloMosaic.Adequacy
public import Idealize.ShloMosaic.Init

@[expose] public section

noncomputable section

namespace Cert.Proof

open Idealize.ShloMosaic Idealize.SL.Sem

/-- The run of the program, its values dropped. -/
theorem frame_kernel : Cert.quiescent_Kernel := by
  intro m ρ _
  exact (θ_run Cert.Kernel.defs _ _).mono (fun _ h => ⟨fun c =>
      ⟨(h.1 c (0 : Fin 6)).trans (Cert.Kernel.Exchange.finalA_in m ρ c _ (by decide)), (h.1 c (1 : Fin 6)).trans (Cert.Kernel.Exchange.finalA_in m ρ c _ (by decide)),
       (h.1 c (2 : Fin 6)).trans (Cert.Kernel.Exchange.finalA_in m ρ c _ (by decide)), (h.1 c (3 : Fin 6)).trans (Cert.Kernel.Exchange.finalA_in m ρ c _ (by decide)),
       (h.1 c (4 : Fin 6)).trans (Cert.Kernel.Exchange.finalA_in m ρ c _ (by decide))⟩, h.2⟩)
    (Cert.Kernel.Exchange.run_main (F := Bits) m ρ)

/-- The same at the ideal instance. -/
theorem frame_kernelIdeal : Cert.quiescent_KernelIdeal := by
  intro m ρ _
  exact (θ_run Cert.KernelIdeal.defs _ _).mono (fun _ h => ⟨fun c =>
      ⟨(h.1 c (0 : Fin 6)).trans (Cert.KernelIdeal.Exchange.finalA_in m ρ c _ (by decide)), (h.1 c (1 : Fin 6)).trans (Cert.KernelIdeal.Exchange.finalA_in m ρ c _ (by decide)),
       (h.1 c (2 : Fin 6)).trans (Cert.KernelIdeal.Exchange.finalA_in m ρ c _ (by decide)), (h.1 c (3 : Fin 6)).trans (Cert.KernelIdeal.Exchange.finalA_in m ρ c _ (by decide)),
       (h.1 c (4 : Fin 6)).trans (Cert.KernelIdeal.Exchange.finalA_in m ρ c _ (by decide))⟩, h.2⟩)
    (Cert.KernelIdeal.Exchange.run_main (F := Ideal) m ρ)

/-- The reference's run, its values dropped. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Every device's result is the reference's. -/
theorem value : Cert.algebraic_KernelIdeal_ReferenceIdeal := by
  intro m ρ m' ρ' _ hm
  refine ⟨Cert.ReferenceIdeal.Value.proj
      (Cert.ReferenceIdeal.Value.num (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)))
      (Cert.ReferenceIdeal.Value.den (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3)))
      (m' (((0 : Dev Cert.ReferenceIdeal.nD).tc : Thread Cert.ReferenceIdeal.nD Cert.ReferenceIdeal.τ).loc Cert.ReferenceIdeal.main_arg4)), ?_, ?_⟩
  · exact (θ_run Cert.KernelIdeal.defs _ _).mono (fun _ h c =>
      ⟨((h.1 c (5 : Fin 6)).trans (Cert.KernelIdeal.Band.finalA_out m ρ c)).trans
          (Cert.KernelIdeal.Band.xout_eq m _ _ _ _ _ (fun c => (hm c).1) (fun c => (hm c).2.1) (fun c => (hm c).2.2.1) (fun c => (hm c).2.2.2.1) (fun c => (hm c).2.2.2.2) c),
       (h.1 c (0 : Fin 6)).trans (Cert.KernelIdeal.Exchange.finalA_in m ρ c _ (by decide)), (h.1 c (1 : Fin 6)).trans (Cert.KernelIdeal.Exchange.finalA_in m ρ c _ (by decide)),
       (h.1 c (2 : Fin 6)).trans (Cert.KernelIdeal.Exchange.finalA_in m ρ c _ (by decide)), (h.1 c (3 : Fin 6)).trans (Cert.KernelIdeal.Exchange.finalA_in m ρ c _ (by decide)),
       (h.1 c (4 : Fin 6)).trans (Cert.KernelIdeal.Exchange.finalA_in m ρ c _ (by decide))⟩)
      (Cert.KernelIdeal.Exchange.run_main (F := Ideal) m ρ)
  · exact (θ_run Cert.ReferenceIdeal.defs _ _).mono (fun _ h => h 0) (Cert.ReferenceIdeal.Value.run (F := Ideal) m' ρ')

/-- The query call. -/
theorem frame_queryReference : Cert.quiescent_QueryReferenceIdeal := fun m ρ _ =>
  (θ_run Cert.QueryReferenceIdeal.defs _ _).mono (fun r h => ⟨fun c => (h c).2, Idealize.ShloMosaic.sem_eq_zero_of_no_sems (by decide) r.2⟩)
    (Cert.QueryReferenceIdeal.Value.run (F := Ideal) m ρ)

theorem value_query : Cert.algebraic_QueryIdeal_QueryReferenceIdeal := by
  intro m ρ m' ρ' _ hm
  refine ⟨fun c => Cert.QueryIdeal.Call.prod (m ((c.tc : Thread Cert.QueryIdeal.nD Cert.QueryIdeal.τ).loc Cert.QueryIdeal.main_arg0))
    (m ((c.tc : Thread Cert.QueryIdeal.nD Cert.QueryIdeal.τ).loc Cert.QueryIdeal.main_arg1)), ?_, ?_⟩
  · exact (θ_run Cert.QueryIdeal.defs _ _).mono (fun _ h c => ⟨(h c).1.trans (Cert.QueryIdeal.Call.kernel_eq _ _), (h c).2⟩)
      (Cert.QueryIdeal.Value.run (F := Ideal) m ρ)
  · exact (θ_run Cert.QueryReferenceIdeal.defs _ _).mono (fun _ h c => ⟨((h c).1.trans (Cert.QueryReferenceIdeal.Call.reference_eq _ _)).trans
        (congrArg₂ Cert.QueryIdeal.Call.prod (hm c).1 (hm c).2), (h c).2⟩)
      (Cert.QueryReferenceIdeal.Value.run (F := Ideal) m' ρ')

/-- The call on the first rows. -/
theorem frame_globalReference : Cert.quiescent_GlobalReferenceIdeal := fun m ρ _ =>
  (θ_run Cert.GlobalReferenceIdeal.defs _ _).mono (fun r h => ⟨fun c => (h c).2.2, Idealize.ShloMosaic.sem_eq_zero_of_no_sems (by decide) r.2⟩)
    (Cert.GlobalReferenceIdeal.Value.run (F := Ideal) m ρ)

theorem value_global : Cert.algebraic_GlobalIdeal_GlobalReferenceIdeal := by
  intro m ρ m' ρ' _ hm
  refine ⟨fun c => Cert.GlobalIdeal.Call.num (m ((c.tc : Thread Cert.GlobalIdeal.nD Cert.GlobalIdeal.τ).loc Cert.GlobalIdeal.main_arg0))
      (m ((c.tc : Thread Cert.GlobalIdeal.nD Cert.GlobalIdeal.τ).loc Cert.GlobalIdeal.main_arg1))
      (m ((c.tc : Thread Cert.GlobalIdeal.nD Cert.GlobalIdeal.τ).loc Cert.GlobalIdeal.main_arg2)),
    fun c => Cert.GlobalIdeal.Call.den (m ((c.tc : Thread Cert.GlobalIdeal.nD Cert.GlobalIdeal.τ).loc Cert.GlobalIdeal.main_arg0))
      (m ((c.tc : Thread Cert.GlobalIdeal.nD Cert.GlobalIdeal.τ).loc Cert.GlobalIdeal.main_arg1)), ?_, ?_⟩
  · exact (θ_run Cert.GlobalIdeal.defs _ _).mono (fun _ h c => ⟨(h c).1.trans (Cert.GlobalIdeal.Call.num_eq _ _ _),
        (h c).2.1.trans (Cert.GlobalIdeal.Call.den_eq _ _ _), (h c).2.2⟩)
      (Cert.GlobalIdeal.Value.run (F := Ideal) m ρ)
  · refine (θ_run Cert.GlobalReferenceIdeal.defs _ _).mono (fun _ h c => ?_) (Cert.GlobalReferenceIdeal.Value.run (F := Ideal) m' ρ')
    obtain ⟨h0, h1, h2⟩ := hm c
    obtain ⟨e0, e1, e2⟩ := h c
    refine ⟨e0.trans ((Cert.GlobalReferenceIdeal.Call.num_eq _ _ _).trans ?_), e1.trans ((Cert.GlobalReferenceIdeal.Call.den_eq _ _).trans ?_), e2⟩
    · rw [h0, h1, h2]
    · rw [h0, h1]

/-- The local call. -/
theorem frame_localReference : Cert.quiescent_LocalReferenceIdeal := fun m ρ _ =>
  (θ_run Cert.LocalReferenceIdeal.defs _ _).mono (fun r h => ⟨fun c => (h c).2.2, Idealize.ShloMosaic.sem_eq_zero_of_no_sems (by decide) r.2⟩)
    (Cert.LocalReferenceIdeal.Value.run (F := Ideal) m ρ)

theorem value_local : Cert.algebraic_LocalIdeal_LocalReferenceIdeal := by
  intro m ρ m' ρ' _ hm
  refine ⟨Cert.LocalReferenceIdeal.Call.nums (m' (((0 : Dev Cert.LocalReferenceIdeal.nD).tc : Thread Cert.LocalReferenceIdeal.nD Cert.LocalReferenceIdeal.τ).loc Cert.LocalReferenceIdeal.main_arg0))
      (m' (((0 : Dev Cert.LocalReferenceIdeal.nD).tc : Thread Cert.LocalReferenceIdeal.nD Cert.LocalReferenceIdeal.τ).loc Cert.LocalReferenceIdeal.main_arg1))
      (m' (((0 : Dev Cert.LocalReferenceIdeal.nD).tc : Thread Cert.LocalReferenceIdeal.nD Cert.LocalReferenceIdeal.τ).loc Cert.LocalReferenceIdeal.main_arg2)),
    Cert.LocalReferenceIdeal.Call.dens (m' (((0 : Dev Cert.LocalReferenceIdeal.nD).tc : Thread Cert.LocalReferenceIdeal.nD Cert.LocalReferenceIdeal.τ).loc Cert.LocalReferenceIdeal.main_arg0))
      (m' (((0 : Dev Cert.LocalReferenceIdeal.nD).tc : Thread Cert.LocalReferenceIdeal.nD Cert.LocalReferenceIdeal.τ).loc Cert.LocalReferenceIdeal.main_arg1)), ?_, ?_⟩
  · refine (θ_run Cert.LocalIdeal.defs _ _).mono (fun _ h c => ?_) (Cert.LocalIdeal.Value.run_blocks (F := Ideal) m ρ)
    obtain ⟨h0, h1, h2⟩ := hm c
    obtain ⟨e0, e1, e2⟩ := h c
    refine ⟨e0.trans ((Cert.LocalIdeal.Call.final3 m c).trans ?_), e1.trans ((Cert.LocalIdeal.Call.final4 m c).trans ?_), e2⟩
    · rw [h0, h1, h2]
      exact Cert.LocalReferenceIdeal.Call.num_block _ _ _ c
    · rw [h0, h1]
      exact Cert.LocalReferenceIdeal.Call.den_block _ _ c
  · exact (θ_run Cert.LocalReferenceIdeal.defs _ _).mono (fun _ h => h 0) (Cert.LocalReferenceIdeal.Value.run (F := Ideal) m' ρ')

theorem claim : Cert.Claim :=
  ⟨Cert.Kernel.Gen.facts, Cert.KernelIdeal.Gen.facts, Cert.ReferenceIdeal.Gen.facts,
    Cert.Query.Gen.facts, Cert.QueryIdeal.Gen.facts, Cert.QueryReferenceIdeal.Gen.facts,
    Cert.Global.Gen.facts, Cert.GlobalIdeal.Gen.facts, Cert.GlobalReferenceIdeal.Gen.facts,
    Cert.Local.Gen.facts, Cert.LocalIdeal.Gen.facts, Cert.LocalReferenceIdeal.Gen.facts,
    frame_kernel, frame_kernelIdeal, frame_reference,
    fun m ρ _ => Cert.Query.Gen.frame m ρ, fun m ρ _ => Cert.QueryIdeal.Gen.frame m ρ, frame_queryReference,
    fun m ρ _ => Cert.Global.Gen.frame m ρ, fun m ρ _ => Cert.GlobalIdeal.Gen.frame m ρ, frame_globalReference,
    fun m ρ _ => Cert.Local.Gen.frame m ρ, fun m ρ _ => Cert.LocalIdeal.Gen.frame m ρ, frame_localReference,
    trivial, value, trivial, value_query, trivial, value_global, trivial, value_local⟩

end Cert.Proof

end
